-- ==== Defs.lean ====
def Pre_SbPrompt (m : (ℓ : Loc Cert.SbPrompt.nD Cert.SbPrompt.τ Cert.SbPrompt.sig) → Buf (Elt Bits) ℓ) : Prop :=
  True

def Pre_SbPromptIdeal [hPre_finite_qk : Cert.Pre_finite_qk.Facts] (m : (ℓ : Loc Cert.SbPromptIdeal.nD Cert.SbPromptIdeal.τ Cert.SbPromptIdeal.sig) → Buf (Elt Ideal) ℓ) : Prop :=
  ∀ c : Dev Cert.SbPromptIdeal.nD,
    (Cert.Pre_finite_qk.fn (F := Ideal) (m ((c.tc : Thread Cert.SbPromptIdeal.nD Cert.SbPromptIdeal.τ).loc Cert.SbPromptIdeal.main_arg0)) (m ((c.tc : Thread Cert.SbPromptIdeal.nD Cert.SbPromptIdeal.τ).loc Cert.SbPromptIdeal.main_arg1)) (m ((c.tc : Thread Cert.SbPromptIdeal.nD Cert.SbPromptIdeal.τ).loc Cert.SbPromptIdeal.main_arg2))) = (fun _ => 1#1)

def Pre_SbPromptIdeal_none (m : (ℓ : Loc Cert.SbPromptIdeal.nD Cert.SbPromptIdeal.τ Cert.SbPromptIdeal.sig) → Buf (Elt Ideal) ℓ) : Prop :=
  True

def Pre_SbReferenceIdeal [hPre_finite_qk : Cert.Pre_finite_qk.Facts] (m : (ℓ : Loc Cert.SbReferenceIdeal.nD Cert.SbReferenceIdeal.τ Cert.SbReferenceIdeal.sig) → Buf (Elt Ideal) ℓ) : Prop :=
  ∀ c : Dev Cert.SbReferenceIdeal.nD,
    (Cert.Pre_finite_qk.fn (F := Ideal) (m ((c.tc : Thread Cert.SbReferenceIdeal.nD Cert.SbReferenceIdeal.τ).loc Cert.SbReferenceIdeal.main_arg0)) (m ((c.tc : Thread Cert.SbReferenceIdeal.nD Cert.SbReferenceIdeal.τ).loc Cert.SbReferenceIdeal.main_arg1)) (m ((c.tc : Thread Cert.SbReferenceIdeal.nD Cert.SbReferenceIdeal.τ).loc Cert.SbReferenceIdeal.main_arg2))) = (fun _ => 1#1)

def Pre_MlaPrompt (m : (ℓ : Loc Cert.MlaPrompt.nD Cert.MlaPrompt.τ Cert.MlaPrompt.sig) → Buf (Elt Bits) ℓ) : Prop :=
  True

def Pre_MlaPromptIdeal [hPre_finite_mla : Cert.Pre_finite_mla.Facts] (m : (ℓ : Loc Cert.MlaPromptIdeal.nD Cert.MlaPromptIdeal.τ Cert.MlaPromptIdeal.sig) → Buf (Elt Ideal) ℓ) : Prop :=
  ∀ c : Dev Cert.MlaPromptIdeal.nD,
    (Cert.Pre_finite_mla.fn (F := Ideal) (m ((c.tc : Thread Cert.MlaPromptIdeal.nD Cert.MlaPromptIdeal.τ).loc Cert.MlaPromptIdeal.main_arg0)) (m ((c.tc : Thread Cert.MlaPromptIdeal.nD Cert.MlaPromptIdeal.τ).loc Cert.MlaPromptIdeal.main_arg1)) (m ((c.tc : Thread Cert.MlaPromptIdeal.nD Cert.MlaPromptIdeal.τ).loc Cert.MlaPromptIdeal.main_arg2)) (m ((c.tc : Thread Cert.MlaPromptIdeal.nD Cert.MlaPromptIdeal.τ).loc Cert.MlaPromptIdeal.main_arg3)) (m ((c.tc : Thread Cert.MlaPromptIdeal.nD Cert.MlaPromptIdeal.τ).loc Cert.MlaPromptIdeal.main_arg4))) = (fun _ => 1#1)

def Pre_MlaPromptIdeal_none (m : (ℓ : Loc Cert.MlaPromptIdeal.nD Cert.MlaPromptIdeal.τ Cert.MlaPromptIdeal.sig) → Buf (Elt Ideal) ℓ) : Prop :=
  True

def Pre_MlaReferenceIdeal [hPre_finite_mla : Cert.Pre_finite_mla.Facts] (m : (ℓ : Loc Cert.MlaReferenceIdeal.nD Cert.MlaReferenceIdeal.τ Cert.MlaReferenceIdeal.sig) → Buf (Elt Ideal) ℓ) : Prop :=
  ∀ c : Dev Cert.MlaReferenceIdeal.nD,
    (Cert.Pre_finite_mla.fn (F := Ideal) (m ((c.tc : Thread Cert.MlaReferenceIdeal.nD Cert.MlaReferenceIdeal.τ).loc Cert.MlaReferenceIdeal.main_arg0)) (m ((c.tc : Thread Cert.MlaReferenceIdeal.nD Cert.MlaReferenceIdeal.τ).loc Cert.MlaReferenceIdeal.main_arg1)) (m ((c.tc : Thread Cert.MlaReferenceIdeal.nD Cert.MlaReferenceIdeal.τ).loc Cert.MlaReferenceIdeal.main_arg2)) (m ((c.tc : Thread Cert.MlaReferenceIdeal.nD Cert.MlaReferenceIdeal.τ).loc Cert.MlaReferenceIdeal.main_arg3)) (m ((c.tc : Thread Cert.MlaReferenceIdeal.nD Cert.MlaReferenceIdeal.τ).loc Cert.MlaReferenceIdeal.main_arg4))) = (fun _ => 1#1)

def Pre_Moe [hPre_experts_in_range : Cert.Pre_experts_in_range.Facts] (m : (ℓ : Loc Cert.Moe.nD Cert.Moe.τ Cert.Moe.sig) → Buf (Elt Bits) ℓ) : Prop :=
  ∀ c : Dev Cert.Moe.nD,
    (Cert.Pre_experts_in_range.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5)) (m ((c.tc : Thread Cert.Moe.nD Cert.Moe.τ).loc Cert.Moe.main_arg6))) = (fun _ => 1#1)

def Pre_MoeIdeal [hPre_experts_in_range : Cert.Pre_experts_in_range.Facts] (m : (ℓ : Loc Cert.MoeIdeal.nD Cert.MoeIdeal.τ Cert.MoeIdeal.sig) → Buf (Elt Ideal) ℓ) : Prop :=
  ∀ c : Dev Cert.MoeIdeal.nD,
    (Cert.Pre_experts_in_range.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))) = (fun _ => 1#1)

def Pre_MoeReferenceIdeal [hPre_experts_in_range : Cert.Pre_experts_in_range.Facts] (m : (ℓ : Loc Cert.MoeReferenceIdeal.nD Cert.MoeReferenceIdeal.τ Cert.MoeReferenceIdeal.sig) → Buf (Elt Ideal) ℓ) : Prop :=
  ∀ c : Dev Cert.MoeReferenceIdeal.nD,
    (Cert.Pre_experts_in_range.fn (F := Ideal) (m ((c.tc : Thread Cert.MoeReferenceIdeal.nD Cert.MoeReferenceIdeal.τ).loc Cert.MoeReferenceIdeal.main_arg0)) (m ((c.tc : Thread Cert.MoeReferenceIdeal.nD Cert.MoeReferenceIdeal.τ).loc Cert.MoeReferenceIdeal.main_arg1)) (m ((c.tc : Thread Cert.MoeReferenceIdeal.nD Cert.MoeReferenceIdeal.τ).loc Cert.MoeReferenceIdeal.main_arg2)) (m ((c.tc : Thread Cert.MoeReferenceIdeal.nD Cert.MoeReferenceIdeal.τ).loc Cert.MoeReferenceIdeal.main_arg3)) (m ((c.tc : Thread Cert.MoeReferenceIdeal.nD Cert.MoeReferenceIdeal.τ).loc Cert.MoeReferenceIdeal.main_arg4)) (m ((c.tc : Thread Cert.MoeReferenceIdeal.nD Cert.MoeReferenceIdeal.τ).loc Cert.MoeReferenceIdeal.main_arg5)) (m ((c.tc : Thread Cert.MoeReferenceIdeal.nD Cert.MoeReferenceIdeal.τ).loc Cert.MoeReferenceIdeal.main_arg6))) = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojReferenceIdeal (m : (ℓ : Loc Cert.InprojReferenceIdeal.nD Cert.InprojReferenceIdeal.τ Cert.InprojReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal [hPre_finite_out : Cert.Pre_finite_out.Facts] (m : (ℓ : Loc Cert.OutprojIdeal.nD Cert.OutprojIdeal.τ Cert.OutprojIdeal.sig) → Buf (Elt Ideal) ℓ) : Prop :=
  ∀ c : Dev Cert.OutprojIdeal.nD,
    (Cert.Pre_finite_out.fn (F := Ideal) (m ((c.tc : Thread Cert.OutprojIdeal.nD Cert.OutprojIdeal.τ).loc Cert.OutprojIdeal.main_arg0)) (m ((c.tc : Thread Cert.OutprojIdeal.nD Cert.OutprojIdeal.τ).loc Cert.OutprojIdeal.main_arg1)) (m ((c.tc : Thread Cert.OutprojIdeal.nD Cert.OutprojIdeal.τ).loc Cert.OutprojIdeal.main_arg2)) (m ((c.tc : Thread Cert.OutprojIdeal.nD Cert.OutprojIdeal.τ).loc Cert.OutprojIdeal.main_arg3)) (m ((c.tc : Thread Cert.OutprojIdeal.nD Cert.OutprojIdeal.τ).loc Cert.OutprojIdeal.main_arg4)) (m ((c.tc : Thread Cert.OutprojIdeal.nD Cert.OutprojIdeal.τ).loc Cert.OutprojIdeal.main_arg5))) = (fun _ => 1#1)

def Pre_OutprojIdeal_none (m : (ℓ : Loc Cert.OutprojIdeal.nD Cert.OutprojIdeal.τ Cert.OutprojIdeal.sig) → Buf (Elt Ideal) ℓ) : Prop :=
  True

def Pre_OutprojReferenceIdeal [hPre_finite_out : Cert.Pre_finite_out.Facts] (m : (ℓ : Loc Cert.OutprojReferenceIdeal.nD Cert.OutprojReferenceIdeal.τ Cert.OutprojReferenceIdeal.sig) → Buf (Elt Ideal) ℓ) : Prop :=
  ∀ c : Dev Cert.OutprojReferenceIdeal.nD,
    (Cert.Pre_finite_out.fn (F := Ideal) (m ((c.tc : Thread Cert.OutprojReferenceIdeal.nD Cert.OutprojReferenceIdeal.τ).loc Cert.OutprojReferenceIdeal.main_arg0)) (m ((c.tc : Thread Cert.OutprojReferenceIdeal.nD Cert.OutprojReferenceIdeal.τ).loc Cert.OutprojReferenceIdeal.main_arg1)) (m ((c.tc : Thread Cert.OutprojReferenceIdeal.nD Cert.OutprojReferenceIdeal.τ).loc Cert.OutprojReferenceIdeal.main_arg2)) (m ((c.tc : Thread Cert.OutprojReferenceIdeal.nD Cert.OutprojReferenceIdeal.τ).loc Cert.OutprojReferenceIdeal.main_arg3)) (m ((c.tc : Thread Cert.OutprojReferenceIdeal.nD Cert.OutprojReferenceIdeal.τ).loc Cert.OutprojReferenceIdeal.main_arg4)) (m ((c.tc : Thread Cert.OutprojReferenceIdeal.nD Cert.OutprojReferenceIdeal.τ).loc Cert.OutprojReferenceIdeal.main_arg5))) = (fun _ => 1#1)

def Pre_Uv (m : (ℓ : Loc Cert.Uv.nD Cert.Uv.τ Cert.Uv.sig) → Buf (Elt Bits) ℓ) : Prop :=
  True

def Pre_UvIdeal (m : (ℓ : Loc Cert.UvIdeal.nD Cert.UvIdeal.τ Cert.UvIdeal.sig) → Buf (Elt Ideal) ℓ) : Prop :=
  True

def Pre_UvReferenceIdeal (m : (ℓ : Loc Cert.UvReferenceIdeal.nD Cert.UvReferenceIdeal.τ Cert.UvReferenceIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalReferenceIdeal (m : (ℓ : Loc Cert.FinalReferenceIdeal.nD Cert.FinalReferenceIdeal.τ Cert.FinalReferenceIdeal.sig) → Buf (Elt Ideal) ℓ) : Prop :=
  True

def quiescent_SbPrompt [hSbPrompt : Cert.SbPrompt.Facts] : Prop :=
  ∀ (m : (ℓ : Loc Cert.SbPrompt.nD Cert.SbPrompt.τ Cert.SbPrompt.sig) → Buf (Elt Bits) ℓ) (g : Dev Cert.SbPrompt.nD → PrngReg), Pre_SbPrompt m →
    θ_run (Cert.SbPrompt.defs (F := Bits)) (onTc (τ := Cert.SbPrompt.τ) (Cert.SbPrompt.main (F := Bits))) ⟨m, fun _ => 0, g⟩ (fun r => (∀ c : Dev Cert.SbPrompt.nD,
      r.2.mem ((c.tc : Thread Cert.SbPrompt.nD Cert.SbPrompt.τ).loc Cert.SbPrompt.main_arg0) = m ((c.tc : Thread Cert.SbPrompt.nD Cert.SbPrompt.τ).loc Cert.SbPrompt.main_arg0)
      ∧ r.2.mem ((c.tc : Thread Cert.SbPrompt.nD Cert.SbPrompt.τ).loc Cert.SbPrompt.main_arg1) = m ((c.tc : Thread Cert.SbPrompt.nD Cert.SbPrompt.τ).loc Cert.SbPrompt.main_arg1)
      ∧ r.2.mem ((c.tc : Thread Cert.SbPrompt.nD Cert.SbPrompt.τ).loc Cert.SbPrompt.main_arg2) = m ((c.tc : Thread Cert.SbPrompt.nD Cert.SbPrompt.τ).loc Cert.SbPrompt.main_arg2))
      ∧ r.2.sem = fun _ => 0)

def quiescent_SbPromptIdeal [hSbPromptIdeal : Cert.SbPromptIdeal.Facts] [hPre_finite_qk : Cert.Pre_finite_qk.Facts] : Prop :=
  ∀ (m : (ℓ : Loc Cert.SbPromptIdeal.nD Cert.SbPromptIdeal.τ Cert.SbPromptIdeal.sig) → Buf (Elt Ideal) ℓ) (g : Dev Cert.SbPromptIdeal.nD → PrngReg), Pre_SbPromptIdeal m →
    θ_run (Cert.SbPromptIdeal.defs (F := Ideal)) (onTc (τ := Cert.SbPromptIdeal.τ) (Cert.SbPromptIdeal.main (F := Ideal))) ⟨m, fun _ => 0, g⟩ (fun r => (∀ c : Dev Cert.SbPromptIdeal.nD,
      r.2.mem ((c.tc : Thread Cert.SbPromptIdeal.nD Cert.SbPromptIdeal.τ).loc Cert.SbPromptIdeal.main_arg0) = m ((c.tc : Thread Cert.SbPromptIdeal.nD Cert.SbPromptIdeal.τ).loc Cert.SbPromptIdeal.main_arg0)
      ∧ r.2.mem ((c.tc : Thread Cert.SbPromptIdeal.nD Cert.SbPromptIdeal.τ).loc Cert.SbPromptIdeal.main_arg1) = m ((c.tc : Thread Cert.SbPromptIdeal.nD Cert.SbPromptIdeal.τ).loc Cert.SbPromptIdeal.main_arg1)
      ∧ r.2.mem ((c.tc : Thread Cert.SbPromptIdeal.nD Cert.SbPromptIdeal.τ).loc Cert.SbPromptIdeal.main_arg2) = m ((c.tc : Thread Cert.SbPromptIdeal.nD Cert.SbPromptIdeal.τ).loc Cert.SbPromptIdeal.main_arg2))
      ∧ r.2.sem = fun _ => 0)

def quiescent_SbPromptIdeal_pre_none [hSbPromptIdeal : Cert.SbPromptIdeal.Facts] : Prop :=
  ∀ (m : (ℓ : Loc Cert.SbPromptIdeal.nD Cert.SbPromptIdeal.τ Cert.SbPromptIdeal.sig) → Buf (Elt Ideal) ℓ) (g : Dev Cert.SbPromptIdeal.nD → PrngReg), Pre_SbPromptIdeal_none m →
    θ_run (Cert.SbPromptIdeal.defs (F := Ideal)) (onTc (τ := Cert.SbPromptIdeal.τ) (Cert.SbPromptIdeal.main (F := Ideal))) ⟨m, fun _ => 0, g⟩ (fun r => (∀ c : Dev Cert.SbPromptIdeal.nD,
      r.2.mem ((c.tc : Thread Cert.SbPromptIdeal.nD Cert.SbPromptIdeal.τ).loc Cert.SbPromptIdeal.main_arg0) = m ((c.tc : Thread Cert.SbPromptIdeal.nD Cert.SbPromptIdeal.τ).loc Cert.SbPromptIdeal.main_arg0)
      ∧ r.2.mem ((c.tc : Thread Cert.SbPromptIdeal.nD Cert.SbPromptIdeal.τ).loc Cert.SbPromptIdeal.main_arg1) = m ((c.tc : Thread Cert.SbPromptIdeal.nD Cert.SbPromptIdeal.τ).loc Cert.SbPromptIdeal.main_arg1)
      ∧ r.2.mem ((c.tc : Thread Cert.SbPromptIdeal.nD Cert.SbPromptIdeal.τ).loc Cert.SbPromptIdeal.main_arg2) = m ((c.tc : Thread Cert.SbPromptIdeal.nD Cert.SbPromptIdeal.τ).loc Cert.SbPromptIdeal.main_arg2))
      ∧ r.2.sem = fun _ => 0)

def quiescent_SbReferenceIdeal [hSbReferenceIdeal : Cert.SbReferenceIdeal.Facts] [hPre_finite_qk : Cert.Pre_finite_qk.Facts] : Prop :=
  ∀ (m : (ℓ : Loc Cert.SbReferenceIdeal.nD Cert.SbReferenceIdeal.τ Cert.SbReferenceIdeal.sig) → Buf (Elt Ideal) ℓ) (g : Dev Cert.SbReferenceIdeal.nD → PrngReg), Pre_SbReferenceIdeal m →
    θ_run (Cert.SbReferenceIdeal.defs (F := Ideal)) (onTc (τ := Cert.SbReferenceIdeal.τ) (Cert.SbReferenceIdeal.main (F := Ideal))) ⟨m, fun _ => 0, g⟩ (fun r => (∀ c : Dev Cert.SbReferenceIdeal.nD,
      r.2.mem ((c.tc : Thread Cert.SbReferenceIdeal.nD Cert.SbReferenceIdeal.τ).loc Cert.SbReferenceIdeal.main_arg0) = m ((c.tc : Thread Cert.SbReferenceIdeal.nD Cert.SbReferenceIdeal.τ).loc Cert.SbReferenceIdeal.main_arg0)
      ∧ r.2.mem ((c.tc : Thread Cert.SbReferenceIdeal.nD Cert.SbReferenceIdeal.τ).loc Cert.SbReferenceIdeal.main_arg1) = m ((c.tc : Thread Cert.SbReferenceIdeal.nD Cert.SbReferenceIdeal.τ).loc Cert.SbReferenceIdeal.main_arg1)
      ∧ r.2.mem ((c.tc : Thread Cert.SbReferenceIdeal.nD Cert.SbReferenceIdeal.τ).loc Cert.SbReferenceIdeal.main_arg2) = m ((c.tc : Thread Cert.SbReferenceIdeal.nD Cert.SbReferenceIdeal.τ).loc Cert.SbReferenceIdeal.main_arg2))
      ∧ r.2.sem = fun _ => 0)

def quiescent_MlaPrompt [hMlaPrompt : Cert.MlaPrompt.Facts] : Prop :=
  ∀ (m : (ℓ : Loc Cert.MlaPrompt.nD Cert.MlaPrompt.τ Cert.MlaPrompt.sig) → Buf (Elt Bits) ℓ) (g : Dev Cert.MlaPrompt.nD → PrngReg), Pre_MlaPrompt m →
    θ_run (Cert.MlaPrompt.defs (F := Bits)) (onTc (τ := Cert.MlaPrompt.τ) (Cert.MlaPrompt.main (F := Bits))) ⟨m, fun _ => 0, g⟩ (fun r => (∀ c : Dev Cert.MlaPrompt.nD,
      r.2.mem ((c.tc : Thread Cert.MlaPrompt.nD Cert.MlaPrompt.τ).loc Cert.MlaPrompt.main_arg0) = m ((c.tc : Thread Cert.MlaPrompt.nD Cert.MlaPrompt.τ).loc Cert.MlaPrompt.main_arg0)
      ∧ r.2.mem ((c.tc : Thread Cert.MlaPrompt.nD Cert.MlaPrompt.τ).loc Cert.MlaPrompt.main_arg1) = m ((c.tc : Thread Cert.MlaPrompt.nD Cert.MlaPrompt.τ).loc Cert.MlaPrompt.main_arg1)
      ∧ r.2.mem ((c.tc : Thread Cert.MlaPrompt.nD Cert.MlaPrompt.τ).loc Cert.MlaPrompt.main_arg2) = m ((c.tc : Thread Cert.MlaPrompt.nD Cert.MlaPrompt.τ).loc Cert.MlaPrompt.main_arg2)
      ∧ r.2.mem ((c.tc : Thread Cert.MlaPrompt.nD Cert.MlaPrompt.τ).loc Cert.MlaPrompt.main_arg3) = m ((c.tc : Thread Cert.MlaPrompt.nD Cert.MlaPrompt.τ).loc Cert.MlaPrompt.main_arg3)
      ∧ r.2.mem ((c.tc : Thread Cert.MlaPrompt.nD Cert.MlaPrompt.τ).loc Cert.MlaPrompt.main_arg4) = m ((c.tc : Thread Cert.MlaPrompt.nD Cert.MlaPrompt.τ).loc Cert.MlaPrompt.main_arg4))
      ∧ r.2.sem = fun _ => 0)

def quiescent_MlaPromptIdeal [hMlaPromptIdeal : Cert.MlaPromptIdeal.Facts] [hPre_finite_mla : Cert.Pre_finite_mla.Facts] : Prop :=
  ∀ (m : (ℓ : Loc Cert.MlaPromptIdeal.nD Cert.MlaPromptIdeal.τ Cert.MlaPromptIdeal.sig) → Buf (Elt Ideal) ℓ) (g : Dev Cert.MlaPromptIdeal.nD → PrngReg), Pre_MlaPromptIdeal m →
    θ_run (Cert.MlaPromptIdeal.defs (F := Ideal)) (onTc (τ := Cert.MlaPromptIdeal.τ) (Cert.MlaPromptIdeal.main (F := Ideal))) ⟨m, fun _ => 0, g⟩ (fun r => (∀ c : Dev Cert.MlaPromptIdeal.nD,
      r.2.mem ((c.tc : Thread Cert.MlaPromptIdeal.nD Cert.MlaPromptIdeal.τ).loc Cert.MlaPromptIdeal.main_arg0) = m ((c.tc : Thread Cert.MlaPromptIdeal.nD Cert.MlaPromptIdeal.τ).loc Cert.MlaPromptIdeal.main_arg0)
      ∧ r.2.mem ((c.tc : Thread Cert.MlaPromptIdeal.nD Cert.MlaPromptIdeal.τ).loc Cert.MlaPromptIdeal.main_arg1) = m ((c.tc : Thread Cert.MlaPromptIdeal.nD Cert.MlaPromptIdeal.τ).loc Cert.MlaPromptIdeal.main_arg1)
      ∧ r.2.mem ((c.tc : Thread Cert.MlaPromptIdeal.nD Cert.MlaPromptIdeal.τ).loc Cert.MlaPromptIdeal.main_arg2) = m ((c.tc : Thread Cert.MlaPromptIdeal.nD Cert.MlaPromptIdeal.τ).loc Cert.MlaPromptIdeal.main_arg2)
      ∧ r.2.mem ((c.tc : Thread Cert.MlaPromptIdeal.nD Cert.MlaPromptIdeal.τ).loc Cert.MlaPromptIdeal.main_arg3) = m ((c.tc : Thread Cert.MlaPromptIdeal.nD Cert.MlaPromptIdeal.τ).loc Cert.MlaPromptIdeal.main_arg3)
      ∧ r.2.mem ((c.tc : Thread Cert.MlaPromptIdeal.nD Cert.MlaPromptIdeal.τ).loc Cert.MlaPromptIdeal.main_arg4) = m ((c.tc : Thread Cert.MlaPromptIdeal.nD Cert.MlaPromptIdeal.τ).loc Cert.MlaPromptIdeal.main_arg4))
      ∧ r.2.sem = fun _ => 0)

def quiescent_MlaPromptIdeal_pre_none [hMlaPromptIdeal : Cert.MlaPromptIdeal.Facts] : Prop :=
  ∀ (m : (ℓ : Loc Cert.MlaPromptIdeal.nD Cert.MlaPromptIdeal.τ Cert.MlaPromptIdeal.sig) → Buf (Elt Ideal) ℓ) (g : Dev Cert.MlaPromptIdeal.nD → PrngReg), Pre_MlaPromptIdeal_none m →
    θ_run (Cert.MlaPromptIdeal.defs (F := Ideal)) (onTc (τ := Cert.MlaPromptIdeal.τ) (Cert.MlaPromptIdeal.main (F := Ideal))) ⟨m, fun _ => 0, g⟩ (fun r => (∀ c : Dev Cert.MlaPromptIdeal.nD,
      r.2.mem ((c.tc : Thread Cert.MlaPromptIdeal.nD Cert.MlaPromptIdeal.τ).loc Cert.MlaPromptIdeal.main_arg0) = m ((c.tc : Thread Cert.MlaPromptIdeal.nD Cert.MlaPromptIdeal.τ).loc Cert.MlaPromptIdeal.main_arg0)
      ∧ r.2.mem ((c.tc : Thread Cert.MlaPromptIdeal.nD Cert.MlaPromptIdeal.τ).loc Cert.MlaPromptIdeal.main_arg1) = m ((c.tc : Thread Cert.MlaPromptIdeal.nD Cert.MlaPromptIdeal.τ).loc Cert.MlaPromptIdeal.main_arg1)
      ∧ r.2.mem ((c.tc : Thread Cert.MlaPromptIdeal.nD Cert.MlaPromptIdeal.τ).loc Cert.MlaPromptIdeal.main_arg2) = m ((c.tc : Thread Cert.MlaPromptIdeal.nD Cert.MlaPromptIdeal.τ).loc Cert.MlaPromptIdeal.main_arg2)
      ∧ r.2.mem ((c.tc : Thread Cert.MlaPromptIdeal.nD Cert.MlaPromptIdeal.τ).loc Cert.MlaPromptIdeal.main_arg3) = m ((c.tc : Thread Cert.MlaPromptIdeal.nD Cert.MlaPromptIdeal.τ).loc Cert.MlaPromptIdeal.main_arg3)
      ∧ r.2.mem ((c.tc : Thread Cert.MlaPromptIdeal.nD Cert.MlaPromptIdeal.τ).loc Cert.MlaPromptIdeal.main_arg4) = m ((c.tc : Thread Cert.MlaPromptIdeal.nD Cert.MlaPromptIdeal.τ).loc Cert.MlaPromptIdeal.main_arg4))
      ∧ r.2.sem = fun _ => 0)

def quiescent_MlaReferenceIdeal [hMlaReferenceIdeal : Cert.MlaReferenceIdeal.Facts] [hPre_finite_mla : Cert.Pre_finite_mla.Facts] : Prop :=
  ∀ (m : (ℓ : Loc Cert.MlaReferenceIdeal.nD Cert.MlaReferenceIdeal.τ Cert.MlaReferenceIdeal.sig) → Buf (Elt Ideal) ℓ) (g : Dev Cert.MlaReferenceIdeal.nD → PrngReg), Pre_MlaReferenceIdeal m →
    θ_run (Cert.MlaReferenceIdeal.defs (F := Ideal)) (onTc (τ := Cert.MlaReferenceIdeal.τ) (Cert.MlaReferenceIdeal.main (F := Ideal))) ⟨m, fun _ => 0, g⟩ (fun r => (∀ c : Dev Cert.MlaReferenceIdeal.nD,
      r.2.mem ((c.tc : Thread Cert.MlaReferenceIdeal.nD Cert.MlaReferenceIdeal.τ).loc Cert.MlaReferenceIdeal.main_arg0) = m ((c.tc : Thread Cert.MlaReferenceIdeal.nD Cert.MlaReferenceIdeal.τ).loc Cert.MlaReferenceIdeal.main_arg0)
      ∧ r.2.mem ((c.tc : Thread Cert.MlaReferenceIdeal.nD Cert.MlaReferenceIdeal.τ).loc Cert.MlaReferenceIdeal.main_arg1) = m ((c.tc : Thread Cert.MlaReferenceIdeal.nD Cert.MlaReferenceIdeal.τ).loc Cert.MlaReferenceIdeal.main_arg1)
      ∧ r.2.mem ((c.tc : Thread Cert.MlaReferenceIdeal.nD Cert.MlaReferenceIdeal.τ).loc Cert.MlaReferenceIdeal.main_arg2) = m ((c.tc : Thread Cert.MlaReferenceIdeal.nD Cert.MlaReferenceIdeal.τ).loc Cert.MlaReferenceIdeal.main_arg2)
      ∧ r.2.mem ((c.tc : Thread Cert.MlaReferenceIdeal.nD Cert.MlaReferenceIdeal.τ).loc Cert.MlaReferenceIdeal.main_arg3) = m ((c.tc : Thread Cert.MlaReferenceIdeal.nD Cert.MlaReferenceIdeal.τ).loc Cert.MlaReferenceIdeal.main_arg3)
      ∧ r.2.mem ((c.tc : Thread Cert.MlaReferenceIdeal.nD Cert.MlaReferenceIdeal.τ).loc Cert.MlaReferenceIdeal.main_arg4) = m ((c.tc : Thread Cert.MlaReferenceIdeal.nD Cert.MlaReferenceIdeal.τ).loc Cert.MlaReferenceIdeal.main_arg4))
      ∧ r.2.sem = fun _ => 0)

def quiescent_Moe [hMoe : Cert.Moe.Facts] [hPre_experts_in_range : Cert.Pre_experts_in_range.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6))
      ∧ r.2.sem = fun _ => 0)

def quiescent_MoeIdeal [hMoeIdeal : Cert.MoeIdeal.Facts] [hPre_experts_in_range : Cert.Pre_experts_in_range.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ r.2.sem = fun _ => 0)

def quiescent_MoeReferenceIdeal [hMoeReferenceIdeal : Cert.MoeReferenceIdeal.Facts] [hPre_experts_in_range : Cert.Pre_experts_in_range.Facts] : Prop :=
  ∀ (m : (ℓ : Loc Cert.MoeReferenceIdeal.nD Cert.MoeReferenceIdeal.τ Cert.MoeReferenceIdeal.sig) → Buf (Elt Ideal) ℓ) (g : Dev Cert.MoeReferenceIdeal.nD → PrngReg), Pre_MoeReferenceIdeal m →
    θ_run (Cert.MoeReferenceIdeal.defs (F := Ideal)) (onTc (τ := Cert.MoeReferenceIdeal.τ) (Cert.MoeReferenceIdeal.main (F := Ideal))) ⟨m, fun _ => 0, g⟩ (fun r => (∀ c : Dev Cert.MoeReferenceIdeal.nD,
      r.2.mem ((c.tc : Thread Cert.MoeReferenceIdeal.nD Cert.MoeReferenceIdeal.τ).loc Cert.MoeReferenceIdeal.main_arg0) = m ((c.tc : Thread Cert.MoeReferenceIdeal.nD Cert.MoeReferenceIdeal.τ).loc Cert.MoeReferenceIdeal.main_arg0)
      ∧ r.2.mem ((c.tc : Thread Cert.MoeReferenceIdeal.nD Cert.MoeReferenceIdeal.τ).loc Cert.MoeReferenceIdeal.main_arg1) = m ((c.tc : Thread Cert.MoeReferenceIdeal.nD Cert.MoeReferenceIdeal.τ).loc Cert.MoeReferenceIdeal.main_arg1)
      ∧ r.2.mem ((c.tc : Thread Cert.MoeReferenceIdeal.nD Cert.MoeReferenceIdeal.τ).loc Cert.MoeReferenceIdeal.main_arg2) = m ((c.tc : Thread Cert.MoeReferenceIdeal.nD Cert.MoeReferenceIdeal.τ).loc Cert.MoeReferenceIdeal.main_arg2)
      ∧ r.2.mem ((c.tc : Thread Cert.MoeReferenceIdeal.nD Cert.MoeReferenceIdeal.τ).loc Cert.MoeReferenceIdeal.main_arg3) = m ((c.tc : Thread Cert.MoeReferenceIdeal.nD Cert.MoeReferenceIdeal.τ).loc Cert.MoeReferenceIdeal.main_arg3)
      ∧ r.2.mem ((c.tc : Thread Cert.MoeReferenceIdeal.nD Cert.MoeReferenceIdeal.τ).loc Cert.MoeReferenceIdeal.main_arg4) = m ((c.tc : Thread Cert.MoeReferenceIdeal.nD Cert.MoeReferenceIdeal.τ).loc Cert.MoeReferenceIdeal.main_arg4)
      ∧ r.2.mem ((c.tc : Thread Cert.MoeReferenceIdeal.nD Cert.MoeReferenceIdeal.τ).loc Cert.MoeReferenceIdeal.main_arg5) = m ((c.tc : Thread Cert.MoeReferenceIdeal.nD Cert.MoeReferenceIdeal.τ).loc Cert.MoeReferenceIdeal.main_arg5)
      ∧ r.2.mem ((c.tc : Thread Cert.MoeReferenceIdeal.nD Cert.MoeReferenceIdeal.τ).loc Cert.MoeReferenceIdeal.main_arg6) = m ((c.tc : Thread Cert.MoeReferenceIdeal.nD Cert.MoeReferenceIdeal.τ).loc Cert.MoeReferenceIdeal.main_arg6))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3)
      ∧ r.2.mem ((c.tc : Thread Cert.Outproj.nD Cert.Outproj.τ).loc Cert.Outproj.main_arg4) = m ((c.tc : Thread Cert.Outproj.nD Cert.Outproj.τ).loc Cert.Outproj.main_arg4)
      ∧ r.2.mem ((c.tc : Thread Cert.Outproj.nD Cert.Outproj.τ).loc Cert.Outproj.main_arg5) = m ((c.tc : Thread Cert.Outproj.nD Cert.Outproj.τ).loc Cert.Outproj.main_arg5))
      ∧ r.2.sem = fun _ => 0)

def quiescent_OutprojIdeal [hOutprojIdeal : Cert.OutprojIdeal.Facts] [hPre_finite_out : Cert.Pre_finite_out.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
      ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5))
      ∧ r.2.sem = fun _ => 0)

def quiescent_OutprojIdeal_pre_none [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal_none m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
      ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5))
      ∧ r.2.sem = fun _ => 0)

def quiescent_OutprojReferenceIdeal [hOutprojReferenceIdeal : Cert.OutprojReferenceIdeal.Facts] [hPre_finite_out : Cert.Pre_finite_out.Facts] : Prop :=
  ∀ (m : (ℓ : Loc Cert.OutprojReferenceIdeal.nD Cert.OutprojReferenceIdeal.τ Cert.OutprojReferenceIdeal.sig) → Buf (Elt Ideal) ℓ) (g : Dev Cert.OutprojReferenceIdeal.nD → PrngReg), Pre_OutprojReferenceIdeal m →
    θ_run (Cert.OutprojReferenceIdeal.defs (F := Ideal)) (onTc (τ := Cert.OutprojReferenceIdeal.τ) (Cert.OutprojReferenceIdeal.main (F := Ideal))) ⟨m, fun _ => 0, g⟩ (fun r => (∀ c : Dev Cert.OutprojReferenceIdeal.nD,
      r.2.mem ((c.tc : Thread Cert.OutprojReferenceIdeal.nD Cert.OutprojReferenceIdeal.τ).loc Cert.OutprojReferenceIdeal.main_arg0) = m ((c.tc : Thread Cert.OutprojReferenceIdeal.nD Cert.OutprojReferenceIdeal.τ).loc Cert.OutprojReferenceIdeal.main_arg0)
      ∧ r.2.mem ((c.tc : Thread Cert.OutprojReferenceIdeal.nD Cert.OutprojReferenceIdeal.τ).loc Cert.OutprojReferenceIdeal.main_arg1) = m ((c.tc : Thread Cert.OutprojReferenceIdeal.nD Cert.OutprojReferenceIdeal.τ).loc Cert.OutprojReferenceIdeal.main_arg1)
      ∧ r.2.mem ((c.tc : Thread Cert.OutprojReferenceIdeal.nD Cert.OutprojReferenceIdeal.τ).loc Cert.OutprojReferenceIdeal.main_arg2) = m ((c.tc : Thread Cert.OutprojReferenceIdeal.nD Cert.OutprojReferenceIdeal.τ).loc Cert.OutprojReferenceIdeal.main_arg2)
      ∧ r.2.mem ((c.tc : Thread Cert.OutprojReferenceIdeal.nD Cert.OutprojReferenceIdeal.τ).loc Cert.OutprojReferenceIdeal.main_arg3) = m ((c.tc : Thread Cert.OutprojReferenceIdeal.nD Cert.OutprojReferenceIdeal.τ).loc Cert.OutprojReferenceIdeal.main_arg3)
      ∧ r.2.mem ((c.tc : Thread Cert.OutprojReferenceIdeal.nD Cert.OutprojReferenceIdeal.τ).loc Cert.OutprojReferenceIdeal.main_arg4) = m ((c.tc : Thread Cert.OutprojReferenceIdeal.nD Cert.OutprojReferenceIdeal.τ).loc Cert.OutprojReferenceIdeal.main_arg4)
      ∧ r.2.mem ((c.tc : Thread Cert.OutprojReferenceIdeal.nD Cert.OutprojReferenceIdeal.τ).loc Cert.OutprojReferenceIdeal.main_arg5) = m ((c.tc : Thread Cert.OutprojReferenceIdeal.nD Cert.OutprojReferenceIdeal.τ).loc Cert.OutprojReferenceIdeal.main_arg5))
      ∧ r.2.sem = fun _ => 0)

def quiescent_Uv [hUv : Cert.Uv.Facts] : Prop :=
  ∀ (m : (ℓ : Loc Cert.Uv.nD Cert.Uv.τ Cert.Uv.sig) → Buf (Elt Bits) ℓ) (g : Dev Cert.Uv.nD → PrngReg), Pre_Uv m →
    θ_run (Cert.Uv.defs (F := Bits)) (onTc (τ := Cert.Uv.τ) (Cert.Uv.main (F := Bits))) ⟨m, fun _ => 0, g⟩ (fun r => (∀ c : Dev Cert.Uv.nD,
      r.2.mem ((c.tc : Thread Cert.Uv.nD Cert.Uv.τ).loc Cert.Uv.main_arg0) = m ((c.tc : Thread Cert.Uv.nD Cert.Uv.τ).loc Cert.Uv.main_arg0)
      ∧ r.2.mem ((c.tc : Thread Cert.Uv.nD Cert.Uv.τ).loc Cert.Uv.main_arg1) = m ((c.tc : Thread Cert.Uv.nD Cert.Uv.τ).loc Cert.Uv.main_arg1))
      ∧ r.2.sem = fun _ => 0)

def quiescent_UvIdeal [hUvIdeal : Cert.UvIdeal.Facts] : Prop :=
  ∀ (m : (ℓ : Loc Cert.UvIdeal.nD Cert.UvIdeal.τ Cert.UvIdeal.sig) → Buf (Elt Ideal) ℓ) (g : Dev Cert.UvIdeal.nD → PrngReg), Pre_UvIdeal m →
    θ_run (Cert.UvIdeal.defs (F := Ideal)) (onTc (τ := Cert.UvIdeal.τ) (Cert.UvIdeal.main (F := Ideal))) ⟨m, fun _ => 0, g⟩ (fun r => (∀ c : Dev Cert.UvIdeal.nD,
      r.2.mem ((c.tc : Thread Cert.UvIdeal.nD Cert.UvIdeal.τ).loc Cert.UvIdeal.main_arg0) = m ((c.tc : Thread Cert.UvIdeal.nD Cert.UvIdeal.τ).loc Cert.UvIdeal.main_arg0)
      ∧ r.2.mem ((c.tc : Thread Cert.UvIdeal.nD Cert.UvIdeal.τ).loc Cert.UvIdeal.main_arg1) = m ((c.tc : Thread Cert.UvIdeal.nD Cert.UvIdeal.τ).loc Cert.UvIdeal.main_arg1))
      ∧ r.2.sem = fun _ => 0)

def quiescent_UvReferenceIdeal [hUvReferenceIdeal : Cert.UvReferenceIdeal.Facts] : Prop :=
  ∀ (m : (ℓ : Loc Cert.UvReferenceIdeal.nD Cert.UvReferenceIdeal.τ Cert.UvReferenceIdeal.sig) → Buf (Elt Ideal) ℓ) (g : Dev Cert.UvReferenceIdeal.nD → PrngReg), Pre_UvReferenceIdeal m →
    θ_run (Cert.UvReferenceIdeal.defs (F := Ideal)) (onTc (τ := Cert.UvReferenceIdeal.τ) (Cert.UvReferenceIdeal.main (F := Ideal))) ⟨m, fun _ => 0, g⟩ (fun r => (∀ c : Dev Cert.UvReferenceIdeal.nD,
      r.2.mem ((c.tc : Thread Cert.UvReferenceIdeal.nD Cert.UvReferenceIdeal.τ).loc Cert.UvReferenceIdeal.main_arg0) = m ((c.tc : Thread Cert.UvReferenceIdeal.nD Cert.UvReferenceIdeal.τ).loc Cert.UvReferenceIdeal.main_arg0)
      ∧ r.2.mem ((c.tc : Thread Cert.UvReferenceIdeal.nD Cert.UvReferenceIdeal.τ).loc Cert.UvReferenceIdeal.main_arg1) = m ((c.tc : Thread Cert.UvReferenceIdeal.nD Cert.UvReferenceIdeal.τ).loc Cert.UvReferenceIdeal.main_arg1))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3))
      ∧ r.2.sem = fun _ => 0)

def quiescent_FinalReferenceIdeal [hFinalReferenceIdeal : Cert.FinalReferenceIdeal.Facts] : Prop :=
  ∀ (m : (ℓ : Loc Cert.FinalReferenceIdeal.nD Cert.FinalReferenceIdeal.τ Cert.FinalReferenceIdeal.sig) → Buf (Elt Ideal) ℓ) (g : Dev Cert.FinalReferenceIdeal.nD → PrngReg), Pre_FinalReferenceIdeal m →
    θ_run (Cert.FinalReferenceIdeal.defs (F := Ideal)) (onTc (τ := Cert.FinalReferenceIdeal.τ) (Cert.FinalReferenceIdeal.main (F := Ideal))) ⟨m, fun _ => 0, g⟩ (fun r => (∀ c : Dev Cert.FinalReferenceIdeal.nD,
      r.2.mem ((c.tc : Thread Cert.FinalReferenceIdeal.nD Cert.FinalReferenceIdeal.τ).loc Cert.FinalReferenceIdeal.main_arg0) = m ((c.tc : Thread Cert.FinalReferenceIdeal.nD Cert.FinalReferenceIdeal.τ).loc Cert.FinalReferenceIdeal.main_arg0)
      ∧ r.2.mem ((c.tc : Thread Cert.FinalReferenceIdeal.nD Cert.FinalReferenceIdeal.τ).loc Cert.FinalReferenceIdeal.main_arg1) = m ((c.tc : Thread Cert.FinalReferenceIdeal.nD Cert.FinalReferenceIdeal.τ).loc Cert.FinalReferenceIdeal.main_arg1)
      ∧ r.2.mem ((c.tc : Thread Cert.FinalReferenceIdeal.nD Cert.FinalReferenceIdeal.τ).loc Cert.FinalReferenceIdeal.main_arg2) = m ((c.tc : Thread Cert.FinalReferenceIdeal.nD Cert.FinalReferenceIdeal.τ).loc Cert.FinalReferenceIdeal.main_arg2)
      ∧ r.2.mem ((c.tc : Thread Cert.FinalReferenceIdeal.nD Cert.FinalReferenceIdeal.τ).loc Cert.FinalReferenceIdeal.main_arg3) = m ((c.tc : Thread Cert.FinalReferenceIdeal.nD Cert.FinalReferenceIdeal.τ).loc Cert.FinalReferenceIdeal.main_arg3))
      ∧ r.2.sem = fun _ => 0)

def preserves_SbPrompt_SbPromptIdeal : Prop :=
  True

def algebraic_SbPromptIdeal_SbReferenceIdeal [hSbPromptIdeal : Cert.SbPromptIdeal.Facts] [hSbReferenceIdeal : Cert.SbReferenceIdeal.Facts] [hPre_finite_qk : Cert.Pre_finite_qk.Facts] : Prop :=
  ∀ (m : (ℓ : Loc Cert.SbPromptIdeal.nD Cert.SbPromptIdeal.τ Cert.SbPromptIdeal.sig) → Buf (Elt Ideal) ℓ) (g : Dev Cert.SbPromptIdeal.nD → PrngReg)
    (m' : (ℓ : Loc Cert.SbReferenceIdeal.nD Cert.SbReferenceIdeal.τ Cert.SbReferenceIdeal.sig) → Buf (Elt Ideal) ℓ) (g' : Dev Cert.SbReferenceIdeal.nD → PrngReg), Pre_SbPromptIdeal m →
    (∀ c : Dev Cert.SbPromptIdeal.nD,
      m' ((c.tc : Thread Cert.SbReferenceIdeal.nD Cert.SbReferenceIdeal.τ).loc Cert.SbReferenceIdeal.main_arg0) = m ((c.tc : Thread Cert.SbPromptIdeal.nD Cert.SbPromptIdeal.τ).loc Cert.SbPromptIdeal.main_arg0)
      ∧ m' ((c.tc : Thread Cert.SbReferenceIdeal.nD Cert.SbReferenceIdeal.τ).loc Cert.SbReferenceIdeal.main_arg1) = m ((c.tc : Thread Cert.SbPromptIdeal.nD Cert.SbPromptIdeal.τ).loc Cert.SbPromptIdeal.main_arg1)
      ∧ m' ((c.tc : Thread Cert.SbReferenceIdeal.nD Cert.SbReferenceIdeal.τ).loc Cert.SbReferenceIdeal.main_arg2) = m ((c.tc : Thread Cert.SbPromptIdeal.nD Cert.SbPromptIdeal.τ).loc Cert.SbPromptIdeal.main_arg2)) →
    ∃ (v0 : (c : Dev Cert.SbPromptIdeal.nD) → Buf (Elt Ideal) ((c.tc : Thread Cert.SbPromptIdeal.nD Cert.SbPromptIdeal.τ).loc Cert.SbPromptIdeal.main_v0)),
      θ_run (Cert.SbPromptIdeal.defs (F := Ideal)) (onTc (τ := Cert.SbPromptIdeal.τ) (Cert.SbPromptIdeal.main (F := Ideal))) ⟨m, fun _ => 0, g⟩ (fun r => ∀ c : Dev Cert.SbPromptIdeal.nD,
          r.2.mem ((c.tc : Thread Cert.SbPromptIdeal.nD Cert.SbPromptIdeal.τ).loc Cert.SbPromptIdeal.main_v0) = v0 c
          ∧ r.2.mem ((c.tc : Thread Cert.SbPromptIdeal.nD Cert.SbPromptIdeal.τ).loc Cert.SbPromptIdeal.main_arg0) = m ((c.tc : Thread Cert.SbPromptIdeal.nD Cert.SbPromptIdeal.τ).loc Cert.SbPromptIdeal.main_arg0)
          ∧ r.2.mem ((c.tc : Thread Cert.SbPromptIdeal.nD Cert.SbPromptIdeal.τ).loc Cert.SbPromptIdeal.main_arg1) = m ((c.tc : Thread Cert.SbPromptIdeal.nD Cert.SbPromptIdeal.τ).loc Cert.SbPromptIdeal.main_arg1)
          ∧ r.2.mem ((c.tc : Thread Cert.SbPromptIdeal.nD Cert.SbPromptIdeal.τ).loc Cert.SbPromptIdeal.main_arg2) = m ((c.tc : Thread Cert.SbPromptIdeal.nD Cert.SbPromptIdeal.τ).loc Cert.SbPromptIdeal.main_arg2))
      ∧ θ_run (Cert.SbReferenceIdeal.defs (F := Ideal)) (onTc (τ := Cert.SbReferenceIdeal.τ) (Cert.SbReferenceIdeal.main (F := Ideal))) ⟨m', fun _ => 0, g'⟩ (fun r => ∀ c : Dev Cert.SbReferenceIdeal.nD,
          r.2.mem ((c.tc : Thread Cert.SbReferenceIdeal.nD Cert.SbReferenceIdeal.τ).loc Cert.SbReferenceIdeal.main_v32) = v0 c
          ∧ r.2.mem ((c.tc : Thread Cert.SbReferenceIdeal.nD Cert.SbReferenceIdeal.τ).loc Cert.SbReferenceIdeal.main_arg0) = m' ((c.tc : Thread Cert.SbReferenceIdeal.nD Cert.SbReferenceIdeal.τ).loc Cert.SbReferenceIdeal.main_arg0)
          ∧ r.2.mem ((c.tc : Thread Cert.SbReferenceIdeal.nD Cert.SbReferenceIdeal.τ).loc Cert.SbReferenceIdeal.main_arg1) = m' ((c.tc : Thread Cert.SbReferenceIdeal.nD Cert.SbReferenceIdeal.τ).loc Cert.SbReferenceIdeal.main_arg1)
          ∧ r.2.mem ((c.tc : Thread Cert.SbReferenceIdeal.nD Cert.SbReferenceIdeal.τ).loc Cert.SbReferenceIdeal.main_arg2) = m' ((c.tc : Thread Cert.SbReferenceIdeal.nD Cert.SbReferenceIdeal.τ).loc Cert.SbReferenceIdeal.main_arg2))

def preserves_MlaPrompt_MlaPromptIdeal : Prop :=
  True

def algebraic_MlaPromptIdeal_MlaReferenceIdeal [hMlaPromptIdeal : Cert.MlaPromptIdeal.Facts] [hMlaReferenceIdeal : Cert.MlaReferenceIdeal.Facts] [hPre_finite_mla : Cert.Pre_finite_mla.Facts] : Prop :=
  ∀ (m : (ℓ : Loc Cert.MlaPromptIdeal.nD Cert.MlaPromptIdeal.τ Cert.MlaPromptIdeal.sig) → Buf (Elt Ideal) ℓ) (g : Dev Cert.MlaPromptIdeal.nD → PrngReg)
    (m' : (ℓ : Loc Cert.MlaReferenceIdeal.nD Cert.MlaReferenceIdeal.τ Cert.MlaReferenceIdeal.sig) → Buf (Elt Ideal) ℓ) (g' : Dev Cert.MlaReferenceIdeal.nD → PrngReg), Pre_MlaPromptIdeal m →
    (∀ c : Dev Cert.MlaPromptIdeal.nD,
      m' ((c.tc : Thread Cert.MlaReferenceIdeal.nD Cert.MlaReferenceIdeal.τ).loc Cert.MlaReferenceIdeal.main_arg0) = m ((c.tc : Thread Cert.MlaPromptIdeal.nD Cert.MlaPromptIdeal.τ).loc Cert.MlaPromptIdeal.main_arg0)
      ∧ m' ((c.tc : Thread Cert.MlaReferenceIdeal.nD Cert.MlaReferenceIdeal.τ).loc Cert.MlaReferenceIdeal.main_arg1) = m ((c.tc : Thread Cert.MlaPromptIdeal.nD Cert.MlaPromptIdeal.τ).loc Cert.MlaPromptIdeal.main_arg1)
      ∧ m' ((c.tc : Thread Cert.MlaReferenceIdeal.nD Cert.MlaReferenceIdeal.τ).loc Cert.MlaReferenceIdeal.main_arg2) = m ((c.tc : Thread Cert.MlaPromptIdeal.nD Cert.MlaPromptIdeal.τ).loc Cert.MlaPromptIdeal.main_arg2)
      ∧ m' ((c.tc : Thread Cert.MlaReferenceIdeal.nD Cert.MlaReferenceIdeal.τ).loc Cert.MlaReferenceIdeal.main_arg3) = m ((c.tc : Thread Cert.MlaPromptIdeal.nD Cert.MlaPromptIdeal.τ).loc Cert.MlaPromptIdeal.main_arg3)
      ∧ m' ((c.tc : Thread Cert.MlaReferenceIdeal.nD Cert.MlaReferenceIdeal.τ).loc Cert.MlaReferenceIdeal.main_arg4) = m ((c.tc : Thread Cert.MlaPromptIdeal.nD Cert.MlaPromptIdeal.τ).loc Cert.MlaPromptIdeal.main_arg4)) →
    ∃ (v0 : (c : Dev Cert.MlaPromptIdeal.nD) → Buf (Elt Ideal) ((c.tc : Thread Cert.MlaPromptIdeal.nD Cert.MlaPromptIdeal.τ).loc Cert.MlaPromptIdeal.main_v2)),
      θ_run (Cert.MlaPromptIdeal.defs (F := Ideal)) (onTc (τ := Cert.MlaPromptIdeal.τ) (Cert.MlaPromptIdeal.main (F := Ideal))) ⟨m, fun _ => 0, g⟩ (fun r => ∀ c : Dev Cert.MlaPromptIdeal.nD,
          r.2.mem ((c.tc : Thread Cert.MlaPromptIdeal.nD Cert.MlaPromptIdeal.τ).loc Cert.MlaPromptIdeal.main_v2) = v0 c
          ∧ r.2.mem ((c.tc : Thread Cert.MlaPromptIdeal.nD Cert.MlaPromptIdeal.τ).loc Cert.MlaPromptIdeal.main_arg0) = m ((c.tc : Thread Cert.MlaPromptIdeal.nD Cert.MlaPromptIdeal.τ).loc Cert.MlaPromptIdeal.main_arg0)
          ∧ r.2.mem ((c.tc : Thread Cert.MlaPromptIdeal.nD Cert.MlaPromptIdeal.τ).loc Cert.MlaPromptIdeal.main_arg1) = m ((c.tc : Thread Cert.MlaPromptIdeal.nD Cert.MlaPromptIdeal.τ).loc Cert.MlaPromptIdeal.main_arg1)
          ∧ r.2.mem ((c.tc : Thread Cert.MlaPromptIdeal.nD Cert.MlaPromptIdeal.τ).loc Cert.MlaPromptIdeal.main_arg2) = m ((c.tc : Thread Cert.MlaPromptIdeal.nD Cert.MlaPromptIdeal.τ).loc Cert.MlaPromptIdeal.main_arg2)
          ∧ r.2.mem ((c.tc : Thread Cert.MlaPromptIdeal.nD Cert.MlaPromptIdeal.τ).loc Cert.MlaPromptIdeal.main_arg3) = m ((c.tc : Thread Cert.MlaPromptIdeal.nD Cert.MlaPromptIdeal.τ).loc Cert.MlaPromptIdeal.main_arg3)
          ∧ r.2.mem ((c.tc : Thread Cert.MlaPromptIdeal.nD Cert.MlaPromptIdeal.τ).loc Cert.MlaPromptIdeal.main_arg4) = m ((c.tc : Thread Cert.MlaPromptIdeal.nD Cert.MlaPromptIdeal.τ).loc Cert.MlaPromptIdeal.main_arg4))
      ∧ θ_run (Cert.MlaReferenceIdeal.defs (F := Ideal)) (onTc (τ := Cert.MlaReferenceIdeal.τ) (Cert.MlaReferenceIdeal.main (F := Ideal))) ⟨m', fun _ => 0, g'⟩ (fun r => ∀ c : Dev Cert.MlaReferenceIdeal.nD,
          r.2.mem ((c.tc : Thread Cert.MlaReferenceIdeal.nD Cert.MlaReferenceIdeal.τ).loc Cert.MlaReferenceIdeal.main_v40) = v0 c
          ∧ r.2.mem ((c.tc : Thread Cert.MlaReferenceIdeal.nD Cert.MlaReferenceIdeal.τ).loc Cert.MlaReferenceIdeal.main_arg0) = m' ((c.tc : Thread Cert.MlaReferenceIdeal.nD Cert.MlaReferenceIdeal.τ).loc Cert.MlaReferenceIdeal.main_arg0)
          ∧ r.2.mem ((c.tc : Thread Cert.MlaReferenceIdeal.nD Cert.MlaReferenceIdeal.τ).loc Cert.MlaReferenceIdeal.main_arg1) = m' ((c.tc : Thread Cert.MlaReferenceIdeal.nD Cert.MlaReferenceIdeal.τ).loc Cert.MlaReferenceIdeal.main_arg1)
          ∧ r.2.mem ((c.tc : Thread Cert.MlaReferenceIdeal.nD Cert.MlaReferenceIdeal.τ).loc Cert.MlaReferenceIdeal.main_arg2) = m' ((c.tc : Thread Cert.MlaReferenceIdeal.nD Cert.MlaReferenceIdeal.τ).loc Cert.MlaReferenceIdeal.main_arg2)
          ∧ r.2.mem ((c.tc : Thread Cert.MlaReferenceIdeal.nD Cert.MlaReferenceIdeal.τ).loc Cert.MlaReferenceIdeal.main_arg3) = m' ((c.tc : Thread Cert.MlaReferenceIdeal.nD Cert.MlaReferenceIdeal.τ).loc Cert.MlaReferenceIdeal.main_arg3)
          ∧ r.2.mem ((c.tc : Thread Cert.MlaReferenceIdeal.nD Cert.MlaReferenceIdeal.τ).loc Cert.MlaReferenceIdeal.main_arg4) = m' ((c.tc : Thread Cert.MlaReferenceIdeal.nD Cert.MlaReferenceIdeal.τ).loc Cert.MlaReferenceIdeal.main_arg4))

def preserves_Moe_MoeIdeal : Prop :=
  True

def algebraic_MoeIdeal_MoeReferenceIdeal [hMoeIdeal : Cert.MoeIdeal.Facts] [hMoeReferenceIdeal : Cert.MoeReferenceIdeal.Facts] [hPre_experts_in_range : Cert.Pre_experts_in_range.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeReferenceIdeal.nD Cert.MoeReferenceIdeal.τ Cert.MoeReferenceIdeal.sig) → Buf (Elt Ideal) ℓ) (g' : Dev Cert.MoeReferenceIdeal.nD → PrngReg), Pre_MoeIdeal m →
    (∀ c : Dev Cert.MoeIdeal.nD,
      m' ((c.tc : Thread Cert.MoeReferenceIdeal.nD Cert.MoeReferenceIdeal.τ).loc Cert.MoeReferenceIdeal.main_arg0) = m ((c.tc : Thread Cert.MoeIdeal.nD Cert.MoeIdeal.τ).loc Cert.MoeIdeal.main_arg0)
      ∧ m' ((c.tc : Thread Cert.MoeReferenceIdeal.nD Cert.MoeReferenceIdeal.τ).loc Cert.MoeReferenceIdeal.main_arg1) = m ((c.tc : Thread Cert.MoeIdeal.nD Cert.MoeIdeal.τ).loc Cert.MoeIdeal.main_arg1)
      ∧ m' ((c.tc : Thread Cert.MoeReferenceIdeal.nD Cert.MoeReferenceIdeal.τ).loc Cert.MoeReferenceIdeal.main_arg2) = m ((c.tc : Thread Cert.MoeIdeal.nD Cert.MoeIdeal.τ).loc Cert.MoeIdeal.main_arg2)
      ∧ m' ((c.tc : Thread Cert.MoeReferenceIdeal.nD Cert.MoeReferenceIdeal.τ).loc Cert.MoeReferenceIdeal.main_arg3) = m ((c.tc : Thread Cert.MoeIdeal.nD Cert.MoeIdeal.τ).loc Cert.MoeIdeal.main_arg3)
      ∧ m' ((c.tc : Thread Cert.MoeReferenceIdeal.nD Cert.MoeReferenceIdeal.τ).loc Cert.MoeReferenceIdeal.main_arg4) = m ((c.tc : Thread Cert.MoeIdeal.nD Cert.MoeIdeal.τ).loc Cert.MoeIdeal.main_arg4)
      ∧ m' ((c.tc : Thread Cert.MoeReferenceIdeal.nD Cert.MoeReferenceIdeal.τ).loc Cert.MoeReferenceIdeal.main_arg5) = m ((c.tc : Thread Cert.MoeIdeal.nD Cert.MoeIdeal.τ).loc Cert.MoeIdeal.main_arg5)
      ∧ m' ((c.tc : Thread Cert.MoeReferenceIdeal.nD Cert.MoeReferenceIdeal.τ).loc Cert.MoeReferenceIdeal.main_arg6) = m ((c.tc : Thread Cert.MoeIdeal.nD Cert.MoeIdeal.τ).loc Cert.MoeIdeal.main_arg6)) →
    ∃ (v0 : (c : Dev Cert.MoeIdeal.nD) → Buf (Elt Ideal) ((c.tc : Thread Cert.MoeIdeal.nD Cert.MoeIdeal.τ).loc Cert.MoeIdeal.main_v0)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v0) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ θ_run (Cert.MoeReferenceIdeal.defs (F := Ideal)) (onTc (τ := Cert.MoeReferenceIdeal.τ) (Cert.MoeReferenceIdeal.main (F := Ideal))) ⟨m', fun _ => 0, g'⟩ (fun r => ∀ c : Dev Cert.MoeReferenceIdeal.nD,
          r.2.mem ((c.tc : Thread Cert.MoeReferenceIdeal.nD Cert.MoeReferenceIdeal.τ).loc Cert.MoeReferenceIdeal.main_v30) = v0 c
          ∧ r.2.mem ((c.tc : Thread Cert.MoeReferenceIdeal.nD Cert.MoeReferenceIdeal.τ).loc Cert.MoeReferenceIdeal.main_arg0) = m' ((c.tc : Thread Cert.MoeReferenceIdeal.nD Cert.MoeReferenceIdeal.τ).loc Cert.MoeReferenceIdeal.main_arg0)
          ∧ r.2.mem ((c.tc : Thread Cert.MoeReferenceIdeal.nD Cert.MoeReferenceIdeal.τ).loc Cert.MoeReferenceIdeal.main_arg1) = m' ((c.tc : Thread Cert.MoeReferenceIdeal.nD Cert.MoeReferenceIdeal.τ).loc Cert.MoeReferenceIdeal.main_arg1)
          ∧ r.2.mem ((c.tc : Thread Cert.MoeReferenceIdeal.nD Cert.MoeReferenceIdeal.τ).loc Cert.MoeReferenceIdeal.main_arg2) = m' ((c.tc : Thread Cert.MoeReferenceIdeal.nD Cert.MoeReferenceIdeal.τ).loc Cert.MoeReferenceIdeal.main_arg2)
          ∧ r.2.mem ((c.tc : Thread Cert.MoeReferenceIdeal.nD Cert.MoeReferenceIdeal.τ).loc Cert.MoeReferenceIdeal.main_arg3) = m' ((c.tc : Thread Cert.MoeReferenceIdeal.nD Cert.MoeReferenceIdeal.τ).loc Cert.MoeReferenceIdeal.main_arg3)
          ∧ r.2.mem ((c.tc : Thread Cert.MoeReferenceIdeal.nD Cert.MoeReferenceIdeal.τ).loc Cert.MoeReferenceIdeal.main_arg4) = m' ((c.tc : Thread Cert.MoeReferenceIdeal.nD Cert.MoeReferenceIdeal.τ).loc Cert.MoeReferenceIdeal.main_arg4)
          ∧ r.2.mem ((c.tc : Thread Cert.MoeReferenceIdeal.nD Cert.MoeReferenceIdeal.τ).loc Cert.MoeReferenceIdeal.main_arg5) = m' ((c.tc : Thread Cert.MoeReferenceIdeal.nD Cert.MoeReferenceIdeal.τ).loc Cert.MoeReferenceIdeal.main_arg5)
          ∧ r.2.mem ((c.tc : Thread Cert.MoeReferenceIdeal.nD Cert.MoeReferenceIdeal.τ).loc Cert.MoeReferenceIdeal.main_arg6) = m' ((c.tc : Thread Cert.MoeReferenceIdeal.nD Cert.MoeReferenceIdeal.τ).loc Cert.MoeReferenceIdeal.main_arg6))

def preserves_Inproj_InprojIdeal : Prop :=
  True

def algebraic_InprojIdeal_InprojReferenceIdeal [hInprojIdeal : Cert.InprojIdeal.Facts] [hInprojReferenceIdeal : Cert.InprojReferenceIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojIdeal m →
    (∀ c : Dev Cert.InprojIdeal.nD,
      m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)
      ∧ m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)
      ∧ m' ((c.tc : Thread Cert.InprojReferenceIdeal.nD Cert.InprojReferenceIdeal.τ).loc Cert.InprojReferenceIdeal.main_arg2) = m ((c.tc : Thread Cert.InprojIdeal.nD Cert.InprojIdeal.τ).loc Cert.InprojIdeal.main_arg2)) →
    ∃ (v0 : (c : Dev Cert.InprojIdeal.nD) → Buf (Elt Ideal) ((c.tc : Thread Cert.InprojIdeal.nD Cert.InprojIdeal.τ).loc Cert.InprojIdeal.main_v1)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v1) = v0 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v14) = v0 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v2) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v21) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4))

def preserves_Outproj_OutprojIdeal : Prop :=
  True

def algebraic_OutprojIdeal_OutprojReferenceIdeal [hOutprojIdeal : Cert.OutprojIdeal.Facts] [hOutprojReferenceIdeal : Cert.OutprojReferenceIdeal.Facts] [hPre_finite_out : Cert.Pre_finite_out.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojReferenceIdeal.nD Cert.OutprojReferenceIdeal.τ Cert.OutprojReferenceIdeal.sig) → Buf (Elt Ideal) ℓ) (g' : Dev Cert.OutprojReferenceIdeal.nD → PrngReg), Pre_OutprojIdeal m →
    (∀ c : Dev Cert.OutprojIdeal.nD,
      m' ((c.tc : Thread Cert.OutprojReferenceIdeal.nD Cert.OutprojReferenceIdeal.τ).loc Cert.OutprojReferenceIdeal.main_arg0) = m ((c.tc : Thread Cert.OutprojIdeal.nD Cert.OutprojIdeal.τ).loc Cert.OutprojIdeal.main_arg0)
      ∧ m' ((c.tc : Thread Cert.OutprojReferenceIdeal.nD Cert.OutprojReferenceIdeal.τ).loc Cert.OutprojReferenceIdeal.main_arg1) = m ((c.tc : Thread Cert.OutprojIdeal.nD Cert.OutprojIdeal.τ).loc Cert.OutprojIdeal.main_arg1)
      ∧ m' ((c.tc : Thread Cert.OutprojReferenceIdeal.nD Cert.OutprojReferenceIdeal.τ).loc Cert.OutprojReferenceIdeal.main_arg2) = m ((c.tc : Thread Cert.OutprojIdeal.nD Cert.OutprojIdeal.τ).loc Cert.OutprojIdeal.main_arg2)
      ∧ m' ((c.tc : Thread Cert.OutprojReferenceIdeal.nD Cert.OutprojReferenceIdeal.τ).loc Cert.OutprojReferenceIdeal.main_arg3) = m ((c.tc : Thread Cert.OutprojIdeal.nD Cert.OutprojIdeal.τ).loc Cert.OutprojIdeal.main_arg3)
      ∧ m' ((c.tc : Thread Cert.OutprojReferenceIdeal.nD Cert.OutprojReferenceIdeal.τ).loc Cert.OutprojReferenceIdeal.main_arg4) = m ((c.tc : Thread Cert.OutprojIdeal.nD Cert.OutprojIdeal.τ).loc Cert.OutprojIdeal.main_arg4)
      ∧ m' ((c.tc : Thread Cert.OutprojReferenceIdeal.nD Cert.OutprojReferenceIdeal.τ).loc Cert.OutprojReferenceIdeal.main_arg5) = m ((c.tc : Thread Cert.OutprojIdeal.nD Cert.OutprojIdeal.τ).loc Cert.OutprojIdeal.main_arg5)) →
    ∃ (v0 : (c : Dev Cert.OutprojIdeal.nD) → Buf (Elt Ideal) ((c.tc : Thread Cert.OutprojIdeal.nD Cert.OutprojIdeal.τ).loc Cert.OutprojIdeal.main_v3_0)) (v1 : (c : Dev Cert.OutprojIdeal.nD) → Buf (Elt Ideal) ((c.tc : Thread Cert.OutprojIdeal.nD Cert.OutprojIdeal.τ).loc Cert.OutprojIdeal.main_v3_1)) (v2 : (c : Dev Cert.OutprojIdeal.nD) → Buf (Elt Ideal) ((c.tc : Thread Cert.OutprojIdeal.nD Cert.OutprojIdeal.τ).loc Cert.OutprojIdeal.main_v3_2)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v3_0) = v0 c
          ∧ r.2.mem ((c.tc : Thread Cert.OutprojIdeal.nD Cert.OutprojIdeal.τ).loc Cert.OutprojIdeal.main_v3_1) = v1 c
          ∧ r.2.mem ((c.tc : Thread Cert.OutprojIdeal.nD Cert.OutprojIdeal.τ).loc Cert.OutprojIdeal.main_v3_2) = v2 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
          ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
          ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5))
      ∧ θ_run (Cert.OutprojReferenceIdeal.defs (F := Ideal)) (onTc (τ := Cert.OutprojReferenceIdeal.τ) (Cert.OutprojReferenceIdeal.main (F := Ideal))) ⟨m', fun _ => 0, g'⟩ (fun r => ∀ c : Dev Cert.OutprojReferenceIdeal.nD,
          r.2.mem ((c.tc : Thread Cert.OutprojReferenceIdeal.nD Cert.OutprojReferenceIdeal.τ).loc Cert.OutprojReferenceIdeal.main_v2) = v0 c
          ∧ r.2.mem ((c.tc : Thread Cert.OutprojReferenceIdeal.nD Cert.OutprojReferenceIdeal.τ).loc Cert.OutprojReferenceIdeal.main_v15) = v1 c
          ∧ r.2.mem ((c.tc : Thread Cert.OutprojReferenceIdeal.nD Cert.OutprojReferenceIdeal.τ).loc Cert.OutprojReferenceIdeal.main_v19) = v2 c
          ∧ r.2.mem ((c.tc : Thread Cert.OutprojReferenceIdeal.nD Cert.OutprojReferenceIdeal.τ).loc Cert.OutprojReferenceIdeal.main_arg0) = m' ((c.tc : Thread Cert.OutprojReferenceIdeal.nD Cert.OutprojReferenceIdeal.τ).loc Cert.OutprojReferenceIdeal.main_arg0)
          ∧ r.2.mem ((c.tc : Thread Cert.OutprojReferenceIdeal.nD Cert.OutprojReferenceIdeal.τ).loc Cert.OutprojReferenceIdeal.main_arg1) = m' ((c.tc : Thread Cert.OutprojReferenceIdeal.nD Cert.OutprojReferenceIdeal.τ).loc Cert.OutprojReferenceIdeal.main_arg1)
          ∧ r.2.mem ((c.tc : Thread Cert.OutprojReferenceIdeal.nD Cert.OutprojReferenceIdeal.τ).loc Cert.OutprojReferenceIdeal.main_arg2) = m' ((c.tc : Thread Cert.OutprojReferenceIdeal.nD Cert.OutprojReferenceIdeal.τ).loc Cert.OutprojReferenceIdeal.main_arg2)
          ∧ r.2.mem ((c.tc : Thread Cert.OutprojReferenceIdeal.nD Cert.OutprojReferenceIdeal.τ).loc Cert.OutprojReferenceIdeal.main_arg3) = m' ((c.tc : Thread Cert.OutprojReferenceIdeal.nD Cert.OutprojReferenceIdeal.τ).loc Cert.OutprojReferenceIdeal.main_arg3)
          ∧ r.2.mem ((c.tc : Thread Cert.OutprojReferenceIdeal.nD Cert.OutprojReferenceIdeal.τ).loc Cert.OutprojReferenceIdeal.main_arg4) = m' ((c.tc : Thread Cert.OutprojReferenceIdeal.nD Cert.OutprojReferenceIdeal.τ).loc Cert.OutprojReferenceIdeal.main_arg4)
          ∧ r.2.mem ((c.tc : Thread Cert.OutprojReferenceIdeal.nD Cert.OutprojReferenceIdeal.τ).loc Cert.OutprojReferenceIdeal.main_arg5) = m' ((c.tc : Thread Cert.OutprojReferenceIdeal.nD Cert.OutprojReferenceIdeal.τ).loc Cert.OutprojReferenceIdeal.main_arg5))

def preserves_Uv_UvIdeal : Prop :=
  True

def algebraic_UvIdeal_UvReferenceIdeal [hUvIdeal : Cert.UvIdeal.Facts] [hUvReferenceIdeal : Cert.UvReferenceIdeal.Facts] : Prop :=
  ∀ (m : (ℓ : Loc Cert.UvIdeal.nD Cert.UvIdeal.τ Cert.UvIdeal.sig) → Buf (Elt Ideal) ℓ) (g : Dev Cert.UvIdeal.nD → PrngReg)
    (m' : (ℓ : Loc Cert.UvReferenceIdeal.nD Cert.UvReferenceIdeal.τ Cert.UvReferenceIdeal.sig) → Buf (Elt Ideal) ℓ) (g' : Dev Cert.UvReferenceIdeal.nD → PrngReg), Pre_UvIdeal m →
    (∀ c : Dev Cert.UvIdeal.nD,
      m' ((c.tc : Thread Cert.UvReferenceIdeal.nD Cert.UvReferenceIdeal.τ).loc Cert.UvReferenceIdeal.main_arg0) = m ((c.tc : Thread Cert.UvIdeal.nD Cert.UvIdeal.τ).loc Cert.UvIdeal.main_arg0)
      ∧ m' ((c.tc : Thread Cert.UvReferenceIdeal.nD Cert.UvReferenceIdeal.τ).loc Cert.UvReferenceIdeal.main_arg1) = m ((c.tc : Thread Cert.UvIdeal.nD Cert.UvIdeal.τ).loc Cert.UvIdeal.main_arg1)) →
    ∃ (v0 : (c : Dev Cert.UvIdeal.nD) → Buf (Elt Ideal) ((c.tc : Thread Cert.UvIdeal.nD Cert.UvIdeal.τ).loc Cert.UvIdeal.main_v2)),
      θ_run (Cert.UvIdeal.defs (F := Ideal)) (onTc (τ := Cert.UvIdeal.τ) (Cert.UvIdeal.main (F := Ideal))) ⟨m, fun _ => 0, g⟩ (fun r => ∀ c : Dev Cert.UvIdeal.nD,
          r.2.mem ((c.tc : Thread Cert.UvIdeal.nD Cert.UvIdeal.τ).loc Cert.UvIdeal.main_v2) = v0 c
          ∧ r.2.mem ((c.tc : Thread Cert.UvIdeal.nD Cert.UvIdeal.τ).loc Cert.UvIdeal.main_arg0) = m ((c.tc : Thread Cert.UvIdeal.nD Cert.UvIdeal.τ).loc Cert.UvIdeal.main_arg0)
          ∧ r.2.mem ((c.tc : Thread Cert.UvIdeal.nD Cert.UvIdeal.τ).loc Cert.UvIdeal.main_arg1) = m ((c.tc : Thread Cert.UvIdeal.nD Cert.UvIdeal.τ).loc Cert.UvIdeal.main_arg1))
      ∧ θ_run (Cert.UvReferenceIdeal.defs (F := Ideal)) (onTc (τ := Cert.UvReferenceIdeal.τ) (Cert.UvReferenceIdeal.main (F := Ideal))) ⟨m', fun _ => 0, g'⟩ (fun r => ∀ c : Dev Cert.UvReferenceIdeal.nD,
          r.2.mem ((c.tc : Thread Cert.UvReferenceIdeal.nD Cert.UvReferenceIdeal.τ).loc Cert.UvReferenceIdeal.main_v4) = v0 c
          ∧ r.2.mem ((c.tc : Thread Cert.UvReferenceIdeal.nD Cert.UvReferenceIdeal.τ).loc Cert.UvReferenceIdeal.main_arg0) = m' ((c.tc : Thread Cert.UvReferenceIdeal.nD Cert.UvReferenceIdeal.τ).loc Cert.UvReferenceIdeal.main_arg0)
          ∧ r.2.mem ((c.tc : Thread Cert.UvReferenceIdeal.nD Cert.UvReferenceIdeal.τ).loc Cert.UvReferenceIdeal.main_arg1) = m' ((c.tc : Thread Cert.UvReferenceIdeal.nD Cert.UvReferenceIdeal.τ).loc Cert.UvReferenceIdeal.main_arg1))

def preserves_Final_FinalIdeal : Prop :=
  True

def algebraic_FinalIdeal_FinalReferenceIdeal [hFinalIdeal : Cert.FinalIdeal.Facts] [hFinalReferenceIdeal : Cert.FinalReferenceIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalReferenceIdeal.nD Cert.FinalReferenceIdeal.τ Cert.FinalReferenceIdeal.sig) → Buf (Elt Ideal) ℓ) (g' : Dev Cert.FinalReferenceIdeal.nD → PrngReg), Pre_FinalIdeal m →
    (∀ c : Dev Cert.FinalIdeal.nD,
      m' ((c.tc : Thread Cert.FinalReferenceIdeal.nD Cert.FinalReferenceIdeal.τ).loc Cert.FinalReferenceIdeal.main_arg0) = m ((c.tc : Thread Cert.FinalIdeal.nD Cert.FinalIdeal.τ).loc Cert.FinalIdeal.main_arg0)
      ∧ m' ((c.tc : Thread Cert.FinalReferenceIdeal.nD Cert.FinalReferenceIdeal.τ).loc Cert.FinalReferenceIdeal.main_arg1) = m ((c.tc : Thread Cert.FinalIdeal.nD Cert.FinalIdeal.τ).loc Cert.FinalIdeal.main_arg1)
      ∧ m' ((c.tc : Thread Cert.FinalReferenceIdeal.nD Cert.FinalReferenceIdeal.τ).loc Cert.FinalReferenceIdeal.main_arg2) = m ((c.tc : Thread Cert.FinalIdeal.nD Cert.FinalIdeal.τ).loc Cert.FinalIdeal.main_arg2)
      ∧ m' ((c.tc : Thread Cert.FinalReferenceIdeal.nD Cert.FinalReferenceIdeal.τ).loc Cert.FinalReferenceIdeal.main_arg3) = m ((c.tc : Thread Cert.FinalIdeal.nD Cert.FinalIdeal.τ).loc Cert.FinalIdeal.main_arg3)) →
    ∃ (v0 : (c : Dev Cert.FinalIdeal.nD) → Buf (Elt Ideal) ((c.tc : Thread Cert.FinalIdeal.nD Cert.FinalIdeal.τ).loc Cert.FinalIdeal.main_v1)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v1) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3))
      ∧ θ_run (Cert.FinalReferenceIdeal.defs (F := Ideal)) (onTc (τ := Cert.FinalReferenceIdeal.τ) (Cert.FinalReferenceIdeal.main (F := Ideal))) ⟨m', fun _ => 0, g'⟩ (fun r => ∀ c : Dev Cert.FinalReferenceIdeal.nD,
          r.2.mem ((c.tc : Thread Cert.FinalReferenceIdeal.nD Cert.FinalReferenceIdeal.τ).loc Cert.FinalReferenceIdeal.main_v14) = v0 c
          ∧ r.2.mem ((c.tc : Thread Cert.FinalReferenceIdeal.nD Cert.FinalReferenceIdeal.τ).loc Cert.FinalReferenceIdeal.main_arg0) = m' ((c.tc : Thread Cert.FinalReferenceIdeal.nD Cert.FinalReferenceIdeal.τ).loc Cert.FinalReferenceIdeal.main_arg0)
          ∧ r.2.mem ((c.tc : Thread Cert.FinalReferenceIdeal.nD Cert.FinalReferenceIdeal.τ).loc Cert.FinalReferenceIdeal.main_arg1) = m' ((c.tc : Thread Cert.FinalReferenceIdeal.nD Cert.FinalReferenceIdeal.τ).loc Cert.FinalReferenceIdeal.main_arg1)
          ∧ r.2.mem ((c.tc : Thread Cert.FinalReferenceIdeal.nD Cert.FinalReferenceIdeal.τ).loc Cert.FinalReferenceIdeal.main_arg2) = m' ((c.tc : Thread Cert.FinalReferenceIdeal.nD Cert.FinalReferenceIdeal.τ).loc Cert.FinalReferenceIdeal.main_arg2)
          ∧ r.2.mem ((c.tc : Thread Cert.FinalReferenceIdeal.nD Cert.FinalReferenceIdeal.τ).loc Cert.FinalReferenceIdeal.main_arg3) = m' ((c.tc : Thread Cert.FinalReferenceIdeal.nD Cert.FinalReferenceIdeal.τ).loc Cert.FinalReferenceIdeal.main_arg3))

def Claim : Prop :=
  ∃ (hSbPrompt : Cert.SbPrompt.Facts) (hSbPromptIdeal : Cert.SbPromptIdeal.Facts) (hSbReferenceIdeal : Cert.SbReferenceIdeal.Facts) (hMlaPrompt : Cert.MlaPrompt.Facts) (hMlaPromptIdeal : Cert.MlaPromptIdeal.Facts) (hMlaReferenceIdeal : Cert.MlaReferenceIdeal.Facts) (hMoe : Cert.Moe.Facts) (hMoeIdeal : Cert.MoeIdeal.Facts) (hMoeReferenceIdeal : Cert.MoeReferenceIdeal.Facts) (hInproj : Cert.Inproj.Facts) (hInprojIdeal : Cert.InprojIdeal.Facts) (hInprojReferenceIdeal : Cert.InprojReferenceIdeal.Facts) (hMerge : Cert.Merge.Facts) (hMergeIdeal : Cert.MergeIdeal.Facts) (hMergeReferenceIdeal : Cert.MergeReferenceIdeal.Facts) (hOutproj : Cert.Outproj.Facts) (hOutprojIdeal : Cert.OutprojIdeal.Facts) (hOutprojReferenceIdeal : Cert.OutprojReferenceIdeal.Facts) (hUv : Cert.Uv.Facts) (hUvIdeal : Cert.UvIdeal.Facts) (hUvReferenceIdeal : Cert.UvReferenceIdeal.Facts) (hFinal : Cert.Final.Facts) (hFinalIdeal : Cert.FinalIdeal.Facts) (hFinalReferenceIdeal : Cert.FinalReferenceIdeal.Facts) (hPre_finite_qk : Cert.Pre_finite_qk.Facts) (hPre_finite_mla : Cert.Pre_finite_mla.Facts) (hPre_experts_in_range : Cert.Pre_experts_in_range.Facts) (hPre_finite_out : Cert.Pre_finite_out.Facts),
    quiescent_SbPrompt (hSbPrompt := hSbPrompt)
    ∧ quiescent_SbPromptIdeal (hSbPromptIdeal := hSbPromptIdeal) (hPre_finite_qk := hPre_finite_qk)
    ∧ quiescent_SbPromptIdeal_pre_none (hSbPromptIdeal := hSbPromptIdeal)
    ∧ quiescent_SbReferenceIdeal (hSbReferenceIdeal := hSbReferenceIdeal) (hPre_finite_qk := hPre_finite_qk)
    ∧ quiescent_MlaPrompt (hMlaPrompt := hMlaPrompt)
    ∧ quiescent_MlaPromptIdeal (hMlaPromptIdeal := hMlaPromptIdeal) (hPre_finite_mla := hPre_finite_mla)
    ∧ quiescent_MlaPromptIdeal_pre_none (hMlaPromptIdeal := hMlaPromptIdeal)
    ∧ quiescent_MlaReferenceIdeal (hMlaReferenceIdeal := hMlaReferenceIdeal) (hPre_finite_mla := hPre_finite_mla)
    ∧ quiescent_Moe (hMoe := hMoe) (hPre_experts_in_range := hPre_experts_in_range)
    ∧ quiescent_MoeIdeal (hMoeIdeal := hMoeIdeal) (hPre_experts_in_range := hPre_experts_in_range)
    ∧ quiescent_MoeReferenceIdeal (hMoeReferenceIdeal := hMoeReferenceIdeal) (hPre_experts_in_range := hPre_experts_in_range)
    ∧ quiescent_Inproj (hInproj := hInproj)
    ∧ quiescent_InprojIdeal (hInprojIdeal := hInprojIdeal)
    ∧ quiescent_InprojReferenceIdeal (hInprojReferenceIdeal := hInprojReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Outproj (hOutproj := hOutproj)
    ∧ quiescent_OutprojIdeal (hOutprojIdeal := hOutprojIdeal) (hPre_finite_out := hPre_finite_out)
    ∧ quiescent_OutprojIdeal_pre_none (hOutprojIdeal := hOutprojIdeal)
    ∧ quiescent_OutprojReferenceIdeal (hOutprojReferenceIdeal := hOutprojReferenceIdeal) (hPre_finite_out := hPre_finite_out)
    ∧ quiescent_Uv (hUv := hUv)
    ∧ quiescent_UvIdeal (hUvIdeal := hUvIdeal)
    ∧ quiescent_UvReferenceIdeal (hUvReferenceIdeal := hUvReferenceIdeal)
    ∧ quiescent_Final (hFinal := hFinal)
    ∧ quiescent_FinalIdeal (hFinalIdeal := hFinalIdeal)
    ∧ quiescent_FinalReferenceIdeal (hFinalReferenceIdeal := hFinalReferenceIdeal)
    ∧ preserves_SbPrompt_SbPromptIdeal
    ∧ algebraic_SbPromptIdeal_SbReferenceIdeal (hSbPromptIdeal := hSbPromptIdeal) (hSbReferenceIdeal := hSbReferenceIdeal) (hPre_finite_qk := hPre_finite_qk)
    ∧ preserves_MlaPrompt_MlaPromptIdeal
    ∧ algebraic_MlaPromptIdeal_MlaReferenceIdeal (hMlaPromptIdeal := hMlaPromptIdeal) (hMlaReferenceIdeal := hMlaReferenceIdeal) (hPre_finite_mla := hPre_finite_mla)
    ∧ preserves_Moe_MoeIdeal
    ∧ algebraic_MoeIdeal_MoeReferenceIdeal (hMoeIdeal := hMoeIdeal) (hMoeReferenceIdeal := hMoeReferenceIdeal) (hPre_experts_in_range := hPre_experts_in_range)
    ∧ preserves_Inproj_InprojIdeal
    ∧ algebraic_InprojIdeal_InprojReferenceIdeal (hInprojIdeal := hInprojIdeal) (hInprojReferenceIdeal := hInprojReferenceIdeal)
    ∧ preserves_Merge_MergeIdeal
    ∧ algebraic_MergeIdeal_MergeReferenceIdeal (hMergeIdeal := hMergeIdeal) (hMergeReferenceIdeal := hMergeReferenceIdeal)
    ∧ preserves_Outproj_OutprojIdeal
    ∧ algebraic_OutprojIdeal_OutprojReferenceIdeal (hOutprojIdeal := hOutprojIdeal) (hOutprojReferenceIdeal := hOutprojReferenceIdeal) (hPre_finite_out := hPre_finite_out)
    ∧ preserves_Uv_UvIdeal
    ∧ algebraic_UvIdeal_UvReferenceIdeal (hUvIdeal := hUvIdeal) (hUvReferenceIdeal := hUvReferenceIdeal)
    ∧ preserves_Final_FinalIdeal
    ∧ algebraic_FinalIdeal_FinalReferenceIdeal (hFinalIdeal := hFinalIdeal) (hFinalReferenceIdeal := hFinalReferenceIdeal)
-- ==== Pre_experts_in_range.lean ====
abbrev S104 : Shape := ⟨1, ![104]⟩
abbrev S1 : Shape := ⟨1, ![1]⟩
abbrev S26624x2048 : Shape := ⟨2, ![26624, 2048]⟩
abbrev S26624x1 : Shape := ⟨2, ![26624, 1]⟩
abbrev S32x2048x512 : Shape := ⟨3, ![32, 2048, 512]⟩
abbrev S32x512x2048 : Shape := ⟨3, ![32, 512, 2048]⟩
abbrev S_ : Shape := ⟨0, ![]⟩

class Facts : Prop where
  bcast_S_S104 : S_.BroadcastsInDim S104 (![] : Fin 0 → Fin S104.rank)
  reducesTo_S104_S_d0 : S104.ReducesTo [0] S_
  h_S_ : 0 < S_.numel

variable [Facts]

def fn {F : FTy → Type} [FloatOps F] (main_arg0 : IVec S104 32) (main_arg1 : IVec S1 32) (main_arg2 : FVec F S26624x2048 .f32) (main_arg3 : FVec F S26624x1 .f32) (main_arg4 : FVec F S32x2048x512 .bf16) (main_arg5 : FVec F S32x2048x512 .bf16) (main_arg6 : FVec F S32x512x2048 .bf16) : IVec S_ 1 :=
  let main_c : IVec S_ 32 := constantI S_ 32 0#32
  let main_v0 : IVec S104 32 := broadcastInDim S104 ![] bcast_S_S104 main_c
  let main_v1 : IVec S104 1 := cmpi .sge main_arg0 main_v0
  let main_c_0 : IVec S_ 32 := constantI S_ 32 32#32
  let main_v2 : IVec S104 32 := broadcastInDim S104 ![] bcast_S_S104 main_c_0
  let main_v3 : IVec S104 1 := cmpi .slt main_arg0 main_v2
  let main_v4 : IVec S104 1 := andi main_v1 main_v3
  let main_c_1 : IVec S_ 1 := constantI S_ 1 1#1
  let main_v5 : IVec S_ 1 := (fun x v => Host.reduce IntOp.andi x v reducesTo_S104_S_d0 h_S_) main_v4 main_c_1
  main_v5
-- ==== Pre_finite_mla.lean ====
abbrev S8x9216x512 : Shape := ⟨3, ![8, 9216, 512]⟩
abbrev S8x9216x64 : Shape := ⟨3, ![8, 9216, 64]⟩
abbrev S9216x512 : Shape := ⟨2, ![9216, 512]⟩
abbrev S9216x64 : Shape := ⟨2, ![9216, 64]⟩
abbrev S512x8x128 : Shape := ⟨3, ![512, 8, 128]⟩
abbrev S_ : Shape := ⟨0, ![]⟩

class Facts : Prop where
  bitsLt_bf16_f32 : FTy.bits .bf16 < FTy.bits .f32
  bcast_S_S8x9216x512 : S_.BroadcastsInDim S8x9216x512 (![] : Fin 0 → Fin S8x9216x512.rank)
  reducesTo_S8x9216x512_S_d0_1_2 : S8x9216x512.ReducesTo [0, 1, 2] S_
  h_S_ : 0 < S_.numel
  bcast_S_S8x9216x64 : S_.BroadcastsInDim S8x9216x64 (![] : Fin 0 → Fin S8x9216x64.rank)
  reducesTo_S8x9216x64_S_d0_1_2 : S8x9216x64.ReducesTo [0, 1, 2] S_
  bcast_S_S9216x512 : S_.BroadcastsInDim S9216x512 (![] : Fin 0 → Fin S9216x512.rank)
  reducesTo_S9216x512_S_d0_1 : S9216x512.ReducesTo [0, 1] S_
  bcast_S_S9216x64 : S_.BroadcastsInDim S9216x64 (![] : Fin 0 → Fin S9216x64.rank)
  reducesTo_S9216x64_S_d0_1 : S9216x64.ReducesTo [0, 1] S_

variable [Facts]

def fn_part1 {F : FTy → Type} [FloatOps F] (main_v10 : IVec S_ 1) (main_v15 : IVec S_ 1) (main_v17 : FVec F S9216x64 .f32) : IVec S_ 1 :=
  let main_cst_4 : FVec F S_ .f32 := constant S_ .f32 0x7F800000#32
  let main_v18 : FVec F S9216x64 .f32 := broadcastInDim S9216x64 ![] bcast_S_S9216x64 main_cst_4
  let main_v19 : IVec S9216x64 1 := cmpf .olt main_v17 main_v18
  let main_c_5 : IVec S_ 1 := constantI S_ 1 1#1
  let main_v20 : IVec S_ 1 := (fun x v => Host.reduce IntOp.andi x v reducesTo_S9216x64_S_d0_1 h_S_) main_v19 main_c_5
  let main_v21 : IVec S_ 1 := andi main_v15 main_v20
  let main_v22 : IVec S_ 1 := andi main_v10 main_v21
  main_v22

def fn {F : FTy → Type} [FloatOps F] (main_arg0 : FVec F S8x9216x512 .bf16) (main_arg1 : FVec F S8x9216x64 .bf16) (main_arg2 : FVec F S9216x512 .bf16) (main_arg3 : FVec F S9216x64 .bf16) (main_arg4 : FVec F S512x8x128 .f32) : IVec S_ 1 :=
  let main_v0 : FVec F S8x9216x512 .f32 := (extf .f32 · bitsLt_bf16_f32) main_arg0
  let main_v1 : FVec F S8x9216x512 .f32 := Host.absf main_v0
  let main_cst : FVec F S_ .f32 := constant S_ .f32 0x7F800000#32
  let main_v2 : FVec F S8x9216x512 .f32 := broadcastInDim S8x9216x512 ![] bcast_S_S8x9216x512 main_cst
  let main_v3 : IVec S8x9216x512 1 := cmpf .olt main_v1 main_v2
  let main_c : IVec S_ 1 := constantI S_ 1 1#1
  let main_v4 : IVec S_ 1 := (fun x v => Host.reduce IntOp.andi x v reducesTo_S8x9216x512_S_d0_1_2 h_S_) main_v3 main_c
  let main_v5 : FVec F S8x9216x64 .f32 := (extf .f32 · bitsLt_bf16_f32) main_arg1
  let main_v6 : FVec F S8x9216x64 .f32 := Host.absf main_v5
  let main_cst_0 : FVec F S_ .f32 := constant S_ .f32 0x7F800000#32
  let main_v7 : FVec F S8x9216x64 .f32 := broadcastInDim S8x9216x64 ![] bcast_S_S8x9216x64 main_cst_0
  let main_v8 : IVec S8x9216x64 1 := cmpf .olt main_v6 main_v7
  let main_c_1 : IVec S_ 1 := constantI S_ 1 1#1
  let main_v9 : IVec S_ 1 := (fun x v => Host.reduce IntOp.andi x v reducesTo_S8x9216x64_S_d0_1_2 h_S_) main_v8 main_c_1
  let main_v10 : IVec S_ 1 := andi main_v4 main_v9
  let main_v11 : FVec F S9216x512 .f32 := (extf .f32 · bitsLt_bf16_f32) main_arg2
  let main_v12 : FVec F S9216x512 .f32 := Host.absf main_v11
  let main_cst_2 : FVec F S_ .f32 := constant S_ .f32 0x7F800000#32
  let main_v13 : FVec F S9216x512 .f32 := broadcastInDim S9216x512 ![] bcast_S_S9216x512 main_cst_2
  let main_v14 : IVec S9216x512 1 := cmpf .olt main_v12 main_v13
  let main_c_3 : IVec S_ 1 := constantI S_ 1 1#1
  let main_v15 : IVec S_ 1 := (fun x v => Host.reduce IntOp.andi x v reducesTo_S9216x512_S_d0_1 h_S_) main_v14 main_c_3
  let main_v16 : FVec F S9216x64 .f32 := (extf .f32 · bitsLt_bf16_f32) main_arg3
  let main_v17 : FVec F S9216x64 .f32 := Host.absf main_v16
  fn_part1 (F := F) main_v10 main_v15 main_v17
-- ==== Pre_finite_out.lean ====
abbrev S9216x2048 : Shape := ⟨2, ![9216, 2048]⟩
abbrev S2048x2048 : Shape := ⟨2, ![2048, 2048]⟩
abbrev S2048 : Shape := ⟨1, ![2048]⟩
abbrev S2048x128 : Shape := ⟨2, ![2048, 128]⟩
abbrev S128 : Shape := ⟨1, ![128]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel
  bcast_S_S2048x128 : S_.BroadcastsInDim S2048x128 (![] : Fin 0 → Fin S2048x128.rank)
  reducesTo_S2048x128_S_d0_1 : S2048x128.ReducesTo [0, 1] S_

variable [Facts]

def fn {F : FTy → Type} [FloatOps F] (main_arg0 : FVec F S9216x2048 .bf16) (main_arg1 : FVec F S9216x2048 .f32) (main_arg2 : FVec F S2048x2048 .f32) (main_arg3 : FVec F S2048 .f32) (main_arg4 : FVec F S2048x128 .f32) (main_arg5 : FVec F S128 .f32) : IVec S_ 1 :=
  let main_v0 : FVec F S2048 .f32 := Host.absf main_arg3
  let main_cst : FVec F S_ .f32 := constant S_ .f32 0x7F800000#32
  let main_v1 : FVec F S2048 .f32 := broadcastInDim S2048 ![] bcast_S_S2048 main_cst
  let main_v2 : IVec S2048 1 := cmpf .olt main_v0 main_v1
  let main_c : IVec S_ 1 := constantI S_ 1 1#1
  let main_v3 : IVec S_ 1 := (fun x v => Host.reduce IntOp.andi x v reducesTo_S2048_S_d0 h_S_) main_v2 main_c
  let main_v4 : FVec F S2048x128 .f32 := Host.absf main_arg4
  let main_cst_0 : FVec F S_ .f32 := constant S_ .f32 0x7F800000#32
  let main_v5 : FVec F S2048x128 .f32 := broadcastInDim S2048x128 ![] bcast_S_S2048x128 main_cst_0
  let main_v6 : IVec S2048x128 1 := cmpf .olt main_v4 main_v5
  let main_c_1 : IVec S_ 1 := constantI S_ 1 1#1
  let main_v7 : IVec S_ 1 := (fun x v => Host.reduce IntOp.andi x v reducesTo_S2048x128_S_d0_1 h_S_) main_v6 main_c_1
  let main_v8 : IVec S_ 1 := andi main_v3 main_v7
  main_v8
-- ==== Pre_finite_qk.lean ====
abbrev S8x9216x128 : Shape := ⟨3, ![8, 9216, 128]⟩
abbrev S9216x256 : Shape := ⟨2, ![9216, 256]⟩
abbrev S_ : Shape := ⟨0, ![]⟩

class Facts : Prop where
  bitsLt_bf16_f32 : FTy.bits .bf16 < FTy.bits .f32
  bcast_S_S8x9216x128 : S_.BroadcastsInDim S8x9216x128 (![] : Fin 0 → Fin S8x9216x128.rank)
  reducesTo_S8x9216x128_S_d0_1_2 : S8x9216x128.ReducesTo [0, 1, 2] S_
  h_S_ : 0 < S_.numel
  bcast_S_S9216x256 : S_.BroadcastsInDim S9216x256 (![] : Fin 0 → Fin S9216x256.rank)
  reducesTo_S9216x256_S_d0_1 : S9216x256.ReducesTo [0, 1] S_

variable [Facts]

def fn {F : FTy → Type} [FloatOps F] (main_arg0 : FVec F S8x9216x128 .bf16) (main_arg1 : FVec F S9216x256 .bf16) (main_arg2 : FVec F S9216x256 .bf16) : IVec S_ 1 :=
  let main_v0 : FVec F S8x9216x128 .f32 := (extf .f32 · bitsLt_bf16_f32) main_arg0
  let main_v1 : FVec F S8x9216x128 .f32 := Host.absf main_v0
  let main_cst : FVec F S_ .f32 := constant S_ .f32 0x7F800000#32
  let main_v2 : FVec F S8x9216x128 .f32 := broadcastInDim S8x9216x128 ![] bcast_S_S8x9216x128 main_cst
  let main_v3 : IVec S8x9216x128 1 := cmpf .olt main_v1 main_v2
  let main_c : IVec S_ 1 := constantI S_ 1 1#1
  let main_v4 : IVec S_ 1 := (fun x v => Host.reduce IntOp.andi x v reducesTo_S8x9216x128_S_d0_1_2 h_S_) main_v3 main_c
  let main_v5 : FVec F S9216x256 .f32 := (extf .f32 · bitsLt_bf16_f32) main_arg1
  let main_v6 : FVec F S9216x256 .f32 := Host.absf main_v5
  let main_cst_0 : FVec F S_ .f32 := constant S_ .f32 0x7F800000#32
  let main_v7 : FVec F S9216x256 .f32 := broadcastInDim S9216x256 ![] bcast_S_S9216x256 main_cst_0
  let main_v8 : IVec S9216x256 1 := cmpf .olt main_v6 main_v7
  let main_c_1 : IVec S_ 1 := constantI S_ 1 1#1
  let main_v9 : IVec S_ 1 := (fun x v => Host.reduce IntOp.andi x v reducesTo_S9216x256_S_d0_1 h_S_) main_v8 main_c_1
  let main_v10 : IVec S_ 1 := andi main_v4 main_v9
  main_v10
-- ==== SbPrompt.lean ====
abbrev S8x9216x128 : Shape := ⟨3, ![8, 9216, 128]⟩
abbrev S9216x256 : Shape := ⟨2, ![9216, 256]⟩
abbrev S256x256 : Shape := ⟨2, ![256, 256]⟩
abbrev S8192x1024 : Shape := ⟨2, ![8192, 1024]⟩
abbrev S4x256x128 : Shape := ⟨3, ![4, 256, 128]⟩
abbrev S256x128 : Shape := ⟨2, ![256, 128]⟩
abbrev S256x512 : Shape := ⟨2, ![256, 512]⟩
abbrev S1024x1 : Shape := ⟨2, ![1024, 1]⟩
abbrev S1024x128 : Shape := ⟨2, ![1024, 128]⟩
abbrev S1024x256 : Shape := ⟨2, ![1024, 256]⟩
abbrev S1024 : Shape := ⟨1, ![1024]⟩

abbrev nBuf : Space → Nat
  | .hbm => 5
  | .vmem => 11
  | .smem => 0
  | _ => 0

abbrev bufTy : (tb : Table) → Fin (tcTables nBuf tb) → BufTy
  | .hbm, ⟨0, _⟩ => ⟨S8x9216x128, .bf16⟩
  | .hbm, ⟨1, _⟩ => ⟨S9216x256, .bf16⟩
  | .hbm, ⟨2, _⟩ => ⟨S9216x256, .bf16⟩
  | .hbm, ⟨3, _⟩ => ⟨S256x256, .bf16⟩
  | .hbm, ⟨4, _⟩ => ⟨S8192x1024, .bf16⟩
  | .local _ .vmem, ⟨0, _⟩ => ⟨S4x256x128, .bf16⟩
  | .local _ .vmem, ⟨1, _⟩ => ⟨S4x256x128, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S256x256, .bf16⟩
  | .local _ .vmem, ⟨7, _⟩ => ⟨S256x512, .bf16⟩
  | .local _ .vmem, ⟨8, _⟩ => ⟨S256x512, .bf16⟩
  | .local _ .vmem, ⟨9, _⟩ => ⟨S1024x1, .f32⟩
  | .local _ .vmem, ⟨10, _⟩ => ⟨S1024x128, .f32⟩
  | _, _ => ⟨S8x9216x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨4, ![4, 2, 8, 8], ![false, false, false, false]⟩

def k0_cond4 (i : grid0.Coords) : BitVec 1 :=
  let arg3 : BitVec 32 := BitVec.ofNat 32 (i 3).val
  let c7_i32 : BitVec 32 := 7#32
  let v11 : BitVec 1 := Scalar.cmpi .eq arg3 c7_i32
  let v12 : BitVec 32 := Scalar.extui v11
  let c0_i32_5 : BitVec 32 := 0#32
  let v13 : BitVec 1 := Scalar.cmpi .ne v12 c0_i32_5
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  ![arg1.toNat, v1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let v1 : BitVec 32 := Scalar.subi arg2 arg3
  let c0_i32 : BitVec 32 := 0#32
  let v2 : BitVec 32 := Scalar.maxsi v1 c0_i32
  let v3 : BitVec 32 := Scalar.addi v0 v2
  let c0_i32_0 : BitVec 32 := 0#32
  ![v3.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let v1 : BitVec 32 := Scalar.subi arg2 arg3
  let c0_i32 : BitVec 32 := 0#32
  let v2 : BitVec 32 := Scalar.maxsi v1 c0_i32
  let v3 : BitVec 32 := Scalar.addi v0 v2
  let c0_i32_0 : BitVec 32 := 0#32
  ![v3.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S4x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true, true]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false, false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true, false]
-- ==== SbReferenceIdeal.lean ====
abbrev S8x9216x128 : Shape := ⟨3, ![8, 9216, 128]⟩
abbrev S9216x256 : Shape := ⟨2, ![9216, 256]⟩
abbrev S8x8192x128 : Shape := ⟨3, ![8, 8192, 128]⟩
abbrev S2x4x4x2048x128 : Shape := ⟨5, ![2, 4, 4, 2048, 128]⟩
abbrev S4x2048x2x4x128 : Shape := ⟨5, ![4, 2048, 2, 4, 128]⟩
abbrev S8192x256 : Shape := ⟨2, ![8192, 256]⟩
abbrev S4x2048x2x128 : Shape := ⟨4, ![4, 2048, 2, 128]⟩
abbrev S4x2x2048x2048x4 : Shape := ⟨5, ![4, 2, 2048, 2048, 4]⟩
abbrev S4x2x4x2048x2048 : Shape := ⟨5, ![4, 2, 4, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x2x128x4x2048 : Shape := ⟨5, ![4, 2, 128, 4, 2048]⟩
abbrev S8192x1024 : Shape := ⟨2, ![8192, 1024]⟩

abbrev nBuf : Space → Nat
  | .hbm => 77
  | .vmem => 0
  | .smem => 0
  | _ => 0

abbrev bufTy : (tb : Table) → Fin (tcTables nBuf tb) → BufTy
  | .hbm, ⟨0, _⟩ => ⟨S8x9216x128, .bf16⟩
  | .hbm, ⟨1, _⟩ => ⟨S9216x256, .bf16⟩
  | .hbm, ⟨2, _⟩ => ⟨S9216x256, .bf16⟩
  | .hbm, ⟨3, _⟩ => ⟨S8x9216x128, .f32⟩
  | .hbm, ⟨4, _⟩ => ⟨S8x8192x128, .f32⟩
  | .hbm, ⟨5, _⟩ => ⟨S2x4x4x2048x128, .f32⟩
  | .hbm, ⟨6, _⟩ => ⟨S4x2048x2x4x128, .f32⟩
  | .hbm, ⟨7, _⟩ => ⟨S9216x256, .f32⟩
  | .hbm, ⟨8, _⟩ => ⟨S8192x256, .f32⟩
  | .hbm, ⟨9, _⟩ => ⟨S4x2048x2x128, .f32⟩
  | .hbm, ⟨10, _⟩ => ⟨S9216x256, .f32⟩
  | .hbm, ⟨11, _⟩ => ⟨S8192x256, .f32⟩
  | .hbm, ⟨12, _⟩ => ⟨S4x2048x2x128, .f32⟩
  | .hbm, ⟨13, _⟩ => ⟨S4x2x2048x2048x4, .f32⟩
  | .hbm, ⟨14, _⟩ => ⟨S4x2x4x2048x2048, .f32⟩
  | .hbm, ⟨15, _⟩ => ⟨S_, .f32⟩
  | .hbm, ⟨16, _⟩ => ⟨S4x2x4x2048x2048, .f32⟩
  | .hbm, ⟨17, _⟩ => ⟨S4x2x4x2048x2048, .f32⟩
  | .hbm, ⟨18, _⟩ => ⟨S2048, .i32⟩
  | .hbm, ⟨19, _⟩ => ⟨S1x2048, .i32⟩
  | .hbm, ⟨20, _⟩ => ⟨S2048x1, .i32⟩
  | .hbm, ⟨21, _⟩ => ⟨S2048x2048, .i32⟩
  | .hbm, ⟨22, _⟩ => ⟨S2048x2048, .i32⟩
  | .hbm, ⟨23, _⟩ => ⟨S2048x2048, .i1⟩
  | .hbm, ⟨24, _⟩ => ⟨S4x2x4x2048x2048, .f32⟩
  | .hbm, ⟨25, _⟩ => ⟨S4x2x4x2048x2048, .f32⟩
  | .hbm, ⟨26, _⟩ => ⟨S_, .f32⟩
  | .hbm, ⟨27, _⟩ => ⟨S4x2x4x2048x2048, .f32⟩
  | .hbm, ⟨28, _⟩ => ⟨S4x2x4x2048x2048, .f32⟩
  | .hbm, ⟨29, _⟩ => ⟨S4x2x4x2048x2048, .f32⟩
  | .hbm, ⟨30, _⟩ => ⟨S4x2x4x2048x2048, .f32⟩
  | .hbm, ⟨31, _⟩ => ⟨S4x2x4x2048x2048, .i1⟩
  | .hbm, ⟨32, _⟩ => ⟨S4x2x4x2048x2048, .f32⟩
  | .hbm, ⟨33, _⟩ => ⟨S4x2x4x2048x2048, .f32⟩
  | .hbm, ⟨34, _⟩ => ⟨S4x2x4x2048x2048, .f32⟩
  | .hbm, ⟨35, _⟩ => ⟨S4x2x4x2048x2048, .f32⟩
  | .hbm, ⟨36, _⟩ => ⟨S4x2x4x2048x2048, .f32⟩
  | .hbm, ⟨37, _⟩ => ⟨S4x2x4x2048x2048, .f32⟩
  | .hbm, ⟨38, _⟩ => ⟨S4x2x4x2048x2048, .f32⟩
  | .hbm, ⟨39, _⟩ => ⟨S4x2x4x2048x2048, .f32⟩
  | .hbm, ⟨40, _⟩ => ⟨S4x2x4x2048x2048, .f32⟩
  | .hbm, ⟨41, _⟩ => ⟨S_, .f32⟩
  | .hbm, ⟨42, _⟩ => ⟨S_, .f32⟩
  | .hbm, ⟨43, _⟩ => ⟨S4x2x4x2048x2048, .i1⟩
  | .hbm, ⟨44, _⟩ => ⟨S4x2x4x2048x2048, .f32⟩
  | .hbm, ⟨45, _⟩ => ⟨S4x2x4x2048x2048, .f32⟩
  | .hbm, ⟨46, _⟩ => ⟨S_, .f32⟩
  | .hbm, ⟨47, _⟩ => ⟨S_, .f32⟩
  | .hbm, ⟨48, _⟩ => ⟨S4x2x4x2048x2048, .f32⟩
  | .hbm, ⟨49, _⟩ => ⟨S4x2x4x2048x2048, .f32⟩
  | .hbm, ⟨50, _⟩ => ⟨S4x2x4x2048x2048, .f32⟩
  | .hbm, ⟨51, _⟩ => ⟨S_, .f32⟩
  | .hbm, ⟨52, _⟩ => ⟨S4x2x4x2048x2048, .f32⟩
  | .hbm, ⟨53, _⟩ => ⟨S4x2x4x2048x2048, .f32⟩
  | .hbm, ⟨54, _⟩ => ⟨S4x2x4x2048x2048, .f32⟩
  | .hbm, ⟨55, _⟩ => ⟨S4x2x4x2048x2048, .f32⟩
  | .hbm, ⟨56, _⟩ => ⟨S4x2x4x2048x2048, .i1⟩
  | .hbm, ⟨57, _⟩ => ⟨S4x2x4x2048x2048, .f32⟩
  | .hbm, ⟨58, _⟩ => ⟨S4x2x4x2048x2048, .f32⟩
  | .hbm, ⟨59, _⟩ => ⟨S4x2x4x2048x2048, .f32⟩
  | .hbm, ⟨60, _⟩ => ⟨S4x2x4x2048x2048, .f32⟩
  | .hbm, ⟨61, _⟩ => ⟨S4x2x4x2048x2048, .f32⟩
  | .hbm, ⟨62, _⟩ => ⟨S4x2x4x2048x2048, .f32⟩
  | .hbm, ⟨63, _⟩ => ⟨S4x2x4x2048x2048, .f32⟩
  | .hbm, ⟨64, _⟩ => ⟨S4x2x4x2048x2048, .f32⟩
  | .hbm, ⟨65, _⟩ => ⟨S4x2x4x2048x2048, .f32⟩
  | .hbm, ⟨66, _⟩ => ⟨S4x2x4x2048x2048, .f32⟩
  | .hbm, ⟨67, _⟩ => ⟨S4x2x4x2048x2048, .f32⟩
  | .hbm, ⟨68, _⟩ => ⟨S_, .f32⟩
  | .hbm, ⟨69, _⟩ => ⟨S_, .f32⟩
  | .hbm, ⟨70, _⟩ => ⟨S4x2x4x2048x2048, .i1⟩
  | .hbm, ⟨71, _⟩ => ⟨S4x2x4x2048x2048, .f32⟩
  | .hbm, ⟨72, _⟩ => ⟨S4x2x4x2048x2048, .f32⟩
  | .hbm, ⟨73, _⟩ => ⟨S4x2x128x4x2048, .f32⟩
  | .hbm, ⟨74, _⟩ => ⟨S4x2048x2x4x128, .f32⟩
  | .hbm, ⟨75, _⟩ => ⟨S8192x1024, .f32⟩
  | .hbm, ⟨76, _⟩ => ⟨S8192x1024, .bf16⟩
  | _, _ => ⟨S8x9216x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_call0_v0 : Ref sig .tc := ⟨.hbm, 25, rfl⟩
abbrev main_call0_call0_cst : Ref sig .tc := ⟨.hbm, 26, rfl⟩
abbrev main_call0_call0_v0 : Ref sig .tc := ⟨.hbm, 27, rfl⟩
abbrev main_call0_call0_v1 : Ref sig .tc := ⟨.hbm, 28, rfl⟩
abbrev main_call0_call0_v2 : Ref sig .tc := ⟨.hbm, 29, rfl⟩
abbrev main_call0_call0_v3 : Ref sig .tc := ⟨.hbm, 30, rfl⟩
abbrev main_call0_call0_v4 : Ref sig .tc := ⟨.hbm, 31, rfl⟩
abbrev main_call0_call0_v5 : Ref sig .tc := ⟨.hbm, 32, rfl⟩
abbrev main_call0_call0_v6 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_v1 : Ref sig .tc := ⟨.hbm, 39, rfl⟩
abbrev main_v21 : Ref sig .tc := ⟨.hbm, 40, rfl⟩
abbrev main_cst_0 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v22 : Ref sig .tc := ⟨.hbm, 45, rfl⟩
abbrev main_call2_cst : Ref sig .tc := ⟨.hbm, 46, rfl⟩
abbrev main_call2_v0 : Ref sig .tc := ⟨.hbm, 47, rfl⟩
abbrev main_v23 : Ref sig .tc := ⟨.hbm, 48, rfl⟩
abbrev main_v24 : Ref sig .tc := ⟨.hbm, 49, rfl⟩
abbrev main_call3_v0 : Ref sig .tc := ⟨.hbm, 50, rfl⟩
abbrev main_call3_call0_cst : Ref sig .tc := ⟨.hbm, 51, rfl⟩
abbrev main_call3_call0_v0 : Ref sig .tc := ⟨.hbm, 52, rfl⟩
abbrev main_call3_call0_v1 : Ref sig .tc := ⟨.hbm, 53, rfl⟩
abbrev main_call3_call0_v2 : Ref sig .tc := ⟨.hbm, 54, rfl⟩
abbrev main_call3_call0_v3 : Ref sig .tc := ⟨.hbm, 55, rfl⟩
abbrev main_call3_call0_v4 : Ref sig .tc := ⟨.hbm, 56, rfl⟩
abbrev main_call3_call0_v5 : Ref sig .tc := ⟨.hbm, 57, rfl⟩
abbrev main_call3_call0_v6 : Ref sig .tc := ⟨.hbm, 58, rfl⟩
abbrev main_call3_call0_v7 : Ref sig .tc := ⟨.hbm, 59, rfl⟩
abbrev main_call3_call0_v8 : Ref sig .tc := ⟨.hbm, 60, rfl⟩
abbrev main_call3_call0_v9 : Ref sig .tc := ⟨.hbm, 61, rfl⟩
abbrev main_call3_call0_v10 : Ref sig .tc := ⟨.hbm, 62, rfl⟩
abbrev main_call3_call0_v11 : Ref sig .tc := ⟨.hbm, 63, rfl⟩
abbrev main_call3_v1 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_cst_1 : Ref sig .tc := ⟨.hbm, 68, rfl⟩
abbrev main_call4_v0 : Ref sig .tc := ⟨.hbm, 69, rfl⟩
abbrev main_call4_v1 : Ref sig .tc := ⟨.hbm, 70, rfl⟩
abbrev main_call4_v2 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩

abbrev nD : Nat := 1
abbrev τ : Topo := Topo.v7x

variable {F : FTy → Type} [FloatOps F]
-- ==== MlaPrompt.lean ====
abbrev S8x9216x512 : Shape := ⟨3, ![8, 9216, 512]⟩
abbrev S8x9216x64 : Shape := ⟨3, ![8, 9216, 64]⟩
abbrev S9216x512 : Shape := ⟨2, ![9216, 512]⟩
abbrev S9216x64 : Shape := ⟨2, ![9216, 64]⟩
abbrev S512x8x128 : Shape := ⟨3, ![512, 8, 128]⟩
abbrev S8x512x128 : Shape := ⟨3, ![8, 512, 128]⟩
abbrev S8192x1024 : Shape := ⟨2, ![8192, 1024]⟩
abbrev S8x128x512 : Shape := ⟨3, ![8, 128, 512]⟩
abbrev S8x128x64 : Shape := ⟨3, ![8, 128, 64]⟩
abbrev S512x512 : Shape := ⟨2, ![512, 512]⟩
abbrev S512x64 : Shape := ⟨2, ![512, 64]⟩
abbrev S128x1024 : Shape := ⟨2, ![128, 1024]⟩
abbrev S1024x1 : Shape := ⟨2, ![1024, 1]⟩
abbrev S1024x512 : Shape := ⟨2, ![1024, 512]⟩
abbrev S1024x64 : Shape := ⟨2, ![1024, 64]⟩
abbrev S1024 : Shape := ⟨1, ![1024]⟩
abbrev S128x512 : Shape := ⟨2, ![128, 512]⟩
abbrev S1x512x128 : Shape := ⟨3, ![1, 512, 128]⟩
abbrev S512x128 : Shape := ⟨2, ![512, 128]⟩
abbrev S128x128 : Shape := ⟨2, ![128, 128]⟩

abbrev nBuf : Space → Nat
  | .hbm => 8
  | .vmem => 14
  | .smem => 0
  | _ => 0

abbrev bufTy : (tb : Table) → Fin (tcTables nBuf tb) → BufTy
  | .hbm, ⟨0, _⟩ => ⟨S8x9216x512, .bf16⟩
  | .hbm, ⟨1, _⟩ => ⟨S8x9216x64, .bf16⟩
  | .hbm, ⟨2, _⟩ => ⟨S9216x512, .bf16⟩
  | .hbm, ⟨3, _⟩ => ⟨S9216x64, .bf16⟩
  | .hbm, ⟨4, _⟩ => ⟨S512x8x128, .f32⟩
  | .hbm, ⟨5, _⟩ => ⟨S8x512x128, .f32⟩
  | .hbm, ⟨6, _⟩ => ⟨S8x512x128, .bf16⟩
  | .hbm, ⟨7, _⟩ => ⟨S8192x1024, .bf16⟩
  | .local _ .vmem, ⟨0, _⟩ => ⟨S8x128x512, .bf16⟩
  | .local _ .vmem, ⟨1, _⟩ => ⟨S8x128x512, .bf16⟩
  | .local _ .vmem, ⟨2, _⟩ => ⟨S8x128x64, .bf16⟩
  | .local _ .vmem, ⟨3, _⟩ => ⟨S8x128x64, .bf16⟩
  | .local _ .vmem, ⟨4, _⟩ => ⟨S512x512, .bf16⟩
  | .local _ .vmem, ⟨5, _⟩ => ⟨S512x512, .bf16⟩
  | .local _ .vmem, ⟨6, _⟩ => ⟨S512x64, .bf16⟩
  | .local _ .vmem, ⟨7, _⟩ => ⟨S512x64, .bf16⟩
  | .local _ .vmem, ⟨8, _⟩ => ⟨S8x512x128, .bf16⟩
  | .local _ .vmem, ⟨9, _⟩ => ⟨S128x1024, .bf16⟩
  | .local _ .vmem, ⟨10, _⟩ => ⟨S128x1024, .bf16⟩
  | .local _ .vmem, ⟨11, _⟩ => ⟨S1024x1, .f32⟩
  | .local _ .vmem, ⟨12, _⟩ => ⟨S1024x1, .f32⟩
  | .local _ .vmem, ⟨13, _⟩ => ⟨S1024x512, .f32⟩
  | _, _ => ⟨S8x9216x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![4, 16, 4], ![false, false, false]⟩

def k0_cond3 (i : grid0.Coords) : BitVec 1 :=
  let arg2 : BitVec 32 := BitVec.ofNat 32 (i 2).val
  let c3_i32 : BitVec 32 := 3#32
  let v26 : BitVec 1 := Scalar.cmpi .eq arg2 c3_i32
  let v27 : BitVec 32 := Scalar.extui v26
  let c0_i32_9 : BitVec 32 := 0#32
  let v28 : BitVec 1 := Scalar.cmpi .ne v27 c0_i32_9
  v28

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c1_i32 : BitVec 32 := 1#32
  let v1 : BitVec 32 := Scalar.addi arg1 c1_i32
  let c128_i32 : BitVec 32 := 128#32
  let v2 : BitVec 32 := Scalar.muli v1 c128_i32
  let c1_i32_0 : BitVec 32 := 1#32
  let v3 : BitVec 32 := Scalar.subi v2 c1_i32_0
  let c512_i32 : BitVec 32 := 512#32
  let v4 : BitVec 32 := Scalar.divsi v3 c512_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c512_i32 c0_i32_2
  let v11 : BitVec 32 := Scalar.extui v10
  let c0_i32_3 : BitVec 32 := 0#32
  let v12 : BitVec 1 := Scalar.cmpi .slt c512_i32 c0_i32_3
  let v13 : BitVec 32 := Scalar.extui v12
  let v14 : BitVec 32 := Scalar.subi v11 v13
  let v15 : BitVec 1 := Scalar.cmpi .ne v9 v14
  let v16 : BitVec 32 := Scalar.remsi v3 c512_i32
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let v21 : BitVec 32 := Scalar.minsi arg2 v20
  let v22 : BitVec 32 := Scalar.addi v0 v21
  let c0_i32_6 : BitVec 32 := 0#32
  let c0_i32_7 : BitVec 32 := 0#32
  ![v22.toNat, c0_i32_6.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c1_i32 : BitVec 32 := 1#32
  let v1 : BitVec 32 := Scalar.addi arg1 c1_i32
  let c128_i32 : BitVec 32 := 128#32
  let v2 : BitVec 32 := Scalar.muli v1 c128_i32
  let c1_i32_0 : BitVec 32 := 1#32
  let v3 : BitVec 32 := Scalar.subi v2 c1_i32_0
  let c512_i32 : BitVec 32 := 512#32
  let v4 : BitVec 32 := Scalar.divsi v3 c512_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c512_i32 c0_i32_2
  let v11 : BitVec 32 := Scalar.extui v10
  let c0_i32_3 : BitVec 32 := 0#32
  let v12 : BitVec 1 := Scalar.cmpi .slt c512_i32 c0_i32_3
  let v13 : BitVec 32 := Scalar.extui v12
  let v14 : BitVec 32 := Scalar.subi v11 v13
  let v15 : BitVec 1 := Scalar.cmpi .ne v9 v14
  let v16 : BitVec 32 := Scalar.remsi v3 c512_i32
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let v21 : BitVec 32 := Scalar.minsi arg2 v20
  let v22 : BitVec 32 := Scalar.addi v0 v21
  let c0_i32_6 : BitVec 32 := 0#32
  let c0_i32_7 : BitVec 32 := 0#32
  ![v22.toNat, c0_i32_6.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S8x128x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S512x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .vmem S8x512x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== MlaReferenceIdeal.lean ====
abbrev S8x9216x512 : Shape := ⟨3, ![8, 9216, 512]⟩
abbrev S8x9216x64 : Shape := ⟨3, ![8, 9216, 64]⟩
abbrev S9216x512 : Shape := ⟨2, ![9216, 512]⟩
abbrev S9216x64 : Shape := ⟨2, ![9216, 64]⟩
abbrev S512x8x128 : Shape := ⟨3, ![512, 8, 128]⟩
abbrev S8x8192x512 : Shape := ⟨3, ![8, 8192, 512]⟩
abbrev S8x4x2048x512 : Shape := ⟨4, ![8, 4, 2048, 512]⟩
abbrev S8x8192x64 : Shape := ⟨3, ![8, 8192, 64]⟩
abbrev S8x4x2048x64 : Shape := ⟨4, ![8, 4, 2048, 64]⟩
abbrev S8192x512 : Shape := ⟨2, ![8192, 512]⟩
abbrev S4x2048x512 : Shape := ⟨3, ![4, 2048, 512]⟩
abbrev S8192x64 : Shape := ⟨2, ![8192, 64]⟩
abbrev S4x2048x64 : Shape := ⟨3, ![4, 2048, 64]⟩
abbrev S4x8x2048x2048 : Shape := ⟨4, ![4, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x8x2048 : Shape := ⟨3, ![4, 8, 2048]⟩
abbrev S4x8x2048x1 : Shape := ⟨4, ![4, 8, 2048, 1]⟩
abbrev S4x512x8x2048 : Shape := ⟨4, ![4, 512, 8, 2048]⟩
abbrev S4x2048x8x512 : Shape := ⟨4, ![4, 2048, 8, 512]⟩
abbrev S8x128x4x2048 : Shape := ⟨4, ![8, 128, 4, 2048]⟩
abbrev S4x2048x8x128 : Shape := ⟨4, ![4, 2048, 8, 128]⟩
abbrev S8192x1024 : Shape := ⟨2, ![8192, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8x9216x512, .bf16⟩
  | .hbm, ⟨1, _⟩ => ⟨S8x9216x64, .bf16⟩
  | .hbm, ⟨2, _⟩ => ⟨S9216x512, .bf16⟩
  | .hbm, ⟨3, _⟩ => ⟨S9216x64, .bf16⟩
  | .hbm, ⟨4, _⟩ => ⟨S512x8x128, .f32⟩
  | .hbm, ⟨5, _⟩ => ⟨S8x9216x512, .f32⟩
  | .hbm, ⟨6, _⟩ => ⟨S8x8192x512, .f32⟩
  | .hbm, ⟨7, _⟩ => ⟨S8x4x2048x512, .f32⟩
  | .hbm, ⟨8, _⟩ => ⟨S8x9216x64, .f32⟩
  | .hbm, ⟨9, _⟩ => ⟨S8x8192x64, .f32⟩
  | .hbm, ⟨10, _⟩ => ⟨S8x4x2048x64, .f32⟩
  | .hbm, ⟨11, _⟩ => ⟨S9216x512, .f32⟩
  | .hbm, ⟨12, _⟩ => ⟨S8192x512, .f32⟩
  | .hbm, ⟨13, _⟩ => ⟨S4x2048x512, .f32⟩
  | .hbm, ⟨14, _⟩ => ⟨S9216x64, .f32⟩
  | .hbm, ⟨15, _⟩ => ⟨S8192x64, .f32⟩
  | .hbm, ⟨16, _⟩ => ⟨S4x2048x64, .f32⟩
  | .hbm, ⟨17, _⟩ => ⟨S4x8x2048x2048, .f32⟩
  | .hbm, ⟨18, _⟩ => ⟨S4x8x2048x2048, .f32⟩
  | .hbm, ⟨19, _⟩ => ⟨S4x8x2048x2048, .f32⟩
  | .hbm, ⟨20, _⟩ => ⟨S_, .f32⟩
  | .hbm, ⟨21, _⟩ => ⟨S4x8x2048x2048, .f32⟩
  | .hbm, ⟨22, _⟩ => ⟨S4x8x2048x2048, .f32⟩
  | .hbm, ⟨23, _⟩ => ⟨S2048, .i32⟩
  | .hbm, ⟨24, _⟩ => ⟨S1x2048, .i32⟩
  | .hbm, ⟨25, _⟩ => ⟨S2048x1, .i32⟩
  | .hbm, ⟨26, _⟩ => ⟨S2048x2048, .i32⟩
  | .hbm, ⟨27, _⟩ => ⟨S2048x2048, .i32⟩
  | .hbm, ⟨28, _⟩ => ⟨S2048x2048, .i1⟩
  | .hbm, ⟨29, _⟩ => ⟨S_, .f32⟩
  | .hbm, ⟨30, _⟩ => ⟨S_, .f32⟩
  | .hbm, ⟨31, _⟩ => ⟨S4x8x2048x2048, .i1⟩
  | .hbm, ⟨32, _⟩ => ⟨S4x8x2048x2048, .f32⟩
  | .hbm, ⟨33, _⟩ => ⟨S4x8x2048x2048, .f32⟩
  | .hbm, ⟨34, _⟩ => ⟨S_, .f32⟩
  | .hbm, ⟨35, _⟩ => ⟨S4x8x2048, .f32⟩
  | .hbm, ⟨36, _⟩ => ⟨S_, .f32⟩
  | .hbm, ⟨37, _⟩ => ⟨S4x8x2048, .f32⟩
  | .hbm, ⟨38, _⟩ => ⟨S4x8x2048, .f32⟩
  | .hbm, ⟨39, _⟩ => ⟨S4x8x2048x1, .f32⟩
  | .hbm, ⟨40, _⟩ => ⟨S4x8x2048x2048, .f32⟩
  | .hbm, ⟨41, _⟩ => ⟨S4x8x2048x2048, .f32⟩
  | .hbm, ⟨42, _⟩ => ⟨S4x8x2048x2048, .f32⟩
  | .hbm, ⟨43, _⟩ => ⟨S_, .f32⟩
  | .hbm, ⟨44, _⟩ => ⟨S4x8x2048, .f32⟩
  | .hbm, ⟨45, _⟩ => ⟨S4x8x2048x1, .f32⟩
  | .hbm, ⟨46, _⟩ => ⟨S4x8x2048x2048, .f32⟩
  | .hbm, ⟨47, _⟩ => ⟨S4x8x2048x2048, .f32⟩
  | .hbm, ⟨48, _⟩ => ⟨S4x512x8x2048, .f32⟩
  | .hbm, ⟨49, _⟩ => ⟨S4x2048x8x512, .f32⟩
  | .hbm, ⟨50, _⟩ => ⟨S8x128x4x2048, .f32⟩
  | .hbm, ⟨51, _⟩ => ⟨S4x2048x8x128, .f32⟩
  | .hbm, ⟨52, _⟩ => ⟨S8192x1024, .f32⟩
  | .hbm, ⟨53, _⟩ => ⟨S8192x1024, .bf16⟩
  | _, _ => ⟨S8x9216x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_0 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Moe.lean ====
abbrev S104 : Shape := ⟨1, ![104]⟩
abbrev S1 : Shape := ⟨1, ![1]⟩
abbrev S26624x2048 : Shape := ⟨2, ![26624, 2048]⟩
abbrev S26624x1 : Shape := ⟨2, ![26624, 1]⟩
abbrev S32x2048x512 : Shape := ⟨3, ![32, 2048, 512]⟩
abbrev S32x512x2048 : Shape := ⟨3, ![32, 512, 2048]⟩
abbrev S256x2048 : Shape := ⟨2, ![256, 2048]⟩
abbrev S256x1 : Shape := ⟨2, ![256, 1]⟩
abbrev S1x2048x512 : Shape := ⟨3, ![1, 2048, 512]⟩
abbrev S1x512x2048 : Shape := ⟨3, ![1, 512, 2048]⟩
abbrev S2048x512 : Shape := ⟨2, ![2048, 512]⟩
abbrev S256x512 : Shape := ⟨2, ![256, 512]⟩
abbrev S512x2048 : Shape := ⟨2, ![512, 2048]⟩

abbrev nBuf : Space → Nat
  | .hbm => 6
  | .vmem => 12
  | .smem => 2
  | _ => 0

abbrev bufTy : (tb : Table) → Fin (tcTables nBuf tb) → BufTy
  | .hbm, ⟨0, _⟩ => ⟨S26624x2048, .f32⟩
  | .hbm, ⟨1, _⟩ => ⟨S26624x1, .f32⟩
  | .hbm, ⟨2, _⟩ => ⟨S32x2048x512, .bf16⟩
  | .hbm, ⟨3, _⟩ => ⟨S32x2048x512, .bf16⟩
  | .hbm, ⟨4, _⟩ => ⟨S32x512x2048, .bf16⟩
  | .hbm, ⟨5, _⟩ => ⟨S26624x2048, .f32⟩
  | .local _ .vmem, ⟨0, _⟩ => ⟨S256x2048, .f32⟩
  | .local _ .vmem, ⟨1, _⟩ => ⟨S256x2048, .f32⟩
  | .local _ .vmem, ⟨2, _⟩ => ⟨S256x1, .f32⟩
  | .local _ .vmem, ⟨3, _⟩ => ⟨S256x1, .f32⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x512x2048, .bf16⟩
  | .local _ .vmem, ⟨9, _⟩ => ⟨S1x512x2048, .bf16⟩
  | .local _ .vmem, ⟨10, _⟩ => ⟨S256x2048, .f32⟩
  | .local _ .vmem, ⟨11, _⟩ => ⟨S256x2048, .f32⟩
  | .local _ .smem, ⟨0, _⟩ => ⟨S104, .i32⟩
  | .local _ .smem, ⟨1, _⟩ => ⟨S1, .i32⟩
  | _, _ => ⟨S26624x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![104], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (k0_off1_inb : ∀ i : grid0.Coords, ∀ a, (k0_off1 i) a + S1.size a ≤ S104.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S104) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S104.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S104) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S104.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S104) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MoeReferenceIdeal.lean ====
abbrev S104 : Shape := ⟨1, ![104]⟩
abbrev S1 : Shape := ⟨1, ![1]⟩
abbrev S26624x2048 : Shape := ⟨2, ![26624, 2048]⟩
abbrev S26624x1 : Shape := ⟨2, ![26624, 1]⟩
abbrev S32x2048x512 : Shape := ⟨3, ![32, 2048, 512]⟩
abbrev S32x512x2048 : Shape := ⟨3, ![32, 512, 2048]⟩
abbrev S104x256 : Shape := ⟨2, ![104, 256]⟩
abbrev S26624 : Shape := ⟨1, ![26624]⟩
abbrev S_ : Shape := ⟨0, ![]⟩
abbrev S32 : Shape := ⟨1, ![32]⟩
abbrev S1x32 : Shape := ⟨2, ![1, 32]⟩
abbrev S26624x32 : Shape := ⟨2, ![26624, 32]⟩
abbrev S26624x32x512 : Shape := ⟨3, ![26624, 32, 512]⟩
abbrev S26624x32x1 : Shape := ⟨3, ![26624, 32, 1]⟩

abbrev nBuf : Space → Nat
  | .hbm => 53
  | .vmem => 0
  | .smem => 0
  | _ => 0

abbrev bufTy : (tb : Table) → Fin (tcTables nBuf tb) → BufTy
  | .hbm, ⟨0, _⟩ => ⟨S104, .i32⟩
  | .hbm, ⟨1, _⟩ => ⟨S1, .i32⟩
  | .hbm, ⟨2, _⟩ => ⟨S26624x2048, .f32⟩
  | .hbm, ⟨3, _⟩ => ⟨S26624x1, .f32⟩
  | .hbm, ⟨4, _⟩ => ⟨S32x2048x512, .bf16⟩
  | .hbm, ⟨5, _⟩ => ⟨S32x2048x512, .bf16⟩
  | .hbm, ⟨6, _⟩ => ⟨S32x512x2048, .bf16⟩
  | .hbm, ⟨7, _⟩ => ⟨S104x256, .i32⟩
  | .hbm, ⟨8, _⟩ => ⟨S26624, .i32⟩
  | .hbm, ⟨9, _⟩ => ⟨S104, .i32⟩
  | .hbm, ⟨10, _⟩ => ⟨S_, .i32⟩
  | .hbm, ⟨11, _⟩ => ⟨S104, .i32⟩
  | .hbm, ⟨12, _⟩ => ⟨S104, .i1⟩
  | .hbm, ⟨13, _⟩ => ⟨S104x256, .i1⟩
  | .hbm, ⟨14, _⟩ => ⟨S26624, .i1⟩
  | .hbm, ⟨15, _⟩ => ⟨S26624x1, .i32⟩
  | .hbm, ⟨16, _⟩ => ⟨S32, .i32⟩
  | .hbm, ⟨17, _⟩ => ⟨S1x32, .i32⟩
  | .hbm, ⟨18, _⟩ => ⟨S26624x32, .i32⟩
  | .hbm, ⟨19, _⟩ => ⟨S26624x32, .i32⟩
  | .hbm, ⟨20, _⟩ => ⟨S26624x32, .i1⟩
  | .hbm, ⟨21, _⟩ => ⟨S_, .f32⟩
  | .hbm, ⟨22, _⟩ => ⟨S_, .f32⟩
  | .hbm, ⟨23, _⟩ => ⟨S26624x32, .f32⟩
  | .hbm, ⟨24, _⟩ => ⟨S26624x32, .f32⟩
  | .hbm, ⟨25, _⟩ => ⟨S26624x32, .f32⟩
  | .hbm, ⟨26, _⟩ => ⟨S26624x1, .i1⟩
  | .hbm, ⟨27, _⟩ => ⟨S_, .f32⟩
  | .hbm, ⟨28, _⟩ => ⟨S_, .f32⟩
  | .hbm, ⟨29, _⟩ => ⟨S26624x1, .f32⟩
  | .hbm, ⟨30, _⟩ => ⟨S26624x1, .f32⟩
  | .hbm, ⟨31, _⟩ => ⟨S26624x32, .f32⟩
  | .hbm, ⟨32, _⟩ => ⟨S26624x32, .f32⟩
  | .hbm, ⟨33, _⟩ => ⟨S26624x32, .f32⟩
  | .hbm, ⟨34, _⟩ => ⟨S32x2048x512, .f32⟩
  | .hbm, ⟨35, _⟩ => ⟨S26624x32x512, .f32⟩
  | .hbm, ⟨36, _⟩ => ⟨S26624x32x512, .f32⟩
  | .hbm, ⟨37, _⟩ => ⟨S26624x32x512, .f32⟩
  | .hbm, ⟨38, _⟩ => ⟨S_, .f32⟩
  | .hbm, ⟨39, _⟩ => ⟨S26624x32x512, .f32⟩
  | .hbm, ⟨40, _⟩ => ⟨S26624x32x512, .f32⟩
  | .hbm, ⟨41, _⟩ => ⟨S_, .f32⟩
  | .hbm, ⟨42, _⟩ => ⟨S26624x32x512, .f32⟩
  | .hbm, ⟨43, _⟩ => ⟨S26624x32x512, .f32⟩
  | .hbm, ⟨44, _⟩ => ⟨S26624x32x512, .f32⟩
  | .hbm, ⟨45, _⟩ => ⟨S32x2048x512, .f32⟩
  | .hbm, ⟨46, _⟩ => ⟨S26624x32x512, .f32⟩
  | .hbm, ⟨47, _⟩ => ⟨S26624x32x512, .f32⟩
  | .hbm, ⟨48, _⟩ => ⟨S26624x32x1, .f32⟩
  | .hbm, ⟨49, _⟩ => ⟨S26624x32x512, .f32⟩
  | .hbm, ⟨50, _⟩ => ⟨S26624x32x512, .f32⟩
  | .hbm, ⟨51, _⟩ => ⟨S32x512x2048, .f32⟩
  | .hbm, ⟨52, _⟩ => ⟨S26624x2048, .f32⟩
  | _, _ => ⟨S104, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_call1_v0 : Ref sig .tc := ⟨.hbm, 28, rfl⟩
abbrev main_call1_v1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_call2_v0 : Ref sig .tc := ⟨.hbm, 36, rfl⟩
abbrev main_call2_v1 : Ref sig .tc := ⟨.hbm, 37, rfl⟩
abbrev main_call2_cst : Ref sig .tc := ⟨.hbm, 38, rfl⟩
abbrev main_call2_v2 : Ref sig .tc := ⟨.hbm, 39, rfl⟩
abbrev main_call2_v3 : Ref sig .tc := ⟨.hbm, 40, rfl⟩
abbrev main_call2_cst_0 : Ref sig .tc := ⟨.hbm, 41, rfl⟩
abbrev main_call2_v4 : Ref sig .tc := ⟨.hbm, 42, rfl⟩
abbrev main_call2_v5 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩

abbrev nD : Nat := 1
abbrev τ : Topo := Topo.v7x

variable {F : FTy → Type} [FloatOps F]
-- ==== Inproj.lean ====
abbrev S9216x2048 : Shape := ⟨2, ![9216, 2048]⟩
abbrev S2048 : Shape := ⟨1, ![2048]⟩
abbrev S2048x7168 : Shape := ⟨2, ![2048, 7168]⟩
abbrev S1x2048 : Shape := ⟨2, ![1, 2048]⟩
abbrev S9216x7168 : Shape := ⟨2, ![9216, 7168]⟩
abbrev S512x2048 : Shape := ⟨2, ![512, 2048]⟩
abbrev S2048x1024 : Shape := ⟨2, ![2048, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S9216x2048, .f32⟩
  | .hbm, ⟨1, _⟩ => ⟨S2048, .f32⟩
  | .hbm, ⟨2, _⟩ => ⟨S2048x7168, .bf16⟩
  | .hbm, ⟨3, _⟩ => ⟨S1x2048, .f32⟩
  | .hbm, ⟨4, _⟩ => ⟨S9216x7168, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S512x1024, .f32⟩
  | .local _ .vmem, ⟨6, _⟩ => ⟨S512x1024, .f32⟩
  | .local _ .vmem, ⟨7, _⟩ => ⟨S512x2048, .bf16⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![18, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InprojReferenceIdeal.lean ====
abbrev S9216x2048 : Shape := ⟨2, ![9216, 2048]⟩
abbrev S2048 : Shape := ⟨1, ![2048]⟩
abbrev S2048x7168 : Shape := ⟨2, ![2048, 7168]⟩
abbrev S_ : Shape := ⟨0, ![]⟩
abbrev S9216 : Shape := ⟨1, ![9216]⟩
abbrev S9216x1 : Shape := ⟨2, ![9216, 1]⟩
abbrev S1x2048 : Shape := ⟨2, ![1, 2048]⟩
abbrev S9216x7168 : Shape := ⟨2, ![9216, 7168]⟩

abbrev nBuf : Space → Nat
  | .hbm => 21
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S2048, .f32⟩
  | .hbm, ⟨2, _⟩ => ⟨S2048x7168, .bf16⟩
  | .hbm, ⟨3, _⟩ => ⟨S9216x2048, .f32⟩
  | .hbm, ⟨4, _⟩ => ⟨S_, .f32⟩
  | .hbm, ⟨5, _⟩ => ⟨S9216, .f32⟩
  | .hbm, ⟨6, _⟩ => ⟨S9216x1, .f32⟩
  | .hbm, ⟨7, _⟩ => ⟨S_, .f32⟩
  | .hbm, ⟨8, _⟩ => ⟨S9216x1, .f32⟩
  | .hbm, ⟨9, _⟩ => ⟨S9216x1, .f32⟩
  | .hbm, ⟨10, _⟩ => ⟨S_, .f32⟩
  | .hbm, ⟨11, _⟩ => ⟨S9216x1, .f32⟩
  | .hbm, ⟨12, _⟩ => ⟨S9216x1, .f32⟩
  | .hbm, ⟨13, _⟩ => ⟨S9216x1, .f32⟩
  | .hbm, ⟨14, _⟩ => ⟨S9216x2048, .f32⟩
  | .hbm, ⟨15, _⟩ => ⟨S9216x2048, .f32⟩
  | .hbm, ⟨16, _⟩ => ⟨S1x2048, .f32⟩
  | .hbm, ⟨17, _⟩ => ⟨S9216x2048, .f32⟩
  | .hbm, ⟨18, _⟩ => ⟨S9216x2048, .f32⟩
  | .hbm, ⟨19, _⟩ => ⟨S2048x7168, .f32⟩
  | .hbm, ⟨20, _⟩ => ⟨S9216x7168, .f32⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Merge.lean ====
abbrev S9216x1024 : Shape := ⟨2, ![9216, 1024]⟩
abbrev S9216x7168 : Shape := ⟨2, ![9216, 7168]⟩
abbrev S1024x2048 : Shape := ⟨2, ![1024, 2048]⟩
abbrev S9216x2048 : Shape := ⟨2, ![9216, 2048]⟩
abbrev S512x1024 : Shape := ⟨2, ![512, 1024]⟩
abbrev S1024x1024 : Shape := ⟨2, ![1024, 1024]⟩

abbrev nBuf : Space → Nat
  | .hbm => 8
  | .vmem => 14
  | .smem => 0
  | _ => 0

abbrev bufTy : (tb : Table) → Fin (tcTables nBuf tb) → BufTy
  | .hbm, ⟨0, _⟩ => ⟨S9216x1024, .bf16⟩
  | .hbm, ⟨1, _⟩ => ⟨S9216x1024, .bf16⟩
  | .hbm, ⟨2, _⟩ => ⟨S9216x7168, .f32⟩
  | .hbm, ⟨3, _⟩ => ⟨S1024x2048, .f32⟩
  | .hbm, ⟨4, _⟩ => ⟨S1024x2048, .f32⟩
  | .hbm, ⟨5, _⟩ => ⟨S1024x2048, .bf16⟩
  | .hbm, ⟨6, _⟩ => ⟨S1024x2048, .bf16⟩
  | .hbm, ⟨7, _⟩ => ⟨S9216x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S512x1024, .bf16⟩
  | .local _ .vmem, ⟨13, _⟩ => ⟨S512x1024, .bf16⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![18, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeReferenceIdeal.lean ====
abbrev S9216x1024 : Shape := ⟨2, ![9216, 1024]⟩
abbrev S9216x7168 : Shape := ⟨2, ![9216, 7168]⟩
abbrev S1024x2048 : Shape := ⟨2, ![1024, 2048]⟩
abbrev S9216x2048 : Shape := ⟨2, ![9216, 2048]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S9216x1024, .bf16⟩
  | .hbm, ⟨2, _⟩ => ⟨S9216x7168, .f32⟩
  | .hbm, ⟨3, _⟩ => ⟨S1024x2048, .f32⟩
  | .hbm, ⟨4, _⟩ => ⟨S1024x2048, .f32⟩
  | .hbm, ⟨5, _⟩ => ⟨S9216x2048, .f32⟩
  | .hbm, ⟨6, _⟩ => ⟨S9216x2048, .f32⟩
  | .hbm, ⟨7, _⟩ => ⟨S9216x1024, .f32⟩
  | .hbm, ⟨8, _⟩ => ⟨S9216x2048, .f32⟩
  | .hbm, ⟨9, _⟩ => ⟨S9216x1024, .f32⟩
  | .hbm, ⟨10, _⟩ => ⟨S9216x2048, .f32⟩
  | .hbm, ⟨11, _⟩ => ⟨S9216x2048, .f32⟩
  | .hbm, ⟨12, _⟩ => ⟨S9216x2048, .f32⟩
  | .hbm, ⟨13, _⟩ => ⟨S_, .f32⟩
  | .hbm, ⟨14, _⟩ => ⟨S9216x2048, .f32⟩
  | .hbm, ⟨15, _⟩ => ⟨S9216x2048, .f32⟩
  | .hbm, ⟨16, _⟩ => ⟨S_, .f32⟩
  | .hbm, ⟨17, _⟩ => ⟨S9216x2048, .f32⟩
  | .hbm, ⟨18, _⟩ => ⟨S9216x2048, .f32⟩
  | .hbm, ⟨19, _⟩ => ⟨S9216x2048, .f32⟩
  | .hbm, ⟨20, _⟩ => ⟨S9216x2048, .f32⟩
  | .hbm, ⟨21, _⟩ => ⟨S9216x2048, .f32⟩
  | .hbm, ⟨22, _⟩ => ⟨S_, .f32⟩
  | .hbm, ⟨23, _⟩ => ⟨S9216x2048, .f32⟩
  | .hbm, ⟨24, _⟩ => ⟨S9216x2048, .f32⟩
  | .hbm, ⟨25, _⟩ => ⟨S_, .f32⟩
  | .hbm, ⟨26, _⟩ => ⟨S9216x2048, .f32⟩
  | .hbm, ⟨27, _⟩ => ⟨S9216x2048, .f32⟩
  | .hbm, ⟨28, _⟩ => ⟨S9216x2048, .f32⟩
  | .hbm, ⟨29, _⟩ => ⟨S9216x2048, .f32⟩
  | .hbm, ⟨30, _⟩ => ⟨S9216x2048, .bf16⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Outproj.lean ====
abbrev S9216x2048 : Shape := ⟨2, ![9216, 2048]⟩
abbrev S2048x2048 : Shape := ⟨2, ![2048, 2048]⟩
abbrev S2048 : Shape := ⟨1, ![2048]⟩
abbrev S2048x128 : Shape := ⟨2, ![2048, 128]⟩
abbrev S128 : Shape := ⟨1, ![128]⟩
abbrev S1x2048 : Shape := ⟨2, ![1, 2048]⟩
abbrev S1x128 : Shape := ⟨2, ![1, 128]⟩
abbrev S9216x128 : Shape := ⟨2, ![9216, 128]⟩
abbrev S256x2048 : Shape := ⟨2, ![256, 2048]⟩
abbrev S256x128 : Shape := ⟨2, ![256, 128]⟩
abbrev S256 : Shape := ⟨1, ![256]⟩
abbrev S256x1 : Shape := ⟨2, ![256, 1]⟩

abbrev nBuf : Space → Nat
  | .hbm => 12
  | .vmem => 14
  | .smem => 0
  | _ => 0

abbrev bufTy : (tb : Table) → Fin (tcTables nBuf tb) → BufTy
  | .hbm, ⟨0, _⟩ => ⟨S9216x2048, .bf16⟩
  | .hbm, ⟨1, _⟩ => ⟨S9216x2048, .f32⟩
  | .hbm, ⟨2, _⟩ => ⟨S2048x2048, .f32⟩
  | .hbm, ⟨3, _⟩ => ⟨S2048, .f32⟩
  | .hbm, ⟨4, _⟩ => ⟨S2048x128, .f32⟩
  | .hbm, ⟨5, _⟩ => ⟨S128, .f32⟩
  | .hbm, ⟨6, _⟩ => ⟨S2048x2048, .bf16⟩
  | .hbm, ⟨7, _⟩ => ⟨S1x2048, .f32⟩
  | .hbm, ⟨8, _⟩ => ⟨S1x128, .f32⟩
  | .hbm, ⟨9, _⟩ => ⟨S9216x2048, .f32⟩
  | .hbm, ⟨10, _⟩ => ⟨S9216x2048, .f32⟩
  | .hbm, ⟨11, _⟩ => ⟨S9216x128, .f32⟩
  | .local _ .vmem, ⟨0, _⟩ => ⟨S256x2048, .bf16⟩
  | .local _ .vmem, ⟨1, _⟩ => ⟨S256x2048, .bf16⟩
  | .local _ .vmem, ⟨2, _⟩ => ⟨S256x2048, .f32⟩
  | .local _ .vmem, ⟨3, _⟩ => ⟨S256x2048, .f32⟩
  | .local _ .vmem, ⟨4, _⟩ => ⟨S2048x2048, .bf16⟩
  | .local _ .vmem, ⟨5, _⟩ => ⟨S1x2048, .f32⟩
  | .local _ .vmem, ⟨6, _⟩ => ⟨S2048x128, .f32⟩
  | .local _ .vmem, ⟨7, _⟩ => ⟨S1x128, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x128, .f32⟩
  | .local _ .vmem, ⟨13, _⟩ => ⟨S256x128, .f32⟩
  | _, _ => ⟨S9216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutprojReferenceIdeal.lean ====
abbrev S9216x2048 : Shape := ⟨2, ![9216, 2048]⟩
abbrev S2048x2048 : Shape := ⟨2, ![2048, 2048]⟩
abbrev S2048 : Shape := ⟨1, ![2048]⟩
abbrev S2048x128 : Shape := ⟨2, ![2048, 128]⟩
abbrev S128 : Shape := ⟨1, ![128]⟩
abbrev S_ : Shape := ⟨0, ![]⟩
abbrev S9216 : Shape := ⟨1, ![9216]⟩
abbrev S9216x1 : Shape := ⟨2, ![9216, 1]⟩
abbrev S1x2048 : Shape := ⟨2, ![1, 2048]⟩
abbrev S9216x128 : Shape := ⟨2, ![9216, 128]⟩
abbrev S1x128 : Shape := ⟨2, ![1, 128]⟩

abbrev nBuf : Space → Nat
  | .hbm => 29
  | .vmem => 0
  | .smem => 0
  | _ => 0

abbrev bufTy : (tb : Table) → Fin (tcTables nBuf tb) → BufTy
  | .hbm, ⟨0, _⟩ => ⟨S9216x2048, .bf16⟩
  | .hbm, ⟨1, _⟩ => ⟨S9216x2048, .f32⟩
  | .hbm, ⟨2, _⟩ => ⟨S2048x2048, .f32⟩
  | .hbm, ⟨3, _⟩ => ⟨S2048, .f32⟩
  | .hbm, ⟨4, _⟩ => ⟨S2048x128, .f32⟩
  | .hbm, ⟨5, _⟩ => ⟨S128, .f32⟩
  | .hbm, ⟨6, _⟩ => ⟨S9216x2048, .f32⟩
  | .hbm, ⟨7, _⟩ => ⟨S9216x2048, .f32⟩
  | .hbm, ⟨8, _⟩ => ⟨S9216x2048, .f32⟩
  | .hbm, ⟨9, _⟩ => ⟨S9216x2048, .f32⟩
  | .hbm, ⟨10, _⟩ => ⟨S_, .f32⟩
  | .hbm, ⟨11, _⟩ => ⟨S9216, .f32⟩
  | .hbm, ⟨12, _⟩ => ⟨S9216x1, .f32⟩
  | .hbm, ⟨13, _⟩ => ⟨S_, .f32⟩
  | .hbm, ⟨14, _⟩ => ⟨S9216x1, .f32⟩
  | .hbm, ⟨15, _⟩ => ⟨S9216x1, .f32⟩
  | .hbm, ⟨16, _⟩ => ⟨S_, .f32⟩
  | .hbm, ⟨17, _⟩ => ⟨S9216x1, .f32⟩
  | .hbm, ⟨18, _⟩ => ⟨S9216x1, .f32⟩
  | .hbm, ⟨19, _⟩ => ⟨S9216x1, .f32⟩
  | .hbm, ⟨20, _⟩ => ⟨S9216x2048, .f32⟩
  | .hbm, ⟨21, _⟩ => ⟨S9216x2048, .f32⟩
  | .hbm, ⟨22, _⟩ => ⟨S1x2048, .f32⟩
  | .hbm, ⟨23, _⟩ => ⟨S9216x2048, .f32⟩
  | .hbm, ⟨24, _⟩ => ⟨S9216x2048, .f32⟩
  | .hbm, ⟨25, _⟩ => ⟨S9216x128, .f32⟩
  | .hbm, ⟨26, _⟩ => ⟨S1x128, .f32⟩
  | .hbm, ⟨27, _⟩ => ⟨S9216x128, .f32⟩
  | .hbm, ⟨28, _⟩ => ⟨S9216x128, .f32⟩
  | _, _ => ⟨S9216x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Uv.lean ====
abbrev S8x1024x512 : Shape := ⟨3, ![8, 1024, 512]⟩
abbrev S512x8x128 : Shape := ⟨3, ![512, 8, 128]⟩
abbrev S8x512x128 : Shape := ⟨3, ![8, 512, 128]⟩
abbrev S1024x1024 : Shape := ⟨2, ![1024, 1024]⟩
abbrev S1x1024x512 : Shape := ⟨3, ![1, 1024, 512]⟩
abbrev S1024x512 : Shape := ⟨2, ![1024, 512]⟩
abbrev S1x512x128 : Shape := ⟨3, ![1, 512, 128]⟩
abbrev S512x128 : Shape := ⟨2, ![512, 128]⟩
abbrev S1024x128 : Shape := ⟨2, ![1024, 128]⟩

abbrev nBuf : Space → Nat
  | .hbm => 5
  | .vmem => 3
  | .smem => 0
  | _ => 0

abbrev bufTy : (tb : Table) → Fin (tcTables nBuf tb) → BufTy
  | .hbm, ⟨0, _⟩ => ⟨S8x1024x512, .bf16⟩
  | .hbm, ⟨1, _⟩ => ⟨S512x8x128, .f32⟩
  | .hbm, ⟨2, _⟩ => ⟨S8x512x128, .f32⟩
  | .hbm, ⟨3, _⟩ => ⟨S8x512x128, .bf16⟩
  | .hbm, ⟨4, _⟩ => ⟨S1024x1024, .bf16⟩
  | .local _ .vmem, ⟨0, _⟩ => ⟨S8x1024x512, .bf16⟩
  | .local _ .vmem, ⟨1, _⟩ => ⟨S8x512x128, .bf16⟩
  | .local _ .vmem, ⟨2, _⟩ => ⟨S1024x1024, .bf16⟩
  | _, _ => ⟨S8x1024x512, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x512x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== UvReferenceIdeal.lean ====
abbrev S8x1024x512 : Shape := ⟨3, ![8, 1024, 512]⟩
abbrev S512x8x128 : Shape := ⟨3, ![512, 8, 128]⟩
abbrev S8x128x1024 : Shape := ⟨3, ![8, 128, 1024]⟩
abbrev S1024x8x128 : Shape := ⟨3, ![1024, 8, 128]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8x1024x512, .bf16⟩
  | .hbm, ⟨1, _⟩ => ⟨S512x8x128, .f32⟩
  | .hbm, ⟨2, _⟩ => ⟨S8x1024x512, .f32⟩
  | .hbm, ⟨3, _⟩ => ⟨S8x128x1024, .f32⟩
  | .hbm, ⟨4, _⟩ => ⟨S1024x8x128, .f32⟩
  | .hbm, ⟨5, _⟩ => ⟨S1024x1024, .f32⟩
  | .hbm, ⟨6, _⟩ => ⟨S1024x1024, .bf16⟩
  | _, _ => ⟨S8x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Final.lean ====
abbrev S9216x2048 : Shape := ⟨2, ![9216, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 9
  | .smem => 0
  | _ => 0

abbrev bufTy : (tb : Table) → Fin (tcTables nBuf tb) → BufTy
  | .hbm, ⟨0, _⟩ => ⟨S9216x2048, .f32⟩
  | .hbm, ⟨1, _⟩ => ⟨S9216x2048, .f32⟩
  | .hbm, ⟨2, _⟩ => ⟨S9216x2048, .f32⟩
  | .hbm, ⟨3, _⟩ => ⟨S2048, .f32⟩
  | .hbm, ⟨4, _⟩ => ⟨S1x2048, .f32⟩
  | .hbm, ⟨5, _⟩ => ⟨S9216x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FinalReferenceIdeal.lean ====
abbrev S9216x2048 : Shape := ⟨2, ![9216, 2048]⟩
abbrev S2048 : Shape := ⟨1, ![2048]⟩
abbrev S_ : Shape := ⟨0, ![]⟩
abbrev S9216 : Shape := ⟨1, ![9216]⟩
abbrev S9216x1 : Shape := ⟨2, ![9216, 1]⟩
abbrev S1x2048 : Shape := ⟨2, ![1, 2048]⟩

abbrev nBuf : Space → Nat
  | .hbm => 22
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S9216x2048, .f32⟩
  | .hbm, ⟨2, _⟩ => ⟨S9216x2048, .f32⟩
  | .hbm, ⟨3, _⟩ => ⟨S2048, .f32⟩
  | .hbm, ⟨4, _⟩ => ⟨S9216x2048, .f32⟩
  | .hbm, ⟨5, _⟩ => ⟨S9216x2048, .f32⟩
  | .hbm, ⟨6, _⟩ => ⟨S9216x2048, .f32⟩
  | .hbm, ⟨7, _⟩ => ⟨S_, .f32⟩
  | .hbm, ⟨8, _⟩ => ⟨S9216, .f32⟩
  | .hbm, ⟨9, _⟩ => ⟨S9216x1, .f32⟩
  | .hbm, ⟨10, _⟩ => ⟨S_, .f32⟩
  | .hbm, ⟨11, _⟩ => ⟨S9216x1, .f32⟩
  | .hbm, ⟨12, _⟩ => ⟨S9216x1, .f32⟩
  | .hbm, ⟨13, _⟩ => ⟨S_, .f32⟩
  | .hbm, ⟨14, _⟩ => ⟨S9216x1, .f32⟩
  | .hbm, ⟨15, _⟩ => ⟨S9216x1, .f32⟩
  | .hbm, ⟨16, _⟩ => ⟨S9216x1, .f32⟩
  | .hbm, ⟨17, _⟩ => ⟨S9216x2048, .f32⟩
  | .hbm, ⟨18, _⟩ => ⟨S9216x2048, .f32⟩
  | .hbm, ⟨19, _⟩ => ⟨S1x2048, .f32⟩
  | .hbm, ⟨20, _⟩ => ⟨S9216x2048, .f32⟩
  | .hbm, ⟨21, _⟩ => ⟨S9216x2048, .f32⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.MlaCases.lean ====
/-
  What one grid point of the prompt attention's kernel leaves behind, as array equations.
  A point `t` of the grid (4, 16, 4) works on query block `t / 4 % 16` and key block `t % 4` of one
  sequence. The kernel carries three scratch arrays from point to point: the running maximum, the
  running sum of weights and the running weighted sum of latent values, one row per (head, query).
  The five cases are the five ways its three conditions fall: A the first key block (reset, then
  accumulate), B/C a key block entirely in the future (nothing), D/E a later key block (accumulate);
  in C and E, the last key block, the quotient is also multiplied by the heads' output matrices.
-/
module

public import proofs.«01_k».proof.Proof.Gen.MlaPromptIdeal.Value
public import Idealize.ShloMosaic.Lib.Pipeline.ValueKit
public import Idealize.ShloMosaic.Lib.Pipeline.ReadBack

@[expose] public section

set_option maxRecDepth 16384

noncomputable section

namespace Cert.MlaPromptIdeal.Value

open Cert.MlaPromptIdeal Cert.MlaPromptIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The running maximum after one more key block. -/
abbrev nextM (a1 a2 : BitVec 32) (q : Vec F S8x128x512 .bf16) (qp : Vec F S8x128x64 .bf16) (k : Vec F S512x512 .bf16)
    (kp : Vec F S512x64 .bf16) (M : Vec F S1024x1 .f32) : Vec F S1024x1 .f32 :=
  k0_pay6 (k0_pay12 a1 a2 q qp k kp M)

/-- The running sum of weights after one more key block. -/
abbrev nextL (a1 a2 : BitVec 32) (q : Vec F S8x128x512 .bf16) (qp : Vec F S8x128x64 .bf16) (k : Vec F S512x512 .bf16)
    (kp : Vec F S512x64 .bf16) (M L : Vec F S1024x1 .f32) : Vec F S1024x1 .f32 :=
  k0_pay4 (k0_pay15 a1 a2 q qp k kp M L) (k0_pay16 a1 a2 q qp k kp M)

/-- The running weighted sum of latent values after one more key block. -/
abbrev nextA (a1 a2 : BitVec 32) (q : Vec F S8x128x512 .bf16) (qp : Vec F S8x128x64 .bf16) (k : Vec F S512x512 .bf16)
    (kp : Vec F S512x64 .bf16) (M : Vec F S1024x1 .f32) (A : Vec F S1024x512 .f32) : Vec F S1024x512 .f32 :=
  k0_pay5 k (k0_pay13 a1 a2 q qp k kp M) (k0_pay14 a1 a2 q qp k kp M) A

/-- The output block: head `h`'s 128 columns hold rows `128 h …` of the quotient times head `h`'s matrix. -/
def outOf (A : Vec F S1024x512 .f32) (L : Vec F S1024x1 .f32) (w : Vec F S8x512x128 .bf16) : Vec F S128x1024 .bf16 :=
  View.canon [
    ⟨Rect.unit ![0, 896] ![128, 128] inb_S128x1024_S128x128_0_896, k0_pay10 (k0_pay17 A L) (View.ld w (Rect.unit ![7, 0, 0] ![1, 512, 128] inb_S8x512x128_S1x512x128_7_0_0))⟩,
    ⟨Rect.unit ![0, 768] ![128, 128] inb_S128x1024_S128x128_0_768, k0_pay9 (k0_pay17 A L) (View.ld w (Rect.unit ![6, 0, 0] ![1, 512, 128] inb_S8x512x128_S1x512x128_6_0_0))⟩,
    ⟨Rect.unit ![0, 640] ![128, 128] inb_S128x1024_S128x128_0_640, k0_pay8 (k0_pay17 A L) (View.ld w (Rect.unit ![5, 0, 0] ![1, 512, 128] inb_S8x512x128_S1x512x128_5_0_0))⟩,
    ⟨Rect.unit ![0, 512] ![128, 128] inb_S128x1024_S128x128_0_512, k0_pay7 (k0_pay17 A L) (View.ld w (Rect.unit ![4, 0, 0] ![1, 512, 128] inb_S8x512x128_S1x512x128_4_0_0))⟩,
    ⟨Rect.unit ![0, 384] ![128, 128] inb_S128x1024_S128x128_0_384, k0_pay21 A L (View.ld w (Rect.unit ![3, 0, 0] ![1, 512, 128] inb_S8x512x128_S1x512x128_3_0_0))⟩,
    ⟨Rect.unit ![0, 256] ![128, 128] inb_S128x1024_S128x128_0_256, k0_pay20 A L (View.ld w (Rect.unit ![2, 0, 0] ![1, 512, 128] inb_S8x512x128_S1x512x128_2_0_0))⟩,
    ⟨Rect.unit ![0, 128] ![128, 128] inb_S128x1024_S128x128_0_128, k0_pay19 A L (View.ld w (Rect.unit ![1, 0, 0] ![1, 512, 128] inb_S8x512x128_S1x512x128_1_0_0))⟩,
    ⟨Rect.unit ![0, 0] ![128, 128] inb_S128x1024_S128x128_0_0, k0_pay18 A L (View.ld w (Rect.unit ![0, 0, 0] ![1, 512, 128] inb_S8x512x128_S1x512x128_0_0_0))⟩]

/-- The grid coordinates of point `t`: the query block and the key block. -/
abbrev a1At (t : Fin cfg0.N) : BitVec 32 := BitVec.ofNat 32 ↑(grid0.coords t 1)
/-- The key block's number at point `t`. -/
abbrev a2At (t : Fin cfg0.N) : BitVec 32 := BitVec.ofNat 32 ↑(grid0.coords t 2)

/-- Case A, first key block: the scratch is reset, then the block is added (running maximum). -/
theorem stA_M (c : Dev nD) (t : Fin cfg0.N) (acc : Vec F S128x1024 .bf16 × Vec F S1024x1 .f32 × Vec F S1024x1 .f32 × Vec F S1024x512 .f32) (h0 : t.val % 4 = 0) (h1 : 4 * (t.val % 4) ≤ t.val / 4 % 16) (h2 : ¬t.val % 4 = 3) :
    (stAt0 m c t.val t.isLt acc).2.1 = nextM (a1At t) (a2At t) (iblk m c 0 t) (iblk m c 1 t) (iblk m c 2 t) (iblk m c 3 t) k0_pay1 := by
  rw [stAt0_A m c t acc h0 h1 h2]
  dsimp only
  frame_out

/-- Case A, first key block: the scratch is reset, then the block is added (running sum). -/
theorem stA_L (c : Dev nD) (t : Fin cfg0.N) (acc : Vec F S128x1024 .bf16 × Vec F S1024x1 .f32 × Vec F S1024x1 .f32 × Vec F S1024x512 .f32) (h0 : t.val % 4 = 0) (h1 : 4 * (t.val % 4) ≤ t.val / 4 % 16) (h2 : ¬t.val % 4 = 3) :
    (stAt0 m c t.val t.isLt acc).2.2.1 = nextL (a1At t) (a2At t) (iblk m c 0 t) (iblk m c 1 t) (iblk m c 2 t) (iblk m c 3 t) k0_pay1 k0_pay2 := by
  rw [stAt0_A m c t acc h0 h1 h2]
  dsimp only
  frame_out

/-- Case A, first key block: the scratch is reset, then the block is added (running weighted sum). -/
theorem stA_A (c : Dev nD) (t : Fin cfg0.N) (acc : Vec F S128x1024 .bf16 × Vec F S1024x1 .f32 × Vec F S1024x1 .f32 × Vec F S1024x512 .f32) (h0 : t.val % 4 = 0) (h1 : 4 * (t.val % 4) ≤ t.val / 4 % 16) (h2 : ¬t.val % 4 = 3) :
    (stAt0 m c t.val t.isLt acc).2.2.2 = nextA (a1At t) (a2At t) (iblk m c 0 t) (iblk m c 1 t) (iblk m c 2 t) (iblk m c 3 t) k0_pay1 k0_pay3 := by
  rw [stAt0_A m c t acc h0 h1 h2]
  dsimp only
  frame_out

/-- Case B, a key block in the future: nothing changes (running maximum). -/
theorem stB_M (c : Dev nD) (t : Fin cfg0.N) (acc : Vec F S128x1024 .bf16 × Vec F S1024x1 .f32 × Vec F S1024x1 .f32 × Vec F S1024x512 .f32) (h0 : ¬t.val % 4 = 0) (h1 : ¬4 * (t.val % 4) ≤ t.val / 4 % 16) (h2 : ¬t.val % 4 = 3) :
    (stAt0 m c t.val t.isLt acc).2.1 = acc.2.1 := by
  rw [stAt0_B m c t acc h0 h1 h2]
  rfl

/-- Case B, a key block in the future: nothing changes (running sum). -/
theorem stB_L (c : Dev nD) (t : Fin cfg0.N) (acc : Vec F S128x1024 .bf16 × Vec F S1024x1 .f32 × Vec F S1024x1 .f32 × Vec F S1024x512 .f32) (h0 : ¬t.val % 4 = 0) (h1 : ¬4 * (t.val % 4) ≤ t.val / 4 % 16) (h2 : ¬t.val % 4 = 3) :
    (stAt0 m c t.val t.isLt acc).2.2.1 = acc.2.2.1 := by
  rw [stAt0_B m c t acc h0 h1 h2]
  rfl

/-- Case B, a key block in the future: nothing changes (running weighted sum). -/
theorem stB_A (c : Dev nD) (t : Fin cfg0.N) (acc : Vec F S128x1024 .bf16 × Vec F S1024x1 .f32 × Vec F S1024x1 .f32 × Vec F S1024x512 .f32) (h0 : ¬t.val % 4 = 0) (h1 : ¬4 * (t.val % 4) ≤ t.val / 4 % 16) (h2 : ¬t.val % 4 = 3) :
    (stAt0 m c t.val t.isLt acc).2.2.2 = acc.2.2.2 := by
  rw [stAt0_B m c t acc h0 h1 h2]
  rfl

/-- Case C, the last key block, in the future: nothing changes (running maximum). -/
theorem stC_M (c : Dev nD) (t : Fin cfg0.N) (acc : Vec F S128x1024 .bf16 × Vec F S1024x1 .f32 × Vec F S1024x1 .f32 × Vec F S1024x512 .f32) (h0 : ¬t.val % 4 = 0) (h1 : ¬4 * (t.val % 4) ≤ t.val / 4 % 16) (h2 : t.val % 4 = 3) :
    (stAt0 m c t.val t.isLt acc).2.1 = acc.2.1 := by
  rw [stAt0_C m c t acc h0 h1 h2]
  rfl

/-- Case C, the last key block, in the future: nothing changes (running sum). -/
theorem stC_L (c : Dev nD) (t : Fin cfg0.N) (acc : Vec F S128x1024 .bf16 × Vec F S1024x1 .f32 × Vec F S1024x1 .f32 × Vec F S1024x512 .f32) (h0 : ¬t.val % 4 = 0) (h1 : ¬4 * (t.val % 4) ≤ t.val / 4 % 16) (h2 : t.val % 4 = 3) :
    (stAt0 m c t.val t.isLt acc).2.2.1 = acc.2.2.1 := by
  rw [stAt0_C m c t acc h0 h1 h2]
  rfl

/-- Case C, the last key block, in the future: nothing changes (running weighted sum). -/
theorem stC_A (c : Dev nD) (t : Fin cfg0.N) (acc : Vec F S128x1024 .bf16 × Vec F S1024x1 .f32 × Vec F S1024x1 .f32 × Vec F S1024x512 .f32) (h0 : ¬t.val % 4 = 0) (h1 : ¬4 * (t.val % 4) ≤ t.val / 4 % 16) (h2 : t.val % 4 = 3) :
    (stAt0 m c t.val t.isLt acc).2.2.2 = acc.2.2.2 := by
  rw [stAt0_C m c t acc h0 h1 h2]
  rfl

/-- Case C: what is written into the output block. -/
theorem stC_out (c : Dev nD) (t : Fin cfg0.N) (acc : Vec F S128x1024 .bf16 × Vec F S1024x1 .f32 × Vec F S1024x1 .f32 × Vec F S1024x512 .f32) (h0 : ¬t.val % 4 = 0) (h1 : ¬4 * (t.val % 4) ≤ t.val / 4 % 16) (h2 : t.val % 4 = 3) :
    (stAt0 m c t.val t.isLt acc).1 = outOf (acc.2.2.2) (acc.2.2.1) (iblk m c 4 t) := by
  rw [stAt0_C m c t acc h0 h1 h2]
  dsimp only
  unfold outOf
  frame_out
  simp only [read_unread_whole]

/-- Case D, a later key block: it is added (running maximum). -/
theorem stD_M (c : Dev nD) (t : Fin cfg0.N) (acc : Vec F S128x1024 .bf16 × Vec F S1024x1 .f32 × Vec F S1024x1 .f32 × Vec F S1024x512 .f32) (h0 : ¬t.val % 4 = 0) (h1 : 4 * (t.val % 4) ≤ t.val / 4 % 16) (h2 : ¬t.val % 4 = 3) :
    (stAt0 m c t.val t.isLt acc).2.1 = nextM (a1At t) (a2At t) (iblk m c 0 t) (iblk m c 1 t) (iblk m c 2 t) (iblk m c 3 t) acc.2.1 := by
  rw [stAt0_D m c t acc h0 h1 h2]
  dsimp only
  frame_out
  simp only [read_unread_whole]

/-- Case D, a later key block: it is added (running sum). -/
theorem stD_L (c : Dev nD) (t : Fin cfg0.N) (acc : Vec F S128x1024 .bf16 × Vec F S1024x1 .f32 × Vec F S1024x1 .f32 × Vec F S1024x512 .f32) (h0 : ¬t.val % 4 = 0) (h1 : 4 * (t.val % 4) ≤ t.val / 4 % 16) (h2 : ¬t.val % 4 = 3) :
    (stAt0 m c t.val t.isLt acc).2.2.1 = nextL (a1At t) (a2At t) (iblk m c 0 t) (iblk m c 1 t) (iblk m c 2 t) (iblk m c 3 t) acc.2.1 acc.2.2.1 := by
  rw [stAt0_D m c t acc h0 h1 h2]
  dsimp only
  frame_out
  simp only [read_unread_whole]

/-- Case D, a later key block: it is added (running weighted sum). -/
theorem stD_A (c : Dev nD) (t : Fin cfg0.N) (acc : Vec F S128x1024 .bf16 × Vec F S1024x1 .f32 × Vec F S1024x1 .f32 × Vec F S1024x512 .f32) (h0 : ¬t.val % 4 = 0) (h1 : 4 * (t.val % 4) ≤ t.val / 4 % 16) (h2 : ¬t.val % 4 = 3) :
    (stAt0 m c t.val t.isLt acc).2.2.2 = nextA (a1At t) (a2At t) (iblk m c 0 t) (iblk m c 1 t) (iblk m c 2 t) (iblk m c 3 t) acc.2.1 acc.2.2.2 := by
  rw [stAt0_D m c t acc h0 h1 h2]
  dsimp only
  frame_out
  simp only [read_unread_whole]

/-- Case E, the last key block: it is added (running maximum). -/
theorem stE_M (c : Dev nD) (t : Fin cfg0.N) (acc : Vec F S128x1024 .bf16 × Vec F S1024x1 .f32 × Vec F S1024x1 .f32 × Vec F S1024x512 .f32) (h0 : ¬t.val % 4 = 0) (h1 : 4 * (t.val % 4) ≤ t.val / 4 % 16) (h2 : t.val % 4 = 3) :
    (stAt0 m c t.val t.isLt acc).2.1 = nextM (a1At t) (a2At t) (iblk m c 0 t) (iblk m c 1 t) (iblk m c 2 t) (iblk m c 3 t) acc.2.1 := by
  rw [stAt0_E m c t acc h0 h1 h2]
  dsimp only
  frame_out
  simp only [read_unread_whole]

/-- Case E, the last key block: it is added (running sum). -/
theorem stE_L (c : Dev nD) (t : Fin cfg0.N) (acc : Vec F S128x1024 .bf16 × Vec F S1024x1 .f32 × Vec F S1024x1 .f32 × Vec F S1024x512 .f32) (h0 : ¬t.val % 4 = 0) (h1 : 4 * (t.val % 4) ≤ t.val / 4 % 16) (h2 : t.val % 4 = 3) :
    (stAt0 m c t.val t.isLt acc).2.2.1 = nextL (a1At t) (a2At t) (iblk m c 0 t) (iblk m c 1 t) (iblk m c 2 t) (iblk m c 3 t) acc.2.1 acc.2.2.1 := by
  rw [stAt0_E m c t acc h0 h1 h2]
  dsimp only
  frame_out
  simp only [read_unread_whole]

/-- Case E, the last key block: it is added (running weighted sum). -/
theorem stE_A (c : Dev nD) (t : Fin cfg0.N) (acc : Vec F S128x1024 .bf16 × Vec F S1024x1 .f32 × Vec F S1024x1 .f32 × Vec F S1024x512 .f32) (h0 : ¬t.val % 4 = 0) (h1 : 4 * (t.val % 4) ≤ t.val / 4 % 16) (h2 : t.val % 4 = 3) :
    (stAt0 m c t.val t.isLt acc).2.2.2 = nextA (a1At t) (a2At t) (iblk m c 0 t) (iblk m c 1 t) (iblk m c 2 t) (iblk m c 3 t) acc.2.1 acc.2.2.2 := by
  rw [stAt0_E m c t acc h0 h1 h2]
  dsimp only
  frame_out
  simp only [read_unread_whole]

/-- Case E: what is written into the output block. -/
theorem stE_out (c : Dev nD) (t : Fin cfg0.N) (acc : Vec F S128x1024 .bf16 × Vec F S1024x1 .f32 × Vec F S1024x1 .f32 × Vec F S1024x512 .f32) (h0 : ¬t.val % 4 = 0) (h1 : 4 * (t.val % 4) ≤ t.val / 4 % 16) (h2 : t.val % 4 = 3) :
    (stAt0 m c t.val t.isLt acc).1 = outOf (nextA (a1At t) (a2At t) (iblk m c 0 t) (iblk m c 1 t) (iblk m c 2 t) (iblk m c 3 t) acc.2.1 acc.2.2.2) (nextL (a1At t) (a2At t) (iblk m c 0 t) (iblk m c 1 t) (iblk m c 2 t) (iblk m c 3 t) acc.2.1 acc.2.2.1) (iblk m c 4 t) := by
  rw [stAt0_E m c t acc h0 h1 h2]
  dsimp only
  unfold outOf
  frame_out
  simp only [read_unread_whole]

end Cert.MlaPromptIdeal.Value

end
-- ==== Proof.OnlineSoftmax.lean ====
/-
  The arithmetic of a softmax that is computed block by block ("online"), over the extended reals.
  A row of scores arrives in blocks. The kernel keeps a running maximum `m`, a running sum `l` of
  `exp (score - m)` and a running weighted sum `acc`; each block rescales what was kept by
  `exp (m - m')`. The lemmas here say what is kept is, at every moment, the plain sum of
  `exp score` (resp. `exp score * value`) times the one factor `exp (-m)`, so that the quotient
  `acc / l` does not depend on `m`. A hidden position has score `⊥` and weight `0`.
-/
module

public import Idealize.ShloMosaic.Lib.Pointwise

@[expose] public section

noncomputable section

open Idealize.ShloMosaic

namespace Cert.OnlineSoftmax

/-- The weight `exp x` of a score, as a real number: `0` for a hidden position (`x = ⊥`). -/
def wt (x : EReal) : ℝ := (Ideal.exp x).toReal

theorem wt_bot : wt ⊥ = 0 := by simp [wt]

theorem wt_coe (r : ℝ) : wt (r : EReal) = Real.exp r := by simp [wt]

theorem wt_nonneg (x : EReal) : 0 ≤ wt x := by
  induction x with
  | bot => rw [wt_bot]
  | coe r => rw [wt_coe]; exact (Real.exp_pos r).le
  | top => simp [wt]

/-- Subtracting a real number from the score divides the weight by that number's exponential. -/
theorem exp_sub_coe {x : EReal} (hx : x ≠ ⊤) (M : ℝ) :
    Ideal.exp (x - (M : EReal)) = ((Real.exp (-M) * wt x : ℝ) : EReal) := by
  induction x with
  | bot => rw [wt_bot]; simp
  | coe r =>
    rw [wt_coe, ← EReal.coe_sub, Ideal.exp_coe, ← Real.exp_add]
    congr 2; ring
  | top => exact absurd rfl hx

/-- The maximum of a real number and finitely many scores, none of them `⊤`, is a real number. -/
theorem max_fold_real {ι : Type} (s : Finset ι) (S : ι → EReal) (hS : ∀ j, S j ≠ ⊤) (M : ℝ) :
    ∃ M' : ℝ, max (M : EReal) (s.fold max ⊥ S) = (M' : EReal) := by
  have htop : s.fold max (⊥ : EReal) S ≠ ⊤ := by
    classical
    induction s using Finset.induction_on with
    | empty => simp
    | insert a s ha ih =>
      rw [Finset.fold_insert ha]
      intro h
      rcases max_eq_iff.1 h with h | h
      · exact hS a h.1
      · exact ih h.1
  have h1 : max (M : EReal) (s.fold max ⊥ S) ≠ ⊤ := by
    intro h
    rcases max_eq_iff.1 h with h | h
    · exact EReal.coe_ne_top M h.1
    · exact htop h.1
  have h2 : max (M : EReal) (s.fold max ⊥ S) ≠ ⊥ := by
    intro h
    have := le_max_left (M : EReal) (s.fold max ⊥ S)
    rw [h, le_bot_iff] at this
    exact EReal.coe_ne_bot M this
  exact ⟨_, (EReal.coe_toReal h1 h2).symm⟩

/-- A finite sum of real numbers read as extended reals is the real sum. -/
theorem coe_sum {ι : Type} (s : Finset ι) (f : ι → ℝ) :
    (∑ j ∈ s, ((f j : ℝ) : EReal)) = ((∑ j ∈ s, f j : ℝ) : EReal) := by
  classical
  induction s using Finset.induction_on with
  | empty => simp
  | insert a s ha ih => rw [Finset.sum_insert ha, Finset.sum_insert ha, ih, EReal.coe_add]

/-- ONE BLOCK'S EFFECT on the running sum of weights. -/
theorem step_sum {ι : Type} (s : Finset ι) (S : ι → EReal) (hS : ∀ j, S j ≠ ⊤) (M M' L : ℝ) :
    Ideal.exp ((M : EReal) - (M' : EReal)) * ((Real.exp (-M) * L : ℝ) : EReal)
        + ∑ j ∈ s, Ideal.exp (S j - (M' : EReal))
      = ((Real.exp (-M') * (L + ∑ j ∈ s, wt (S j)) : ℝ) : EReal) := by
  simp only [exp_sub_coe (hS _)]
  rw [← EReal.coe_sub, Ideal.exp_coe, coe_sum, ← EReal.coe_mul, ← EReal.coe_add, ← Finset.mul_sum,
    ← mul_assoc, ← Real.exp_add, mul_add]
  congr 4; ring

/-- ONE BLOCK'S EFFECT on the running weighted sum, the values being real numbers. -/
theorem step_acc {ι : Type} (s : Finset ι) (S : ι → EReal) (hS : ∀ j, S j ≠ ⊤) (v : ι → ℝ) (M M' A : ℝ) :
    Ideal.exp ((M : EReal) - (M' : EReal)) * ((Real.exp (-M) * A : ℝ) : EReal)
        + ∑ j ∈ s, Ideal.exp (S j - (M' : EReal)) * (v j : EReal)
      = ((Real.exp (-M') * (A + ∑ j ∈ s, wt (S j) * v j) : ℝ) : EReal) := by
  simp only [exp_sub_coe (hS _), ← EReal.coe_mul]
  rw [← EReal.coe_sub, Ideal.exp_coe, coe_sum, ← EReal.coe_mul, ← EReal.coe_add]
  simp only [mul_assoc]
  rw [← Finset.mul_sum, ← mul_assoc, ← Real.exp_add, mul_add]
  congr 4; ring

/-- THE QUOTIENT of the two running sums does not depend on the running maximum. -/
theorem div_scaled (M A L : ℝ) (hL : 0 < L) :
    Ideal.div ((Real.exp (-M) * A : ℝ) : EReal) ((Real.exp (-M) * L : ℝ) : EReal) = ((A / L : ℝ) : EReal) := by
  have h0 : (Real.exp (-M) * L : ℝ) ≠ 0 := (mul_pos (Real.exp_pos _) hL).ne'
  have h1 : ((Real.exp (-M) * L : ℝ) : EReal) ≠ 0 := by exact_mod_cast h0
  rw [Ideal.div, if_neg h1, ← EReal.coe_inv, ← EReal.coe_mul]
  congr 1
  have := (Real.exp_pos (-M)).ne'
  field_simp

/-- A softmax row of the reference: the weight of a score, shifted by a real maximum, over the sum of
    all the shifted weights is the plain quotient of weights. -/
theorem softmax_row {ι : Type} (s : Finset ι) (S : ι → EReal) (hS : ∀ j, S j ≠ ⊤) (M : ℝ)
    (hpos : 0 < ∑ j ∈ s, wt (S j)) (j : ι) :
    Ideal.div (Ideal.exp (S j - (M : EReal))) (∑ i ∈ s, Ideal.exp (S i - (M : EReal)))
      = ((wt (S j) / ∑ i ∈ s, wt (S i) : ℝ) : EReal) := by
  simp only [exp_sub_coe (hS _)]
  rw [coe_sum, ← Finset.mul_sum]
  exact div_scaled M _ _ hpos

end Cert.OnlineSoftmax

end
-- ==== Proof.LatentMath.lean ====
/-
  The mathematics of the prompt's latent attention, independent of any program: scores of a query
  position against the key positions of its sequence, causal, and the softmax-weighted mean of the
  latent values, all over the extended reals.
-/
module

public import proofs.«01_k».proof.Proof.OnlineSoftmax
public import Idealize.ShloMosaic.Lib.IdealHost

@[expose] public section

noncomputable section

open Idealize.ShloMosaic Cert.OnlineSoftmax

namespace Cert.LatentMath

/-- Position `s` of sequence `b`, as a row of the flattened prompt. -/
def row (b s : ℕ) : Fin 9216 := ⟨(b * 2048 + s) % 9216, Nat.mod_lt _ (by norm_num)⟩

theorem row_mk {b s : ℕ} (h : b * 2048 + s < 9216) : (⟨b * 2048 + s, h⟩ : Fin 9216) = row b s :=
  Fin.ext (Nat.mod_eq_of_lt h).symm

theorem row_mk' {i b s : ℕ} (h : i < 9216) (e : i = b * 2048 + s) : (⟨i, h⟩ : Fin 9216) = row b s := by
  subst e; exact row_mk h

/-- The softmax scale is a real number. -/
theorem scale_real : ∃ r : ℝ, Ideal.ofBits FTy.f32 0x3D93CD3A#32 = (r : EReal) := by
  simp only [Ideal.ofBits, Ideal.ieee]
  refine ⟨_, if_neg (by decide) |>.trans (if_neg (by decide))⟩

/-- The running maximum's first value is a real number. -/
theorem start_real : ∃ r : ℝ, Ideal.ofBits FTy.f32 0xF149F2CA#32 = (r : EReal) := by
  simp only [Ideal.ofBits, Ideal.ieee]
  refine ⟨_, if_neg (by decide) |>.trans (if_neg (by decide))⟩

theorem negInf : Ideal.ofBits FTy.f32 0xFF800000#32 = ⊥ := by
  simp [Ideal.ofBits, Ideal.ieee]

theorem posInf : Ideal.ofBits FTy.f32 0x7F800000#32 = ⊤ := by
  simp [Ideal.ofBits, Ideal.ieee]

/-- A finite sum of products of real numbers is a real number. -/
theorem sum_mul_real {n : ℕ} (f g : Fin n → EReal) (hf : ∀ i, ∃ r : ℝ, f i = r) (hg : ∀ i, ∃ r : ℝ, g i = r) :
    ∃ r : ℝ, ∑ i, f i * g i = (r : EReal) := by
  choose f' hf using hf
  choose g' hg using hg
  refine ⟨∑ i, f' i * g' i, ?_⟩
  simp only [hf, hg, ← EReal.coe_mul]
  exact coe_sum _ _

variable (ql : Fin 8 → Fin 9216 → Fin 512 → EReal) (qp : Fin 8 → Fin 9216 → Fin 64 → EReal)
  (ck : Fin 9216 → Fin 512 → EReal) (kp : Fin 9216 → Fin 64 → EReal)

/-- Every entry of the four arrays is a real number. -/
structure AllReal : Prop where
  ql : ∀ h i x, ∃ r : ℝ, ql h i x = r
  qp : ∀ h i x, ∃ r : ℝ, qp h i x = r
  ck : ∀ i x, ∃ r : ℝ, ck i x = r
  kp : ∀ i x, ∃ r : ℝ, kp i x = r

/-- The score of key position `s` for query position `t` of sequence `b`, head `h`; a later key is hidden. -/
def score (h : Fin 8) (b t s : ℕ) : EReal :=
  if s ≤ t then (∑ x, ql h (row b t) x * ck (row b s) x + ∑ x, qp h (row b t) x * kp (row b s) x)
    * Ideal.ofBits FTy.f32 0x3D93CD3A#32 else ⊥

/-- The sum of the weights of the first `N` key positions. -/
def den (h : Fin 8) (b t N : ℕ) : ℝ := ∑ s ∈ Finset.range N, wt (score ql qp ck kp h b t s)

/-- The weighted sum of coordinate `d` of the first `N` latent values. -/
def num (h : Fin 8) (b t N : ℕ) (d : Fin 512) : ℝ :=
  ∑ s ∈ Finset.range N, wt (score ql qp ck kp h b t s) * (ck (row b s) d).toReal

variable {ql qp ck kp}

theorem score_real (A : AllReal ql qp ck kp) (h : Fin 8) (b t s : ℕ) (hs : s ≤ t) :
    ∃ r : ℝ, score ql qp ck kp h b t s = r := by
  obtain ⟨r1, h1⟩ := sum_mul_real (ql h (row b t)) (ck (row b s)) (A.ql _ _) (A.ck _)
  obtain ⟨r2, h2⟩ := sum_mul_real (qp h (row b t)) (kp (row b s)) (A.qp _ _) (A.kp _)
  obtain ⟨r3, h3⟩ := scale_real
  refine ⟨(r1 + r2) * r3, ?_⟩
  rw [score, if_pos hs, h1, h2, h3]
  norm_cast

theorem score_ne_top (A : AllReal ql qp ck kp) (h : Fin 8) (b t s : ℕ) : score ql qp ck kp h b t s ≠ ⊤ := by
  by_cases hs : s ≤ t
  · obtain ⟨r, hr⟩ := score_real A h b t s hs
    rw [hr]; exact EReal.coe_ne_top r
  · rw [score, if_neg hs]; exact bot_ne_top

theorem ck_coe (A : AllReal ql qp ck kp) (i : Fin 9216) (d : Fin 512) : ck i d = ((ck i d).toReal : EReal) := by
  obtain ⟨r, hr⟩ := A.ck i d
  rw [hr, EReal.toReal_coe]

theorem den_pos (A : AllReal ql qp ck kp) (h : Fin 8) (b t N : ℕ) (hN : 0 < N) : 0 < den ql qp ck kp h b t N := by
  refine Finset.sum_pos' (fun s _ => wt_nonneg _) ⟨0, Finset.mem_range.2 hN, ?_⟩
  obtain ⟨r, hr⟩ := score_real A h b t 0 (Nat.zero_le _)
  rw [hr, wt_coe]
  exact Real.exp_pos _

/-- A block of 512 more key positions, added up over its own indices. -/
theorem den_block (h : Fin 8) (b t N : ℕ) :
    den ql qp ck kp h b t (N + 512) = den ql qp ck kp h b t N + ∑ j : Fin 512, wt (score ql qp ck kp h b t (N + j.val)) := by
  rw [den, Finset.sum_range_add, ← Fin.sum_univ_eq_sum_range (fun x => wt (score ql qp ck kp h b t (N + x)))]
  rfl

theorem num_block (h : Fin 8) (b t N : ℕ) (d : Fin 512) :
    num ql qp ck kp h b t (N + 512) d = num ql qp ck kp h b t N d
      + ∑ j : Fin 512, wt (score ql qp ck kp h b t (N + j.val)) * (ck (row b (N + j.val)) d).toReal := by
  rw [num, Finset.sum_range_add,
    ← Fin.sum_univ_eq_sum_range (fun x => wt (score ql qp ck kp h b t (N + x)) * (ck (row b (N + x)) d).toReal)]
  rfl

/-- Key positions after the query's add nothing. -/
theorem den_hidden (h : Fin 8) (b t N : ℕ) (hN : t < N) : den ql qp ck kp h b t (N + 512) = den ql qp ck kp h b t N := by
  rw [den_block, Finset.sum_eq_zero, add_zero]
  intro j _
  rw [score, if_neg (by omega), wt_bot]

theorem num_hidden (h : Fin 8) (b t N : ℕ) (d : Fin 512) (hN : t < N) :
    num ql qp ck kp h b t (N + 512) d = num ql qp ck kp h b t N d := by
  rw [num_block, Finset.sum_eq_zero, add_zero]
  intro j _
  rw [score, if_neg (by omega), wt_bot, zero_mul]

end Cert.LatentMath

end
-- ==== Proof.MlaPoint.lean ====
/-
  One key block's effect on the prompt attention's running numbers, over the extended reals: the
  arrays of `MlaCases` read at an index, then the invariant "the kept numbers are the plain sums over
  the key positions seen so far, times one common factor" carried through a step.
-/
module

public import proofs.«01_k».proof.Proof.MlaCases
public import proofs.«01_k».proof.Proof.LatentMath

@[expose] public section

set_option maxRecDepth 16384

noncomputable section

namespace Cert.MlaPromptIdeal.Value

open Cert.MlaPromptIdeal Cert.MlaPromptIdeal.Gen Idealize.ShloMosaic Idealize.ShloMosaic.TcCoe Idealize.SL.Sem
open Idealize.ShloMosaic.Pipeline (Dat)
open Cert.LatentMath Cert.OnlineSoftmax

section Reads
variable (a1 a2 : BitVec 32) (q : Vec Ideal S8x128x512 .bf16) (qp : Vec Ideal S8x128x64 .bf16) (k : Vec Ideal S512x512 .bf16)
    (kp : Vec Ideal S512x64 .bf16) (M L : Vec Ideal S1024x1 .f32) (A : Vec Ideal S1024x512 .f32)

theorem startM_at (r : Fin 1024) : k0_pay1 (F := Ideal) (ix2 r 0) = Ideal.ofBits FTy.f32 0xF149F2CA#32 := by
  pointwise [k0_pay1]

theorem startL_at (r : Fin 1024) : k0_pay2 (F := Ideal) (ix2 r 0) = 0 := by
  pointwise [k0_pay2]

theorem startA_at (r : Fin 1024) (d : Fin 512) : k0_pay3 (F := Ideal) (ix2 r d) = 0 := by
  pointwise [k0_pay3]

theorem rowMax_at (r : Fin 1024) : k0_pay12 a1 a2 q qp k kp M (ix2 r 0)
    = max (M (ix2 r 0)) (Finset.fold max ⊥ (fun j => k0_pay11 a1 a2 q qp k kp (ix2 r j)) Finset.univ) := by
  pointwise [k0_pay12]
  rw [negInf]

theorem nextM_at (r : Fin 1024) : nextM a1 a2 q qp k kp M (ix2 r 0) = k0_pay12 a1 a2 q qp k kp M (ix2 r 0) := by
  pointwise [nextM, k0_pay6]

theorem nextL_at (r : Fin 1024) : nextL a1 a2 q qp k kp M L (ix2 r 0)
    = Ideal.exp (M (ix2 r 0) - k0_pay12 a1 a2 q qp k kp M (ix2 r 0)) * L (ix2 r 0)
      + ∑ j, Ideal.exp (k0_pay11 a1 a2 q qp k kp (ix2 r j) - k0_pay12 a1 a2 q qp k kp M (ix2 r 0)) := by
  pointwise [nextL, k0_pay4, k0_pay15, k0_pay16, k0_pay13, k0_pay14]

theorem nextA_at (r : Fin 1024) (d : Fin 512) : nextA a1 a2 q qp k kp M A (ix2 r d)
    = Ideal.exp (M (ix2 r 0) - k0_pay12 a1 a2 q qp k kp M (ix2 r 0)) * A (ix2 r d)
      + ∑ j, Ideal.exp (k0_pay11 a1 a2 q qp k kp (ix2 r j) - k0_pay12 a1 a2 q qp k kp M (ix2 r 0)) * k (ix2 j d) := by
  pointwise [nextA, k0_pay5, k0_pay13, k0_pay14]

theorem quot_at (r : Fin 1024) (d : Fin 512) : k0_pay17 A L (ix2 r d) = Ideal.div (A (ix2 r d)) (L (ix2 r 0)) := by
  pointwise [k0_pay17]

/-- The masked score of row `r` (head `r / 128`, query `r % 128` of query block `n1`) against key `j` of key block `n2`. -/
theorem score_at (n1 n2 : ℕ) (h1 : n1 < 16) (h2 : n2 < 4) (r : Fin 1024) (j : Fin 512) :
    k0_pay11 (BitVec.ofNat 32 n1) (BitVec.ofNat 32 n2) q qp k kp (ix2 r j)
      = if 512 * n2 + j.val ≤ 128 * n1 + r.val % 128 then
          (∑ x, q (ix3 ⟨r.val / 128, by have := r.isLt; omega⟩ ⟨r.val % 128, by omega⟩ x) * k (ix2 j x)
            + ∑ x, qp (ix3 ⟨r.val / 128, by have := r.isLt; omega⟩ ⟨r.val % 128, by omega⟩ x) * kp (ix2 j x))
            * Ideal.ofBits FTy.f32 0x3D93CD3A#32
        else ⊥ := by
  have hr := r.isLt
  have hj := j.isLt
  pointwise [k0_pay11]
  have e : IntOp.cmpi CmpIPredicate.sle (IntOp.addi (Scalar.muli (BitVec.ofNat 32 n2) 512#32) (BitVec.ofNat 32 j.val))
        (IntOp.addi (Scalar.muli (BitVec.ofNat 32 n1) 128#32) (IntOp.andi (BitVec.ofNat 32 r.val) 127#32))
      = BitVec.ofBool (decide (512 * n2 + j.val ≤ 128 * n1 + r.val % 128)) := by
    have e1 : IntOp.addi (Scalar.muli (BitVec.ofNat 32 n2) 512#32) (BitVec.ofNat 32 j.val) = BitVec.ofNat 32 (512 * n2 + j.val) := by
      apply BitVec.eq_of_toNat_eq
      simp [Scalar.muli, IntOp.addi, IntOp.muli]
      omega
    have e2 : IntOp.addi (Scalar.muli (BitVec.ofNat 32 n1) 128#32) (IntOp.andi (BitVec.ofNat 32 r.val) 127#32)
        = BitVec.ofNat 32 (128 * n1 + r.val % 128) := by
      apply BitVec.eq_of_toNat_eq
      have h127 : r.val &&& 127 = r.val % 128 := Nat.and_two_pow_sub_one_eq_mod r.val 7
      simp [Scalar.muli, IntOp.addi, IntOp.muli, IntOp.andi, Nat.mod_eq_of_lt (show r.val < 4294967296 by omega), h127]
      omega
    rw [e1, e2]
    exact WordCmp.cmpi_sle_ofNat (by norm_num; omega) (by norm_num; omega)
  rw [e]
  by_cases hst : 512 * n2 + j.val ≤ 128 * n1 + r.val % 128
  · rw [if_pos hst]; simp [hst, Scalar.select]
  · rw [if_neg hst]; simp [hst, Scalar.select]; exact negInf

/-- THE OUTPUT BLOCK at query `p`, column `n` (head `n / 128`). -/
theorem outOf_at (w : Vec Ideal S8x512x128 .bf16) (p : Fin 128) (n : Fin 1024) :
    outOf A L w (ix2 p n) = ∑ x : Fin 512,
      Ideal.div (A (ix2 ⟨n.val / 128 * 128 + p.val, by have := n.isLt; have := p.isLt; omega⟩ x))
          (L (ix2 ⟨n.val / 128 * 128 + p.val, by have := n.isLt; have := p.isLt; omega⟩ 0))
        * w (ix3 ⟨n.val / 128, by have := n.isLt; omega⟩ x ⟨n.val % 128, by omega⟩) := by
  have hp := p.isLt
  have hn := n.isLt
  simp only [← quot_at]
  unfold outOf
  canon_tiles x h
  all_goals
    idx_vars x
    have e0 : p = x0 := Fin.ext h0
    subst e0
    pointwise [k0_pay18, k0_pay19, k0_pay20, k0_pay21, k0_pay7, k0_pay8, k0_pay9, k0_pay10]
    refine Finset.sum_congr rfl fun x _ => ?_
    refine congrArg₂ (fun a b : EReal => a * b) (congrArg _ (congrArg₂ ix2 (Fin.ext ?_) rfl))
      (congrArg _ (congr (congrArg₂ ix3 (Fin.ext ?_) rfl) (Fin.ext ?_)))
    · show _ = n.val / 128 * 128 + p.val; (try dsimp only); omega
    · show _ = n.val / 128; simp; omega
    · show _ = n.val % 128; (try dsimp only); omega

end Reads
end Cert.MlaPromptIdeal.Value
end
-- ==== Proof.MlaValue.lean ====
module

public import proofs.«01_k».proof.Proof.MlaPoint

@[expose] public section

set_option maxRecDepth 16384

noncomputable section

namespace Cert.MlaPromptIdeal.Value

open Cert.MlaPromptIdeal Cert.MlaPromptIdeal.Gen Idealize.ShloMosaic Idealize.ShloMosaic.TcCoe Idealize.SL.Sem
open Idealize.ShloMosaic.Pipeline (Dat)
open Cert.LatentMath Cert.OnlineSoftmax

variable (m : (ℓ : Loc nD τ sig) → Buf (Elt Ideal) ℓ) (c : Dev nD)

/-- The blocks each point reads: query block `t / 4` of the queries, key block `t % 4` of the point's
    sequence (or the last one it may see), the whole of the output matrices. -/
theorem idx : ∀ t : Fin cfg0.N, win0_0.index t = ![0, t.val / 4, 0] ∧ win0_1.index t = ![0, t.val / 4, 0]
    ∧ win0_2.index t = ![t.val / 64 * 4 + min (t.val % 4) (t.val / 4 % 16 / 4), 0]
    ∧ win0_3.index t = ![t.val / 64 * 4 + min (t.val % 4) (t.val / 4 % 16 / 4), 0]
    ∧ win0_4.index t = ![0, 0, 0] :=
  (by decide +kernel : ∀ t : Fin grid0.N, _)

/-- The grid coordinates. -/
theorem coords : ∀ t : Fin cfg0.N, ((grid0.coords t) 1 : ℕ) = t.val / 4 % 16 ∧ ((grid0.coords t) 2 : ℕ) = t.val % 4 :=
  (by decide +kernel : ∀ t : Fin grid0.N, _)

theorem blk0 (t : Fin cfg0.N) (h : Fin 8) (p : Fin 128) (x : Fin 512) :
    iblk m c 0 t (ix3 h p x) = m (c.tc.loc main_arg0) (ix3 h (row (t.val / 64) (128 * (t.val / 4 % 16) + p.val)) x) := by
  have ht : t.val < 256 := t.isLt
  unfold row
  blk_ext [iblk, V, idx t]

theorem blk1 (t : Fin cfg0.N) (h : Fin 8) (p : Fin 128) (x : Fin 64) :
    iblk m c 1 t (ix3 h p x) = m (c.tc.loc main_arg1) (ix3 h (row (t.val / 64) (128 * (t.val / 4 % 16) + p.val)) x) := by
  have ht : t.val < 256 := t.isLt
  unfold row
  blk_ext [iblk, V, idx t]

theorem blk2 (t : Fin cfg0.N) (hv : 4 * (t.val % 4) ≤ t.val / 4 % 16) (j : Fin 512) (x : Fin 512) :
    iblk m c 2 t (ix2 j x) = m (c.tc.loc main_arg2) (ix2 (row (t.val / 64) (512 * (t.val % 4) + j.val)) x) := by
  have ht : t.val < 256 := t.isLt
  unfold row
  blk_ext [iblk, V, idx t]

theorem blk3 (t : Fin cfg0.N) (hv : 4 * (t.val % 4) ≤ t.val / 4 % 16) (j : Fin 512) (x : Fin 64) :
    iblk m c 3 t (ix2 j x) = m (c.tc.loc main_arg3) (ix2 (row (t.val / 64) (512 * (t.val % 4) + j.val)) x) := by
  have ht : t.val < 256 := t.isLt
  unfold row
  blk_ext [iblk, V, idx t]

theorem blk4 (t : Fin cfg0.N) (h : Fin 8) (x : Fin 512) (n : Fin 128) :
    iblk m c 4 t (ix3 h x n) = m (c.tc.loc main_arg4) (ix3 x h n) := by
  blk_simp [iblk, idx t]
  entry_read
  pointwise
  blk_ext [idx t]

/-- The four arrays as functions of their indices. -/
abbrev argQl : Fin 8 → Fin 9216 → Fin 512 → EReal := fun h i x => m (c.tc.loc main_arg0) (ix3 h i x)
abbrev argQp : Fin 8 → Fin 9216 → Fin 64 → EReal := fun h i x => m (c.tc.loc main_arg1) (ix3 h i x)
abbrev argCk : Fin 9216 → Fin 512 → EReal := fun i x => m (c.tc.loc main_arg2) (ix2 i x)
abbrev argKp : Fin 9216 → Fin 64 → EReal := fun i x => m (c.tc.loc main_arg3) (ix2 i x)

/-- The head of scratch row `r`. -/
def headOf (r : Fin 1024) : Fin 8 := ⟨r.val / 128, by have := r.isLt; omega⟩

/-- After the first `N` keys: the running maximum is a real number, and the two running sums are the true sums of
    weights and of weighted values, divided by the exponential of that number. -/
def Inv (b qi N : ℕ) (M L : Vec Ideal S1024x1 .f32) (A : Vec Ideal S1024x512 .f32) : Prop :=
  ∀ r : Fin 1024, ∃ μ : ℝ, M (ix2 r 0) = (μ : EReal)
    ∧ L (ix2 r 0) = ((Real.exp (-μ) * den (argQl m c) (argQp m c) (argCk m c) (argKp m c) (headOf r) b (128 * qi + r.val % 128) N : ℝ) : EReal)
    ∧ ∀ d : Fin 512, A (ix2 r d)
      = ((Real.exp (-μ) * num (argQl m c) (argQp m c) (argCk m c) (argKp m c) (headOf r) b (128 * qi + r.val % 128) N d : ℝ) : EReal)

/-- The reset scratch holds the sums over no key at all. -/
theorem inv_start (b qi : ℕ) : Inv m c b qi 0 (k0_pay1 (F := Ideal)) (k0_pay2 (F := Ideal)) (k0_pay3 (F := Ideal)) := by
  intro r
  obtain ⟨μ, hμ⟩ := start_real
  refine ⟨μ, (startM_at r).trans hμ, ?_, fun d => ?_⟩
  · rw [startL_at, den, Finset.range_zero, Finset.sum_empty, mul_zero, EReal.coe_zero]
  · rw [startA_at, num, Finset.range_zero, Finset.sum_empty, mul_zero, EReal.coe_zero]

/-- A key block entirely after the query block adds nothing. -/
theorem inv_skip (b qi k : ℕ) (hv : ¬ 4 * k ≤ qi) {M L A} (I : Inv m c b qi (512 * k) M L A) :
    Inv m c b qi (512 * k + 512) M L A := by
  intro r
  obtain ⟨μ, hM, hL, hA⟩ := I r
  have hlt : 128 * qi + r.val % 128 < 512 * k := by omega
  refine ⟨μ, hM, ?_, fun d => ?_⟩
  · rw [den_hidden _ _ _ _ hlt, hL]
  · rw [num_hidden _ _ _ _ _ hlt, hA]

/-- The masked scores a point computes are the causal scores. -/
theorem score_point (t : Fin cfg0.N) (hv : 4 * (t.val % 4) ≤ t.val / 4 % 16) (r : Fin 1024) (j : Fin 512) :
    k0_pay11 (a1At t) (a2At t) (iblk m c 0 t) (iblk m c 1 t) (iblk m c 2 t) (iblk m c 3 t) (ix2 r j)
      = score (argQl m c) (argQp m c) (argCk m c) (argKp m c) (headOf r) (t.val / 64) (128 * (t.val / 4 % 16) + r.val % 128)
          (512 * (t.val % 4) + j.val) := by
  have ht : t.val < 256 := t.isLt
  rw [a1At, a2At, (coords t).1, (coords t).2]
  refine (score_at _ _ _ _ _ _ (by omega) (by omega) r j).trans ?_
  simp only [blk0, blk1, blk2 m c t hv, blk3 m c t hv]
  rfl

/-- A key block that the query block sees is added to the running sums. -/
theorem inv_step (R : AllReal (argQl m c) (argQp m c) (argCk m c) (argKp m c)) (t : Fin cfg0.N)
    (hv : 4 * (t.val % 4) ≤ t.val / 4 % 16) {M L A} (I : Inv m c (t.val / 64) (t.val / 4 % 16) (512 * (t.val % 4)) M L A) :
    Inv m c (t.val / 64) (t.val / 4 % 16) (512 * (t.val % 4) + 512)
      (nextM (a1At t) (a2At t) (iblk m c 0 t) (iblk m c 1 t) (iblk m c 2 t) (iblk m c 3 t) M)
      (nextL (a1At t) (a2At t) (iblk m c 0 t) (iblk m c 1 t) (iblk m c 2 t) (iblk m c 3 t) M L)
      (nextA (a1At t) (a2At t) (iblk m c 0 t) (iblk m c 1 t) (iblk m c 2 t) (iblk m c 3 t) M A) := by
  intro r
  obtain ⟨μ, hM, hL, hA⟩ := I r
  obtain ⟨μ', hμ'⟩ := max_fold_real Finset.univ
    (fun j : Fin 512 => score (argQl m c) (argQp m c) (argCk m c) (argKp m c) (headOf r) (t.val / 64)
      (128 * (t.val / 4 % 16) + r.val % 128) (512 * (t.val % 4) + j.val)) (fun j => score_ne_top R _ _ _ _) μ
  have hmax : k0_pay12 (a1At t) (a2At t) (iblk m c 0 t) (iblk m c 1 t) (iblk m c 2 t) (iblk m c 3 t) M (ix2 r 0) = (μ' : EReal) := by
    rw [rowMax_at, hM, ← hμ']
    simp only [score_point m c t hv]
  refine ⟨μ', (nextM_at _ _ _ _ _ _ _ r).trans hmax, ?_, fun d => ?_⟩
  · refine (nextL_at _ _ _ _ _ _ _ _ r).trans ?_
    rw [hmax, hM, hL]
    simp only [score_point m c t hv]
    rw [step_sum _ _ (fun j => score_ne_top R _ _ _ _), den_block]
  · refine (nextA_at _ _ _ _ _ _ _ _ r d).trans ?_
    rw [hmax, hM, hA]
    simp only [score_point m c t hv, blk2 m c t hv]
    refine (congrArg₂ (· + ·) rfl (Finset.sum_congr rfl fun j _ => congrArg₂ (· * ·) rfl
      (ck_coe R (row (t.val / 64) (512 * (t.val % 4) + j.val)) d))).trans ?_
    rw [step_acc _ _ (fun j => score_ne_top R _ _ _ _), num_block]

/-- One point, from the running sums of the keys before its block to those with its block. -/
theorem inv_point (R : AllReal (argQl m c) (argQp m c) (argCk m c) (argKp m c)) (t : Fin cfg0.N)
    (acc : Vec Ideal S128x1024 .bf16 × Vec Ideal S1024x1 .f32 × Vec Ideal S1024x1 .f32 × Vec Ideal S1024x512 .f32)
    (I : t.val % 4 ≠ 0 → Inv m c (t.val / 64) (t.val / 4 % 16) (512 * (t.val % 4)) acc.2.1 acc.2.2.1 acc.2.2.2) :
    Inv m c (t.val / 64) (t.val / 4 % 16) (512 * (t.val % 4) + 512) (stAt0 m c t.val t.isLt acc).2.1
      (stAt0 m c t.val t.isLt acc).2.2.1 (stAt0 m c t.val t.isLt acc).2.2.2 := by
  by_cases h0 : t.val % 4 = 0
  · have h1 : 4 * (t.val % 4) ≤ t.val / 4 % 16 := by omega
    have h2 : ¬ t.val % 4 = 3 := by omega
    rw [stA_M m c t acc h0 h1 h2, stA_L m c t acc h0 h1 h2, stA_A m c t acc h0 h1 h2]
    refine inv_step m c R t h1 ?_
    rw [h0]
    exact inv_start m c _ _
  · have I := I h0
    by_cases h1 : 4 * (t.val % 4) ≤ t.val / 4 % 16
    · by_cases h2 : t.val % 4 = 3
      · rw [stE_M m c t acc h0 h1 h2, stE_L m c t acc h0 h1 h2, stE_A m c t acc h0 h1 h2]
        exact inv_step m c R t h1 I
      · rw [stD_M m c t acc h0 h1 h2, stD_L m c t acc h0 h1 h2, stD_A m c t acc h0 h1 h2]
        exact inv_step m c R t h1 I
    · by_cases h2 : t.val % 4 = 3
      · rw [stC_M m c t acc h0 h1 h2, stC_L m c t acc h0 h1 h2, stC_A m c t acc h0 h1 h2]
        exact inv_skip m c _ _ _ h1 I
      · rw [stB_M m c t acc h0 h1 h2, stB_L m c t acc h0 h1 h2, stB_A m c t acc h0 h1 h2]
        exact inv_skip m c _ _ _ h1 I

/-- The running sums after every point. -/
theorem inv_all (R : AllReal (argQl m c) (argQp m c) (argCk m c) (argKp m c)) :
    ∀ (n : ℕ) (hn : n < cfg0.N), Inv m c (n / 64) (n / 4 % 16) (512 * (n % 4) + 512) (outsAt0 m c n hn).2.1
      (outsAt0 m c n hn).2.2.1 (outsAt0 m c n hn).2.2.2 := by
  intro n
  induction n with
  | zero =>
    intro hn
    rw [outsAt0_zero]
    exact inv_point m c R ⟨0, hn⟩ _ (fun h => absurd rfl h)
  | succ n ih =>
    intro hn
    rw [outsAt0_succ]
    refine inv_point m c R ⟨n + 1, hn⟩ _ fun h => ?_
    have I := ih (Nat.lt_of_succ_lt hn)
    dsimp only at h ⊢
    rw [show (n + 1) / 64 = n / 64 by omega, show (n + 1) / 4 % 16 = n / 4 % 16 by omega,
      show 512 * ((n + 1) % 4) = 512 * (n % 4) + 512 by omega]
    exact I

/-- The output block a run's last point writes: for every position and output column, the weighted mean of the latent
    values over the whole sequence, times the column of its head's matrix. -/
theorem out_last (R : AllReal (argQl m c) (argQp m c) (argCk m c) (argKp m c)) (t : Fin cfg0.N) (h3 : t.val % 4 = 3)
    (p : Fin 128) (n : Fin 1024) :
    (outsAt0 m c t.val t.isLt).1 (ix2 p n) = ∑ x : Fin 512,
      ((num (argQl m c) (argQp m c) (argCk m c) (argKp m c) ⟨n.val / 128, by have := n.isLt; omega⟩ (t.val / 64) (128 * (t.val / 4 % 16) + p.val) 2048 x
        / den (argQl m c) (argQp m c) (argCk m c) (argKp m c) ⟨n.val / 128, by have := n.isLt; omega⟩ (t.val / 64) (128 * (t.val / 4 % 16) + p.val) 2048 : ℝ) : EReal)
      * m (c.tc.loc main_arg4) (ix3 x ⟨n.val / 128, by have := n.isLt; omega⟩ ⟨n.val % 128, by omega⟩) := by
  have hp := p.isLt
  have hn := n.isLt
  have I := inv_all m c R t.val t.isLt
  have hout : ∃ acc, outsAt0 m c t.val t.isLt = stAt0 m c t.val t.isLt acc := by
    obtain ⟨k, hk⟩ := t
    cases k with
    | zero => exact ⟨_, outsAt0_zero m c hk⟩
    | succ k => exact ⟨_, outsAt0_succ m c k hk⟩
  obtain ⟨acc, hacc⟩ := hout
  have h0 : ¬ t.val % 4 = 0 := by omega
  have e : (outsAt0 m c t.val t.isLt).1
      = outOf (outsAt0 m c t.val t.isLt).2.2.2 (outsAt0 m c t.val t.isLt).2.2.1 (iblk m c 4 t) := by
    rw [hacc]
    by_cases h1 : 4 * (t.val % 4) ≤ t.val / 4 % 16
    · rw [stE_out m c t acc h0 h1 h3, stE_L m c t acc h0 h1 h3, stE_A m c t acc h0 h1 h3]
    · rw [stC_out m c t acc h0 h1 h3, stC_L m c t acc h0 h1 h3, stC_A m c t acc h0 h1 h3]
  rw [e]
  refine (outOf_at _ _ _ p n).trans (Finset.sum_congr rfl fun x _ => ?_)
  obtain ⟨μ, -, hL, hA⟩ := I ⟨n.val / 128 * 128 + p.val, by omega⟩
  have e2 : headOf ⟨n.val / 128 * 128 + p.val, by omega⟩ = ⟨n.val / 128, by omega⟩ :=
    Fin.ext (by simp only [headOf]; omega)
  have e3 : (n.val / 128 * 128 + p.val) % 128 = p.val := by omega
  rw [hA, hL, blk4, h3]
  simp only [e2, e3]
  rw [div_scaled _ _ _ (den_pos R _ _ _ _ (by norm_num))]

/-- The kernel's result, element by element. -/
theorem G5_at (R : AllReal (argQl m c) (argQp m c) (argCk m c) (argKp m c)) (i : Fin 8192) (j : Fin 1024) :
    G5 m c (ix2 i j) = ∑ x : Fin 512,
      ((num (argQl m c) (argQp m c) (argCk m c) (argKp m c) ⟨j.val / 128, by have := j.isLt; omega⟩ (i.val / 2048) (i.val % 2048) 2048 x
        / den (argQl m c) (argQp m c) (argCk m c) (argKp m c) ⟨j.val / 128, by have := j.isLt; omega⟩ (i.val / 2048) (i.val % 2048) 2048 : ℝ) : EReal)
      * m (c.tc.loc main_arg4) (ix3 x ⟨j.val / 128, by have := j.isLt; omega⟩ ⟨j.val % 128, by omega⟩) := by
  have hi := i.isLt
  have hj := j.isLt
  have hpt : pt5Of (ix2 i j) = 4 * (i.val / 128) + 3 := by
    show 4 * (1 * (i.val / 128 - 0) + 1 * (j.val / 1024 - 0)) + 3 = _
    omega
  have hlt : pt5Of (ix2 i j) < cfg0.N := by rw [hpt]; show _ < 256; omega
  rw [G5, dif_pos hlt, ← outsAt0_sweep m c _ hlt]
  have := out_last m c R ⟨pt5Of (ix2 i j), hlt⟩ (by show pt5Of (ix2 i j) % 4 = 3; omega)
    ⟨i.val % 128, by omega⟩ ⟨j.val % 1024, by omega⟩
  refine Eq.trans ?_ (this.trans ?_)
  · refine congrArg (outsAt0 m c (pt5Of (ix2 i j)) hlt).1 (funext fun a => ?_)
    match a with
    | 0 => rfl
    | 1 => rfl
  · have e1 : pt5Of (ix2 i j) / 64 = i.val / 2048 := by omega
    have e2 : 128 * (pt5Of (ix2 i j) / 4 % 16) + i.val % 128 = i.val % 2048 := by omega
    have e3 : j.val % 1024 = j.val := by omega
    simp only [e1, e2, e3]

end Cert.MlaPromptIdeal.Value
end
-- ==== Proof.ReduceRow.lean ====
/-
  A maximum over the last axis of an array of four axes, read at an index, for any sizes of the axes.
-/
module

public import Idealize.ShloMosaic.Lib.Pointwise

@[expose] public section

noncomputable section

open Idealize.ShloMosaic

namespace Cert.ReduceRow

/-- The maximum over the last of four axes is the fold of `max` along it. -/
theorem max_last4 {n0 n1 n2 n3 : ℕ} {u : Shape} (x : FVec Ideal ⟨4, ![n0, n1, n2, n3]⟩ .f32) (init : FVec Ideal u .f32)
    (h : (⟨4, ![n0, n1, n2, n3]⟩ : Shape).ReducesTo [3] ⟨3, ![n0, n1, n2]⟩) (hu : 0 < u.numel)
    (a : Fin n0) (b : Fin n1) (c : Fin n2) :
    Host.reduce FloatOps.maximumf x init h hu (ix3 a b c)
      = (Finset.univ : Finset (Fin n3)).fold (max : EReal → EReal → EReal) (init (Shape.Idx.first hu)) fun k => x (ix4 a b c k) := by
  rw [Host.reduce_eq_fold, h.fold_fiber_r4_a3]
  rfl

end Cert.ReduceRow
end
-- ==== Proof.MlaRef.lean ====
/-
  The reference of the prompt attention read at one index: the masked scores, their weights, the softmax
  and the two products that follow it.
-/
module

public import proofs.«01_k».proof.Proof.Gen.MlaReferenceIdeal.Run
public import proofs.«01_k».proof.Proof.LatentMath
public import proofs.«01_k».proof.Proof.ReduceRow
public import Idealize.ShloMosaic.Lib.Pipeline.ValueKit
public import Idealize.ShloMosaic.Lib.WordCmp

@[expose] public section

set_option maxRecDepth 16384

noncomputable section

namespace Cert.MlaReferenceIdeal.Value

open Cert.MlaReferenceIdeal Cert.MlaReferenceIdeal.Gen Idealize.ShloMosaic Idealize.ShloMosaic.TcCoe Idealize.SL.Sem Idealize.ShloMosaic.StableHlo

section
variable {F : FTy → Type} [FloatOps F]
variable (m : (ℓ : Loc nD τ sig) → Buf (Elt F) ℓ) (c : Dev nD)

/-- The masked scores `[b, h, t, s]`. -/
def scores : FVec F S4x8x2048x2048 .f32 :=
  (select (broadcastInDim S4x8x2048x2048 ![2, 3] bcast_S2048x2048_S4x8x2048x2048_2_3 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))) (mulf (addf (Host.dotGeneral dot_S8x4x2048x512_S4x2048x512_S4x8x2048x2048_3_2_02_1_1_0 none (shapeCast _ (extractStridedSlice S8x8192x512 ![0, 0, 0] (extf .f32 (m ((c.tc : Thread nD τ).loc main_arg0)) bitsLt_bf16_f32) slices_S8x9216x512_S8x8192x512_0_0_0) shapeCasts_S8x8192x512_S8x4x2048x512) (shapeCast _ (extractStridedSlice S8192x512 ![0, 0] (extf .f32 (m ((c.tc : Thread nD τ).loc main_arg2)) bitsLt_bf16_f32) slices_S9216x512_S8192x512_0_0) shapeCasts_S8192x512_S4x2048x512)) (Host.dotGeneral dot_S8x4x2048x64_S4x2048x64_S4x8x2048x2048_3_2_02_1_1_0 none (shapeCast _ (extractStridedSlice S8x8192x64 ![0, 0, 0] (extf .f32 (m ((c.tc : Thread nD τ).loc main_arg1)) bitsLt_bf16_f32) slices_S8x9216x64_S8x8192x64_0_0_0) shapeCasts_S8x8192x64_S8x4x2048x64) (shapeCast _ (extractStridedSlice S8192x64 ![0, 0] (extf .f32 (m ((c.tc : Thread nD τ).loc main_arg3)) bitsLt_bf16_f32) slices_S9216x64_S8192x64_0_0) shapeCasts_S8192x64_S4x2048x64))) (broadcastInDim S4x8x2048x2048 ![] bcast_S_S4x8x2048x2048 (constant S_ .f32 0x3D93CD3A#32))) (broadcastInDim S4x8x2048x2048 ![] bcast_S_S4x8x2048x2048 (id (constant S_ .f32 0xFF800000#32))))

/-- The maximum of every row of scores. -/
def rowMax : FVec F S4x8x2048 .f32 :=
  (Host.reduce FloatOps.maximumf (scores m c) (constant S_ .f32 0xFF800000#32) reducesTo_S4x8x2048x2048_S4x8x2048_d3 h_S_)

/-- Exponentials of scores `S`, a row's number `R` (its maximum) subtracted. -/
def weightsOf (S : FVec F S4x8x2048x2048 .f32) (R : FVec F S4x8x2048 .f32) : FVec F S4x8x2048x2048 .f32 :=
  (Host.exp (subf S (broadcastInDim S4x8x2048x2048 ![0, 1, 2, 3] bcast_S4x8x2048x1_S4x8x2048x2048_0_1_2_3 (broadcastInDim S4x8x2048x1 ![0, 1, 2] bcast_S4x8x2048_S4x8x2048x1_0_1_2 (maximumf (broadcastInDim S4x8x2048 ![] bcast_S_S4x8x2048 (constant S_ .f32 0xFF800000#32)) R)))))

/-- The exponentials of the scores. -/
def weights : FVec F S4x8x2048x2048 .f32 := weightsOf (scores m c) (rowMax m c)

/-- The softmax. -/
def probs : FVec F S4x8x2048x2048 .f32 :=
  (Host.divf (weights m c) (broadcastInDim S4x8x2048x2048 ![0, 1, 2, 3] bcast_S4x8x2048x1_S4x8x2048x2048_0_1_2_3 (broadcastInDim S4x8x2048x1 ![0, 1, 2] bcast_S4x8x2048_S4x8x2048x1_0_1_2 (Host.reduceAdd (weights m c) (constant S_ .f32 0x00000000#32) reducesTo_S4x8x2048x2048_S4x8x2048_d3 h_S_))))

/-- The softmax's mean of the latent values `[b, d, h, t]`. -/
def mixed : FVec F S4x512x8x2048 .f32 :=
  (Host.dotGeneral dot_S4x2048x512_S4x8x2048x2048_S4x512x8x2048_1_3_2_12_0_0 none (shapeCast _ (extractStridedSlice S8192x512 ![0, 0] (extf .f32 (m ((c.tc : Thread nD τ).loc main_arg2)) bitsLt_bf16_f32) slices_S9216x512_S8192x512_0_0) shapeCasts_S8192x512_S4x2048x512) (probs m c))

/-- The reference's result in those terms. -/
theorem res_eq : res_main_v40 m c = truncf .bf16 (shapeCast _ (transpose S4x2048x8x128 [2, 3, 0, 1] (Host.dotGeneral dot_S512x8x128_S4x2048x8x512_S8x128x4x2048_0_3_2_01_1_2 none (m ((c.tc : Thread nD τ).loc main_arg4)) (transpose S4x2048x8x512 [0, 3, 2, 1] (mixed m c) transposes_S4x512x8x2048_S4x2048x8x512_0_3_2_1)) transposes_S8x128x4x2048_S4x2048x8x128_2_3_0_1) shapeCasts_S4x2048x8x128_S8192x1024) bitsLt_bf16_f32 := rfl
end

variable (m : (ℓ : Loc nD τ sig) → Buf (Elt Ideal) ℓ) (c : Dev nD)

open Cert.LatentMath Cert.OnlineSoftmax

/-- The four attention operands as functions of their coordinates. -/
abbrev argQl : Fin 8 → Fin 9216 → Fin 512 → EReal := fun h i x => m (c.tc.loc main_arg0) (ix3 h i x)
abbrev argQp : Fin 8 → Fin 9216 → Fin 64 → EReal := fun h i x => m (c.tc.loc main_arg1) (ix3 h i x)
abbrev argCk : Fin 9216 → Fin 512 → EReal := fun i x => m (c.tc.loc main_arg2) (ix2 i x)
abbrev argKp : Fin 9216 → Fin 64 → EReal := fun i x => m (c.tc.loc main_arg3) (ix2 i x)

local notation "sc" => score (argQl m c) (argQp m c) (argCk m c) (argKp m c)

/-- The reference's masked scores are the scores. -/
theorem scores_at (b : Fin 4) (h : Fin 8) (t s : Fin 2048) : scores m c (ix4 b h t s) = sc h b.val t.val s.val := by
  have hb := b.isLt
  have ht := t.isLt
  have hs := s.isLt
  pointwise [scores]
  simp only [row_mk]
  rw [score]
  have e : IntOp.cmpi CmpIPredicate.sle (BitVec.ofNat 32 s.val) (BitVec.ofNat 32 t.val) = BitVec.ofBool (decide (s.val ≤ t.val)) := by
    exact WordCmp.cmpi_sle_ofNat (by norm_num; omega) (by norm_num; omega)
  rw [e]
  by_cases hst : s.val ≤ t.val
  · rw [if_pos hst]; simp [hst, Scalar.select]
  · rw [if_neg hst]; simp [hst, Scalar.select]; exact negInf

theorem rowMax_at (b : Fin 4) (h : Fin 8) (t : Fin 2048) :
    rowMax m c (ix3 b h t) = (Finset.univ : Finset (Fin 2048)).fold max ⊥ fun s => sc h b.val t.val s.val := by
  unfold rowMax
  rw [Cert.ReduceRow.max_last4]
  have e : (constant (F := Ideal) S_ .f32 0xFF800000#32) (Shape.Idx.first h_S_) = ⊥ := negInf
  rw [e]
  simp only [scores_at]

theorem weightsOf_at (S : FVec Ideal S4x8x2048x2048 .f32) (R : FVec Ideal S4x8x2048 .f32) (b : Fin 4) (h : Fin 8) (t s : Fin 2048) :
    weightsOf S R (ix4 b h t s) = Ideal.exp (S (ix4 b h t s) - max ⊥ (R (ix3 b h t))) := by
  pointwise [weightsOf]
  rw [negInf]

theorem weights_at (b : Fin 4) (h : Fin 8) (t s : Fin 2048) : weights m c (ix4 b h t s)
    = Ideal.exp (sc h b.val t.val s.val - max ⊥ (rowMax m c (ix3 b h t))) := by
  rw [weights, weightsOf_at, scores_at]

/-- The softmax is the weight over the sum of the row's weights. -/
theorem probs_at (A : AllReal (argQl m c) (argQp m c) (argCk m c) (argKp m c)) (b : Fin 4) (h : Fin 8) (t s : Fin 2048) :
    probs m c (ix4 b h t s)
      = ((wt (sc h b.val t.val s.val) / den (argQl m c) (argQp m c) (argCk m c) (argKp m c) h b.val t.val 2048 : ℝ) : EReal) := by
  pointwise [probs]
  simp only [weights_at]
  have hd := den_pos A h b.val t.val 2048 (by norm_num)
  have hde : den (argQl m c) (argQp m c) (argCk m c) (argKp m c) h b.val t.val 2048 = ∑ s : Fin 2048, wt (sc h b.val t.val s.val) := by
    rw [den, ← Fin.sum_univ_eq_sum_range (fun s => wt (sc h b.val t.val s))]
  obtain ⟨M, hM⟩ : ∃ M : ℝ, max ⊥ (rowMax m c (ix3 b h t)) = (M : EReal) := by
    obtain ⟨r0, h0⟩ := score_real A h b.val t.val 0 (Nat.zero_le _)
    obtain ⟨M, hM⟩ := max_fold_real (Finset.univ : Finset (Fin 2048)) (fun s => sc h b.val t.val s.val)
      (fun s => score_ne_top A h b.val t.val s.val) r0
    refine ⟨M, ?_⟩
    rw [rowMax_at, max_eq_right bot_le, ← hM, max_eq_right]
    rw [← h0, Finset.le_fold_max]
    exact Or.inr ⟨0, Finset.mem_univ _, le_rfl⟩
  rw [hM, hde]
  rw [hde] at hd
  exact softmax_row Finset.univ (fun s : Fin 2048 => sc h b.val t.val s.val) (fun s => score_ne_top A h b.val t.val s.val) M hd s

/-- The mean of the latent values. -/
theorem mixed_at (A : AllReal (argQl m c) (argQp m c) (argCk m c) (argKp m c)) (b : Fin 4) (h : Fin 8) (t : Fin 2048) (x : Fin 512) :
    mixed m c (ix4 b x h t) = ((num (argQl m c) (argQp m c) (argCk m c) (argKp m c) h b.val t.val 2048 x
      / den (argQl m c) (argQp m c) (argCk m c) (argKp m c) h b.val t.val 2048 : ℝ) : EReal) := by
  have hb := b.isLt
  pointwise [mixed]
  simp only [probs_at m c A]
  have e : ∀ s : Fin 2048, (m (c.tc.loc main_arg2) (ix2 ⟨b.val * 2048 + s.val, by have := s.isLt; omega⟩ x) : EReal)
      = ((argCk m c (row b.val s.val) x).toReal : EReal) := fun s => by
    rw [← ck_coe A, row_mk]
  simp only [e, ← EReal.coe_mul]
  rw [coe_sum, num, ← Fin.sum_univ_eq_sum_range (fun s => wt (sc h b.val t.val s) * (argCk m c (row b.val s) x).toReal), Finset.sum_div]
  congr 1
  refine Finset.sum_congr rfl fun s _ => ?_
  ring

/-- THE REFERENCE'S RESULT at token `i`, column `j` (head `j / 128`). -/
theorem res_at (W : Fin 512 → Fin 8 → Fin 128 → EReal) (hW : ∀ x h n, W x h n = m (c.tc.loc main_arg4) (ix3 x h n)) (A : AllReal (argQl m c) (argQp m c) (argCk m c) (argKp m c)) (i : Fin 8192) (j : Fin 1024) :
    res_main_v40 m c (ix2 i j) = (∑ x : Fin 512, W x ⟨j.val / 128, by have := j.isLt; omega⟩ ⟨j.val % 128, by omega⟩
        * ((num (argQl m c) (argQp m c) (argCk m c) (argKp m c) ⟨j.val / 128, by have := j.isLt; omega⟩ (i.val / 2048) (i.val % 2048) 2048 x
      / den (argQl m c) (argQp m c) (argCk m c) (argKp m c) ⟨j.val / 128, by have := j.isLt; omega⟩ (i.val / 2048) (i.val % 2048) 2048 : ℝ) : EReal) : EReal) := by
  rw [res_eq]
  pointwise []
  simp only [mixed_at m c A, hW]
end Cert.MlaReferenceIdeal.Value
end
-- ==== Proof.Finite.lean ====
/-
  Reading a finiteness precondition: when "the absolute value of every entry is below infinity" comes out true,
  every entry is a real number.
-/
module

public import proofs.«01_k».proof.Proof.LatentMath
public import Idealize.ShloMosaic.Lib.ReduceAll
public import Idealize.ShloMosaic.Lib.Affine
public import Idealize.ShloMosaic.Lib.Pipeline.ValueKit

@[expose] public section

noncomputable section

open Idealize.ShloMosaic

namespace Cert.Finite

/-- A number whose absolute value is below infinity is a real number. -/
theorem real_of_abs_lt {x : EReal} (h : max x (-x) < ⊤) : ∃ r : ℝ, x = r := by
  induction x with
  | bot => simp at h
  | coe r => exact ⟨r, rfl⟩
  | top => simp at h

/-- The test `|x| < ∞`, over a whole array, says of every entry that it is a real number. -/
theorem real_of_all {s t u : Shape} {axes : List (Fin s.rank)} [Subsingleton t.Idx] (x : FVec Ideal s .f32) (k : FVec Ideal s .f32)
    (hk : ∀ i, k i = Ideal.ofBits FTy.f32 0x7F800000#32) (init : IVec u 1)
    (h : s.ReducesTo axes t) (hu : 0 < u.numel) (j : t.Idx)
    (e : Host.reduce IntOp.andi (cmpf .olt (Host.absf x) k) init h hu j = 1#1) (i : s.Idx) : ∃ r : ℝ, x i = (r : EReal) := by
  have h1 := Host.reduce_andi_all _ _ h hu j e i
  have h2 : BitVec.ofBool (decide (max (x i) (-(x i)) < k i)) = 1#1 := h1
  rw [hk, Cert.LatentMath.posInf] at h2
  refine real_of_abs_lt ?_
  by_contra hn
  rw [decide_eq_false hn] at h2
  exact absurd h2 (by decide)

end Cert.Finite
end
-- ==== Proof.MlaClose.lean ====
/-
  The prompt attention's claim: under the finiteness precondition, the kernel's result array is the reference's.
-/
module

public import proofs.«01_k».proof.Proof.MlaValue
public import proofs.«01_k».proof.Proof.MlaRef
public import proofs.«01_k».proof.Proof.Finite
public import proofs.«01_k».proof.Defs
public import proofs.«01_k».proof.Proof.Gen.Pre_finite_mla

@[expose] public section

set_option maxRecDepth 16384

noncomputable section

open Idealize.ShloMosaic Idealize.ShloMosaic.TcCoe Idealize.SL.Sem
open Cert.LatentMath

namespace Cert.MlaClose

instance : Subsingleton Cert.Pre_finite_mla.S_.Idx := ⟨fun i j => funext fun a => a.elim0⟩

/-- The precondition says that all four arrays hold real numbers. -/
theorem allReal (m : (ℓ : Loc Cert.MlaPromptIdeal.nD Cert.MlaPromptIdeal.τ Cert.MlaPromptIdeal.sig) → Buf (Elt Ideal) ℓ)
    (h : Cert.Pre_MlaPromptIdeal (hPre_finite_mla := Cert.Pre_finite_mla.Gen.facts) m) (c : Dev Cert.MlaPromptIdeal.nD) :
    AllReal (Cert.MlaPromptIdeal.Value.argQl m c) (Cert.MlaPromptIdeal.Value.argQp m c) (Cert.MlaPromptIdeal.Value.argCk m c)
      (Cert.MlaPromptIdeal.Value.argKp m c) := by
  have e := congrFun (h c) ix0
  have e1 := IntOp.andi_eq_one.1 e
  have e2 := IntOp.andi_eq_one.1 e1.1
  have e3 := IntOp.andi_eq_one.1 e1.2
  exact ⟨fun h i x => Cert.Finite.real_of_all _ _ (fun _ => rfl) _ _ _ _ e2.1 (ix3 h i x),
    fun h i x => Cert.Finite.real_of_all _ _ (fun _ => rfl) _ _ _ _ e2.2 (ix3 h i x),
    fun i x => Cert.Finite.real_of_all _ _ (fun _ => rfl) _ _ _ _ e3.1 (ix2 i x),
    fun i x => Cert.Finite.real_of_all _ _ (fun _ => rfl) _ _ _ _ e3.2 (ix2 i x)⟩

/-- The two result arrays agree when the arguments do. -/
theorem result_eq (m : (ℓ : Loc Cert.MlaPromptIdeal.nD Cert.MlaPromptIdeal.τ Cert.MlaPromptIdeal.sig) → Buf (Elt Ideal) ℓ)
    (m' : (ℓ : Loc Cert.MlaReferenceIdeal.nD Cert.MlaReferenceIdeal.τ Cert.MlaReferenceIdeal.sig) → Buf (Elt Ideal) ℓ)
    (h : Cert.Pre_MlaPromptIdeal (hPre_finite_mla := Cert.Pre_finite_mla.Gen.facts) m) (c : Dev Cert.MlaPromptIdeal.nD)
    (a0 : m' (c.tc.loc Cert.MlaReferenceIdeal.main_arg0) = m (c.tc.loc Cert.MlaPromptIdeal.main_arg0))
    (a1 : m' (c.tc.loc Cert.MlaReferenceIdeal.main_arg1) = m (c.tc.loc Cert.MlaPromptIdeal.main_arg1))
    (a2 : m' (c.tc.loc Cert.MlaReferenceIdeal.main_arg2) = m (c.tc.loc Cert.MlaPromptIdeal.main_arg2))
    (a3 : m' (c.tc.loc Cert.MlaReferenceIdeal.main_arg3) = m (c.tc.loc Cert.MlaPromptIdeal.main_arg3))
    (a4 : m' (c.tc.loc Cert.MlaReferenceIdeal.main_arg4) = m (c.tc.loc Cert.MlaPromptIdeal.main_arg4)) :
    Cert.MlaReferenceIdeal.Value.res_main_v40 m' c = Cert.MlaPromptIdeal.Value.G5 m c := by
  have R := allReal m h c
  have q0 : Cert.MlaReferenceIdeal.Value.argQl m' c = Cert.MlaPromptIdeal.Value.argQl m c :=
    funext fun h => funext fun i => funext fun x => congrFun a0 (ix3 h i x)
  have q1 : Cert.MlaReferenceIdeal.Value.argQp m' c = Cert.MlaPromptIdeal.Value.argQp m c :=
    funext fun h => funext fun i => funext fun x => congrFun a1 (ix3 h i x)
  have q2 : Cert.MlaReferenceIdeal.Value.argCk m' c = Cert.MlaPromptIdeal.Value.argCk m c :=
    funext fun i => funext fun x => congrFun a2 (ix2 i x)
  have q3 : Cert.MlaReferenceIdeal.Value.argKp m' c = Cert.MlaPromptIdeal.Value.argKp m c :=
    funext fun i => funext fun x => congrFun a3 (ix2 i x)
  have R' : AllReal (Cert.MlaReferenceIdeal.Value.argQl m' c) (Cert.MlaReferenceIdeal.Value.argQp m' c)
      (Cert.MlaReferenceIdeal.Value.argCk m' c) (Cert.MlaReferenceIdeal.Value.argKp m' c) := by
    rw [q0, q1, q2, q3]; exact R
  have key : ∀ (i0 : Fin 8192) (i1 : Fin 1024), Cert.MlaReferenceIdeal.Value.res_main_v40 m' c (ix2 i0 i1)
      = Cert.MlaPromptIdeal.Value.G5 m c (ix2 i0 i1) := by
    intro i0 i1
    refine (Cert.MlaReferenceIdeal.Value.res_at m' c
      (fun x h n => m (c.tc.loc Cert.MlaPromptIdeal.main_arg4) (ix3 x h n)) (fun x h n => (congrFun a4 (ix3 x h n)).symm) R' i0 i1).trans ?_
    refine Eq.trans ?_ (Cert.MlaPromptIdeal.Value.G5_at m c R i0 i1).symm
    rw [q0, q1, q2, q3]
    exact Finset.sum_congr (M := EReal) rfl fun x _ => EReal.mul_comm _ _
  refine funext fun (i : Cert.MlaPromptIdeal.S8192x1024.Idx) => ?_
  idx_vars i
  exact key _ _

/-- The claim. -/
theorem algebraic : Cert.algebraic_MlaPromptIdeal_MlaReferenceIdeal (hMlaPromptIdeal := Cert.MlaPromptIdeal.Gen.facts)
    (hMlaReferenceIdeal := Cert.MlaReferenceIdeal.Gen.facts) (hPre_finite_mla := Cert.Pre_finite_mla.Gen.facts) := by
  pair_intro
  · run_from Cert.MlaPromptIdeal.Value.run m g
  · run_from Cert.MlaReferenceIdeal.Value.run m' g'
    exact result_eq m m' hpre c (hagree c).1 (hagree c).2.1 (hagree c).2.2.1 (hagree c).2.2.2.1 (hagree c).2.2.2.2

end Cert.MlaClose
end
-- ==== Proof.SbCases.lean ====
/-
  What one grid point of the stick-breaking kernel leaves behind, as array equations.
  A point `t` of the grid (4, 2, 8, 8) works on query block `t / 8 % 8` of one sequence and one key head, and in step
  `t % 8` on the key block that many blocks before it. Two scratch arrays go from point to point, one row per
  (head, query): the sum of the log-survivals of the keys seen so far, and the weighted sum of the values.
  The five cases: A the first step (reset, then the diagonal block under its mask), D/E a later step with a block left
  (added without a mask), B/C a step with no block left (nothing); C and E are the last step, which writes the output.
-/
module

public import proofs.«01_k».proof.Proof.Gen.SbPromptIdeal.Value
public import Idealize.ShloMosaic.Lib.Pipeline.ValueKit
public import Idealize.ShloMosaic.Lib.Pipeline.ReadBack

@[expose] public section

set_option maxRecDepth 16384

noncomputable section

namespace Cert.SbPromptIdeal.Value

open Cert.SbPromptIdeal Cert.SbPromptIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The carried sum after the diagonal block. -/
abbrev firstC (q : Vec F S4x256x128 .bf16) (k : Vec F S256x128 .bf16) : Vec F S1024x1 .f32 := k0_pay4 (k0_pay14 q k) k0_pay1

/-- The weighted sum of values after the diagonal block. -/
abbrev firstA (q : Vec F S4x256x128 .bf16) (k v : Vec F S256x128 .bf16) (u : Vec F S256x256 .bf16) : Vec F S1024x128 .f32 :=
  k0_pay3 k0_pay12 (k0_pay15 q k u k0_pay1) k0_pay16 k0_pay2 v

/-- The carried sum after one more block. -/
abbrev nextC (q : Vec F S4x256x128 .bf16) (k : Vec F S256x128 .bf16) (C : Vec F S1024x1 .f32) : Vec F S1024x1 .f32 :=
  k0_pay6 (k0_pay19 q k) C

/-- The weighted sum of values after one more block. -/
abbrev nextA (q : Vec F S4x256x128 .bf16) (k v : Vec F S256x128 .bf16) (u : Vec F S256x256 .bf16) (C : Vec F S1024x1 .f32)
    (A : Vec F S1024x128 .f32) : Vec F S1024x128 .f32 :=
  k0_pay5 A (k0_pay20 q k u C) v (constant S1024x128 .f32 0x00000000#32)

/-- The output block: the four heads' rows side by side. -/
def outOf (A : Vec F S1024x128 .f32) : Vec F S256x512 .bf16 :=
  View.canon [
    ⟨Rect.unit ![0, 384] ![256, 128] inb_S256x512_S256x128_0_384, k0_pay10 (View.ld A (Rect.unit ![768, 0] ![256, 128] inb_S1024x128_S256x128_768_0))⟩,
    ⟨Rect.unit ![0, 256] ![256, 128] inb_S256x512_S256x128_0_256, k0_pay9 (View.ld A (Rect.unit ![512, 0] ![256, 128] inb_S1024x128_S256x128_512_0))⟩,
    ⟨Rect.unit ![0, 128] ![256, 128] inb_S256x512_S256x128_0_128, k0_pay8 (View.ld A (Rect.unit ![256, 0] ![256, 128] inb_S1024x128_S256x128_256_0))⟩,
    ⟨Rect.unit ![0, 0] ![256, 128] inb_S256x512_S256x128_0_0, k0_pay7 (View.ld A (Rect.unit ![0, 0] ![256, 128] inb_S1024x128_S256x128_0_0))⟩]

/-- A load of part of a buffer after a store of the whole of it. -/
theorem read_stored {sig : RefSig} {κ : Kind} {sp : Space} (v : View sig κ sp S1024x128 .f32) (inb) (Z : Vec F S1024x128 .f32) (r : Rect S1024x128) :
    v.readCov [⟨Rect.unit ![0, 0] ![1024, 128] inb, Z⟩] r.toLoadRect = View.ld Z r :=
  View.readCov_fill v (off := ![0, 0]) inb Z [] r (by decide)

/-- The point before. -/
theorem prev_lt (t : Fin cfg0.N) : t.val - 1 < cfg0.N := Nat.lt_of_le_of_lt (Nat.sub_le _ _) t.isLt

variable (c : Dev nD) (t : Fin cfg0.N)

/-- The first step: the carried sum. -/
theorem first_C (h0 : t.val % 8 = 0) : (outsAt0 m c t.val t.isLt).2.1 = firstC (iblk m c 0 t) (iblk m c 1 t) := by
  rw [outsAt0_A m c t h0 h0 (by omega) (by omega)]
  dsimp only
  frame_out

/-- The first step: the weighted sum. -/
theorem first_A (h0 : t.val % 8 = 0) :
    (outsAt0 m c t.val t.isLt).2.2 = firstA (iblk m c 0 t) (iblk m c 1 t) (iblk m c 2 t) (iblk m c 3 t) := by
  rw [outsAt0_A m c t h0 h0 (by omega) (by omega)]
  dsimp only
  frame_out

/-- A later step with a block left: the carried sum. -/
theorem next_C (h0 : ¬t.val % 8 = 0) (h2 : t.val % 8 ≤ t.val / 8 % 8) :
    (outsAt0 m c t.val t.isLt).2.1 = nextC (iblk m c 0 t) (iblk m c 1 t) (outsAt0 m c (t.val - 1) (prev_lt t)).2.1 := by
  by_cases h3 : t.val % 8 = 7
  · rw [outsAt0_E m c t h0 h0 (by omega) h3]
    dsimp only
    frame_out
    simp only [read_unread_whole]
  · rw [outsAt0_D m c t h0 h0 (by omega) h3]
    dsimp only
    frame_out
    simp only [read_unread_whole]

/-- A later step with a block left: the weighted sum. -/
theorem next_A (h0 : ¬t.val % 8 = 0) (h2 : t.val % 8 ≤ t.val / 8 % 8) :
    (outsAt0 m c t.val t.isLt).2.2 = nextA (iblk m c 0 t) (iblk m c 1 t) (iblk m c 2 t) (iblk m c 3 t)
      (outsAt0 m c (t.val - 1) (prev_lt t)).2.1 (outsAt0 m c (t.val - 1) (prev_lt t)).2.2 := by
  by_cases h3 : t.val % 8 = 7
  · rw [outsAt0_E m c t h0 h0 (by omega) h3]
    dsimp only
    frame_out
    simp only [read_unread_whole]
  · rw [outsAt0_D m c t h0 h0 (by omega) h3]
    dsimp only
    frame_out
    simp only [read_unread_whole]

/-- A step with no block left: the carried sum stays. -/
theorem idle_C (h0 : ¬t.val % 8 = 0) (h2 : ¬t.val % 8 ≤ t.val / 8 % 8) :
    (outsAt0 m c t.val t.isLt).2.1 = (outsAt0 m c (t.val - 1) (prev_lt t)).2.1 := by
  by_cases h3 : t.val % 8 = 7
  · rw [outsAt0_C m c t h0 h0 (by omega) h3]
    rfl
  · rw [outsAt0_B m c t h0 h0 (by omega) h3]
    rfl

/-- A step with no block left: the weighted sum stays. -/
theorem idle_A (h0 : ¬t.val % 8 = 0) (h2 : ¬t.val % 8 ≤ t.val / 8 % 8) :
    (outsAt0 m c t.val t.isLt).2.2 = (outsAt0 m c (t.val - 1) (prev_lt t)).2.2 := by
  by_cases h3 : t.val % 8 = 7
  · rw [outsAt0_C m c t h0 h0 (by omega) h3]
    rfl
  · rw [outsAt0_B m c t h0 h0 (by omega) h3]
    rfl

/-- The last step writes the weighted sum it leaves. -/
theorem last_out (h3 : t.val % 8 = 7) : (outsAt0 m c t.val t.isLt).1 = outOf (outsAt0 m c t.val t.isLt).2.2 := by
  have h0 : ¬t.val % 8 = 0 := by omega
  by_cases h2 : t.val % 8 ≤ t.val / 8 % 8
  · rw [next_A m c t h0 h2, outsAt0_E m c t h0 h0 (by omega) h3]
    dsimp only
    unfold outOf
    frame_out
    simp only [read_unread_whole, read_stored]
  · rw [idle_A m c t h0 h2, outsAt0_C m c t h0 h0 (by omega) h3]
    dsimp only
    unfold outOf
    frame_out
    simp only [read_unread_whole]

end Cert.SbPromptIdeal.Value
end
-- ==== Proof.StickMath.lean ====
/-
  The mathematics of the prompt's stick-breaking attention, independent of any program. A query position `t` of a
  sequence scores the key positions `s < t` before it. A score `z` breaks off the fraction `σ(z)` of what is left of
  the stick, the nearest key first, so key `s` gets the weight `σ(z_s) · ∏ (1 - σ(z_s'))` over the keys `s < s' < t`.
  Here it is written with logarithms, as both programs compute it.
-/
module

public import proofs.«01_k».proof.Proof.LatentMath

@[expose] public section

noncomputable section

open Idealize.ShloMosaic Cert.OnlineSoftmax Cert.LatentMath

namespace Cert.StickMath

/-- The logarithm of `1 - σ(z)`: what is left of the stick after a key of score `z`. -/
def keep (z : ℝ) : ℝ := -(max z 0 + Real.log (1 + Real.exp (-|z|)))

theorem log_one_add_exp (a : ℝ) : Ideal.log (1 + Ideal.exp (a : EReal)) = ((Real.log (1 + Real.exp a) : ℝ) : EReal) := by
  have h : (0 : ℝ) < 1 + Real.exp a := by positivity
  rw [Ideal.exp_coe, ← EReal.coe_one, ← EReal.coe_add, Ideal.log_coe, if_neg (not_le.2 h)]

/-- The absolute value as a maximum. -/
theorem max_neg_coe (z : ℝ) : max (z : EReal) (-(z : EReal)) = ((|z| : ℝ) : EReal) := by
  rw [← EReal.coe_neg]
  exact (EReal.coe_strictMono.monotone.map_max).symm

theorem max_zero_coe (z : ℝ) : max (z : EReal) 0 = ((max z 0 : ℝ) : EReal) := by
  exact (EReal.coe_strictMono.monotone.map_max (a := z) (b := 0)).symm

/-- `keep`, as the kernel computes it. -/
theorem keep_kernel (z : ℝ) :
    0 - (max (z : EReal) 0 + Ideal.log (1 + Ideal.exp (0 - max (z : EReal) (-(z : EReal))))) = ((keep z : ℝ) : EReal) := by
  rw [max_neg_coe, max_zero_coe, zero_sub, zero_sub, ← EReal.coe_neg, log_one_add_exp, ← EReal.coe_add, ← EReal.coe_neg]
  rfl

/-- The logarithm of the sigmoid as the reference computes it, at any real number. -/
def logSig (x : EReal) : EReal := -(max (-x) 0 + Ideal.log1p (Ideal.exp (-(max (-x - 0) (-(-x - 0))))))

theorem logSig_neg (z : ℝ) : logSig (-(z : EReal)) = ((keep z : ℝ) : EReal) := by
  rw [logSig, neg_neg, sub_zero, max_neg_coe, max_zero_coe, ← EReal.coe_neg, Ideal.log1p, log_one_add_exp, ← EReal.coe_add, ← EReal.coe_neg]
  rfl

theorem logSig_coe (z : ℝ) : logSig (z : EReal) = ((keep z + z : ℝ) : EReal) := by
  have e : logSig (z : EReal) = logSig (-((-z : ℝ) : EReal)) := by rw [EReal.coe_neg, neg_neg]
  rw [e, logSig_neg]
  congr 1
  simp only [keep, abs_neg]
  rcases le_total z 0 with h | h
  · rw [max_eq_right h, max_eq_left (by linarith : (0 : ℝ) ≤ -z)]; ring
  · rw [max_eq_left h, max_eq_right (by linarith : -z ≤ (0 : ℝ))]; ring

/-- The score scale is a real number. -/
theorem stickScale_real : ∃ r : ℝ, Ideal.ofBits FTy.f32 0x3DB504F3#32 = (r : EReal) := by
  simp only [Ideal.ofBits, Ideal.ieee]
  refine ⟨_, if_neg (by decide) |>.trans (if_neg (by decide))⟩

variable (q : Fin 8 → Fin 9216 → Fin 128 → EReal) (k v : Fin 9216 → Fin 256 → EReal)

/-- Coordinate `x` of the key head that query head `h` reads. -/
def colOf (h : Fin 8) (x : Fin 128) : Fin 256 := ⟨h.val / 4 * 128 + x.val, by have := h.isLt; have := x.isLt; omega⟩

/-- The score of key position `s` for query position `t` of sequence `b`, head `h`. -/
def logit (h : Fin 8) (b t s : ℕ) : EReal :=
  (∑ x, q h (row b t) x * k (row b s) (colOf h x)) * Ideal.ofBits FTy.f32 0x3DB504F3#32

/-- The log-survival of key `s`; a key at or after the query breaks nothing off. -/
def lk (h : Fin 8) (b t s : ℕ) : ℝ := if s < t then keep (logit q k h b t s).toReal else 0

/-- The log-survivals of the keys from `N` on, added up. -/
def tail (h : Fin 8) (b t N : ℕ) : ℝ := ∑ s ∈ Finset.Ico N 2048, lk q k h b t s

/-- The weight of key `s`. -/
def wgt (h : Fin 8) (b t s : ℕ) : ℝ :=
  if s < t then Real.exp (keep (logit q k h b t s).toReal + (logit q k h b t s).toReal + tail q k h b t (s + 1)) else 0

/-- The weighted sum of coordinate `d` of the values from key `N` on. -/
def mix (h : Fin 8) (b t N : ℕ) (d : Fin 128) : EReal :=
  ∑ s ∈ Finset.Ico N 2048, ((wgt q k h b t s : ℝ) : EReal) * v (row b s) (colOf h d)

/-- Every entry of the queries and the keys is a real number. -/
structure RealQK : Prop where
  q : ∀ h i x, ∃ r : ℝ, q h i x = r
  k : ∀ i x, ∃ r : ℝ, k i x = r

variable {q k v}

theorem logit_coe (A : RealQK q k) (h : Fin 8) (b t s : ℕ) : logit q k h b t s = ((logit q k h b t s).toReal : EReal) := by
  obtain ⟨r, hr⟩ := sum_mul_real (q h (row b t)) (fun x => k (row b s) (colOf h x)) (A.q _ _) (fun x => A.k _ _)
  obtain ⟨r', hr'⟩ := stickScale_real
  have e : logit q k h b t s = ((r * r' : ℝ) : EReal) := by rw [logit, hr, hr', EReal.coe_mul]
  rw [e, EReal.toReal_coe]

/-- A block of 256 key positions split off a sum, over its own indices. -/
theorem Ico_block {M : Type} [AddCommMonoid M] (f : ℕ → M) (N : ℕ) (hN : N + 256 ≤ 2048) :
    ∑ s ∈ Finset.Ico N 2048, f s = ∑ s ∈ Finset.Ico (N + 256) 2048, f s + ∑ j : Fin 256, f (N + j.val) := by
  rw [← Finset.sum_Ico_consecutive f (Nat.le_add_right N 256) hN, add_comm, Finset.sum_Ico_eq_sum_range f N (N + 256),
    Nat.add_sub_cancel_left, ← Fin.sum_univ_eq_sum_range (fun x => f (N + x))]

/-- Past the query block nothing is left of either sum. -/
theorem tail_end (h : Fin 8) (b t N : ℕ) (hN : t ≤ N) : tail q k h b t N = 0 := by
  refine Finset.sum_eq_zero fun s hs => ?_
  rw [lk, if_neg]
  have := (Finset.mem_Ico.1 hs).1
  omega

theorem mix_end (h : Fin 8) (b t N : ℕ) (d : Fin 128) (hN : t ≤ N) : mix q k v h b t N d = 0 := by
  refine Finset.sum_eq_zero fun s hs => ?_
  rw [wgt, if_neg, EReal.coe_zero, zero_mul]
  have := (Finset.mem_Ico.1 hs).1
  omega

theorem tail_block (h : Fin 8) (b t N : ℕ) (hN : N + 256 ≤ 2048) :
    tail q k h b t N = tail q k h b t (N + 256) + ∑ j : Fin 256, lk q k h b t (N + j.val) := Ico_block _ N hN

theorem mix_block (h : Fin 8) (b t N : ℕ) (d : Fin 128) (hN : N + 256 ≤ 2048) :
    mix q k v h b t N d = mix q k v h b t (N + 256) d
      + ∑ j : Fin 256, ((wgt q k h b t (N + j.val) : ℝ) : EReal) * v (row b (N + j.val)) (colOf h d) := Ico_block _ N hN

/-- The log-survivals after position `j` of a block, as a product with a triangle of ones. -/
theorem tri_sum (f : ℕ → ℝ) (N : ℕ) (j : Fin 256) :
    ∑ i : Fin 256, ((f (N + i.val) : ℝ) : EReal) * (if j.val < i.val then 1 else 0)
      = ((∑ s ∈ Finset.Ico (N + j.val + 1) (N + 256), f s : ℝ) : EReal) := by
  have hj := j.isLt
  have e : ∀ i : Fin 256, ((f (N + i.val) : ℝ) : EReal) * (if j.val < i.val then 1 else 0)
      = (((if j.val < i.val then f (N + i.val) else 0) : ℝ) : EReal) := fun i => by
    split
    · rw [mul_one]
    · rw [mul_zero, EReal.coe_zero]
  simp only [e]
  rw [coe_sum]
  congr 1
  rw [Fin.sum_univ_eq_sum_range (fun i => if j.val < i then f (N + i) else 0) 256, Finset.sum_Ico_eq_sum_range,
    ← Finset.sum_filter]
  refine Finset.sum_nbij' (fun i => i - (j.val + 1)) (fun i => i + (j.val + 1)) ?_ ?_ ?_ ?_ ?_
  · intro i hi
    simp only [Finset.mem_filter, Finset.mem_range] at hi ⊢
    omega
  · intro i hi
    simp only [Finset.mem_filter, Finset.mem_range] at hi ⊢
    omega
  · intro i hi
    simp only [Finset.mem_filter, Finset.mem_range] at hi
    omega
  · intro i hi
    omega
  · intro i hi
    simp only [Finset.mem_filter, Finset.mem_range] at hi
    congr 1
    omega

/-- The tail past key `N + j` in two parts: the rest of its block, and the later blocks. -/
theorem tail_split (h : Fin 8) (b t N : ℕ) (j : Fin 256) (hN : N + 256 ≤ 2048) :
    ∑ s ∈ Finset.Ico (N + j.val + 1) (N + 256), lk q k h b t s + tail q k h b t (N + 256) = tail q k h b t (N + j.val + 1) := by
  have hj := j.isLt
  exact Finset.sum_Ico_consecutive _ (by omega) hN

/-- THE WEIGHT, as the kernel computes it for position `j` of a block: `z` the score, `l` the block's log-survivals (masked
    or not), `C` the later blocks' sum. -/
theorem wgt_kernel (A : RealQK q k) (h : Fin 8) (b t N : ℕ) (j : Fin 256) (hN : N + 256 ≤ 2048) (hst : N + j.val < t) :
    Ideal.exp (((keep (logit q k h b t (N + j.val)).toReal : ℝ) : EReal) + logit q k h b t (N + j.val)
        + (∑ i : Fin 256, ((lk q k h b t (N + i.val) : ℝ) : EReal) * (if j.val < i.val then 1 else 0)
          + ∑ i : Fin 256, (((lk q k h b t (N + i.val) : ℝ) : EReal) - ((lk q k h b t (N + i.val) : ℝ) : EReal)) * (if j.val < i.val then 1 else 0))
        + ((tail q k h b t (N + 256) : ℝ) : EReal)) = ((wgt q k h b t (N + j.val) : ℝ) : EReal) := by
  have e0 : ∑ i : Fin 256, (((lk q k h b t (N + i.val) : ℝ) : EReal) - ((lk q k h b t (N + i.val) : ℝ) : EReal)) * (if j.val < i.val then 1 else 0) = 0 := by
    refine Finset.sum_eq_zero fun i _ => ?_
    rw [← EReal.coe_sub, sub_self, EReal.coe_zero, zero_mul]
  rw [e0, add_zero, tri_sum (fun s => lk q k h b t s), logit_coe A, EReal.toReal_coe, ← EReal.coe_add, ← EReal.coe_add, ← EReal.coe_add, Ideal.exp_coe,
    wgt, if_pos hst, add_assoc, tail_split h b t N j hN]

/-- The weight, as the reference computes it: the sum of all log-survivals from `s` on, less that of `s`. -/
theorem wgt_reference (A : RealQK q k) (h : Fin 8) (b t s : ℕ) (hs : s < 2048) (hst : s < t) :
    Ideal.exp (logSig (logit q k h b t s) + (((tail q k h b t s : ℝ) : EReal) - ((lk q k h b t s : ℝ) : EReal)))
      = ((wgt q k h b t s : ℝ) : EReal) := by
  have e : tail q k h b t s - lk q k h b t s = tail q k h b t (s + 1) := by
    rw [tail, ← Finset.sum_Ico_consecutive _ (Nat.le_add_right s 1) hs, Nat.Ico_succ_singleton, Finset.sum_singleton]
    exact add_sub_cancel_left _ _
  rw [logit_coe A, logSig_coe, ← EReal.coe_sub, e, ← EReal.coe_add, Ideal.exp_coe, wgt, if_pos hst]

end Cert.StickMath
end
-- ==== Proof.SbPoint.lean ====
/-
  One grid point of the stick-breaking kernel, over the extended reals: the arrays of `SbCases` read at an index.
-/
module

public import proofs.«01_k».proof.Proof.SbCases
public import proofs.«01_k».proof.Proof.StickMath
public import Idealize.ShloMosaic.Lib.WordCmp

@[expose] public section

set_option maxRecDepth 16384

noncomputable section

namespace Cert.SbPromptIdeal.Value

open Cert.SbPromptIdeal Cert.SbPromptIdeal.Gen Idealize.ShloMosaic Idealize.ShloMosaic.TcCoe Idealize.SL.Sem
open Idealize.ShloMosaic.Pipeline (Dat)
open Cert.LatentMath Cert.StickMath

section Reads
variable (q : Vec Ideal S4x256x128 .bf16) (k v : Vec Ideal S256x128 .bf16) (u : Vec Ideal S256x256 .bf16)
    (C : Vec Ideal S1024x1 .f32) (A : Vec Ideal S1024x128 .f32) (r : Fin 1024) (j : Fin 256) (d : Fin 128)

/-- The score of row `r` (head `r / 256`, query `r % 256` of the block) against key `j` of the block. -/
def dotAt : EReal := (∑ x, q (ix3 ⟨r.val / 256, by have := r.isLt; omega⟩ ⟨r.val % 256, by omega⟩ x) * k (ix2 j x))
  * Ideal.ofBits FTy.f32 0x3DB504F3#32

theorem z11_at : k0_pay11 q k (ix2 r j) = dotAt q k r j := by
  pointwise [k0_pay11]
  rfl

theorem z17_at : k0_pay17 q k (ix2 r j) = dotAt q k r j := by
  pointwise [k0_pay17]
  rfl

theorem before_at : k0_pay12 (ix2 r j) = BitVec.ofBool (decide (j.val < r.val % 256)) := by
  have hr := r.isLt
  have hj := j.isLt
  pointwise [k0_pay12]
  have e : IntOp.andi (BitVec.ofNat 32 r.val) 255#32 = BitVec.ofNat 32 (r.val % 256) := by
    apply BitVec.eq_of_toNat_eq
    have h255 : r.val &&& 255 = r.val % 256 := Nat.and_two_pow_sub_one_eq_mod r.val 8
    simp [IntOp.andi, Nat.mod_eq_of_lt (show r.val < 4294967296 by omega), h255]
    omega
  rw [e]
  exact WordCmp.cmpi_slt_ofNat (by norm_num; omega) (by norm_num; omega)

theorem keep13_at : k0_pay13 q k (ix2 r j)
    = 0 - (max (dotAt q k r j) 0 + Ideal.log (1 + Ideal.exp (0 - max (dotAt q k r j) (-(dotAt q k r j))))) := by
  pointwise [k0_pay13]
  rw [z11_at]
  rfl

theorem keep18_at : k0_pay18 q k (ix2 r j)
    = 0 - (max (dotAt q k r j) 0 + Ideal.log (1 + Ideal.exp (0 - max (dotAt q k r j) (-(dotAt q k r j))))) := by
  pointwise [k0_pay18]
  rw [z17_at]
  rfl

theorem keep14_at : k0_pay14 q k (ix2 r j) = if j.val < r.val % 256 then k0_pay13 q k (ix2 r j) else 0 := by
  pointwise [k0_pay14]
  rw [before_at]
  by_cases h : j.val < r.val % 256
  · rw [if_pos h]; simp [h, Scalar.select]
  · rw [if_neg h]; simp [h, Scalar.select]

theorem w15_at : k0_pay15 q k u C (ix2 r j) = Ideal.exp (k0_pay13 q k (ix2 r j) + dotAt q k r j
    + (∑ i, k0_pay14 q k (ix2 r i) * u (ix2 i j) + ∑ i, (k0_pay14 q k (ix2 r i) - k0_pay14 q k (ix2 r i)) * u (ix2 i j)) + C (ix2 r 0)) := by
  pointwise [k0_pay15]
  rw [z11_at]

theorem w20_at : k0_pay20 q k u C (ix2 r j) = Ideal.exp (k0_pay18 q k (ix2 r j) + dotAt q k r j
    + (∑ i, k0_pay18 q k (ix2 r i) * u (ix2 i j) + ∑ i, (k0_pay18 q k (ix2 r i) - k0_pay18 q k (ix2 r i)) * u (ix2 i j)) + C (ix2 r 0)) := by
  pointwise [k0_pay20]
  rw [z17_at]

theorem startC_at : k0_pay1 (F := Ideal) (ix2 r 0) = 0 := by
  pointwise [k0_pay1]

theorem startA_at : k0_pay2 (F := Ideal) (ix2 r d) = 0 := by
  pointwise [k0_pay2]

theorem firstC_at : firstC q k (ix2 r 0) = ∑ i, k0_pay14 q k (ix2 r i) := by
  pointwise [firstC, k0_pay4]
  rw [startC_at, zero_add]

theorem firstA_at : firstA q k v u (ix2 r d)
    = ∑ i, (if i.val < r.val % 256 then k0_pay15 q k u (k0_pay1 (F := Ideal)) (ix2 r i) else 0) * v (ix2 i d) := by
  pointwise [firstA, k0_pay3, k0_pay16]
  rw [startA_at, zero_add]
  refine Finset.sum_congr (M := EReal) rfl fun i _ => ?_
  rw [before_at]
  by_cases h : i.val < r.val % 256
  · rw [if_pos h]; simp [h, Scalar.select]
  · rw [if_neg h]; simp [h, Scalar.select]

theorem nextC_at : nextC q k C (ix2 r 0) = C (ix2 r 0) + ∑ i, k0_pay18 q k (ix2 r i) := by
  pointwise [nextC, k0_pay6, k0_pay19]

theorem nextA_at : nextA q k v u C A (ix2 r d) = A (ix2 r d) + ∑ i, k0_pay20 q k u C (ix2 r i) * v (ix2 i d) := by
  pointwise [nextA, k0_pay5]

/-- THE OUTPUT BLOCK at query `p`, column `n` (head `n / 128`). -/
theorem outOf_at (p : Fin 256) (n : Fin 512) :
    outOf A (ix2 p n) = A (ix2 ⟨n.val / 128 * 256 + p.val, by have := n.isLt; have := p.isLt; omega⟩ ⟨n.val % 128, by omega⟩) := by
  have hp := p.isLt
  have hn := n.isLt
  unfold outOf
  canon_tiles x h
  all_goals
    idx_vars x
    have e0 : p = x0 := Fin.ext h0
    subst e0
    pointwise [k0_pay7, k0_pay8, k0_pay9, k0_pay10]
    refine congrArg A (congrArg₂ ix2 (Fin.ext ?_) (Fin.ext ?_))
    · show _ = n.val / 128 * 256 + p.val; (try dsimp only); omega
    · show _ = n.val % 128; (try dsimp only); omega

end Reads

end Cert.SbPromptIdeal.Value
end
-- ==== Proof.SbTri.lean ====
/-
  What the kernel's literal triangle should hold: bit pattern one in the entries above row number, zero in the others.
-/
module

public import proofs.«01_k».proof.SbPromptIdeal

@[expose] public section

set_option maxRecDepth 16384

noncomputable section

namespace Cert.SbPromptIdeal.Value

open Cert.SbPromptIdeal Idealize.ShloMosaic

/-- Entries `2048 n` to `2048 n + 2047` of the literal are the triangle's: one where the column comes before the row. -/
abbrev Tri (n : ℕ) : Prop := ∀ i : Fin 2048, lit0t (2048 * n + i.val)
  = if (2048 * n + i.val) % 256 < (2048 * n + i.val) / 256 then 0x3F80#16 else 0x0000#16

end Cert.SbPromptIdeal.Value
end
-- ==== Proof.SbTri0.lean ====
/-
  The kernel's literal triangle, entries 0 to 8191: each theorem is 2048 of them, checked one by one.
-/
module

public import proofs.«01_k».proof.Proof.SbTri

@[expose] public section

set_option maxRecDepth 16384

noncomputable section

namespace Cert.SbPromptIdeal.Value

open Cert.SbPromptIdeal Idealize.ShloMosaic

theorem tri_0 : Tri 0 := by decide +kernel
theorem tri_1 : Tri 1 := by decide +kernel
theorem tri_2 : Tri 2 := by decide +kernel
theorem tri_3 : Tri 3 := by decide +kernel

end Cert.SbPromptIdeal.Value
end
-- ==== Proof.SbTri1.lean ====
/-
  The kernel's literal triangle, entries 8192 to 16383: each theorem is 2048 of them, checked one by one.
-/
module

public import proofs.«01_k».proof.Proof.SbTri

@[expose] public section

set_option maxRecDepth 16384

noncomputable section

namespace Cert.SbPromptIdeal.Value

open Cert.SbPromptIdeal Idealize.ShloMosaic

theorem tri_4 : Tri 4 := by decide +kernel
theorem tri_5 : Tri 5 := by decide +kernel
theorem tri_6 : Tri 6 := by decide +kernel
theorem tri_7 : Tri 7 := by decide +kernel

end Cert.SbPromptIdeal.Value
end
-- ==== Proof.SbTri2.lean ====
/-
  The kernel's literal triangle, entries 16384 to 24575: each theorem is 2048 of them, checked one by one.
-/
module

public import proofs.«01_k».proof.Proof.SbTri

@[expose] public section

set_option maxRecDepth 16384

noncomputable section

namespace Cert.SbPromptIdeal.Value

open Cert.SbPromptIdeal Idealize.ShloMosaic

theorem tri_8 : Tri 8 := by decide +kernel
theorem tri_9 : Tri 9 := by decide +kernel
theorem tri_10 : Tri 10 := by decide +kernel
theorem tri_11 : Tri 11 := by decide +kernel

end Cert.SbPromptIdeal.Value
end
-- ==== Proof.SbTri3.lean ====
/-
  The kernel's literal triangle, entries 24576 to 32767: each theorem is 2048 of them, checked one by one.
-/
module

public import proofs.«01_k».proof.Proof.SbTri

@[expose] public section

set_option maxRecDepth 16384

noncomputable section

namespace Cert.SbPromptIdeal.Value

open Cert.SbPromptIdeal Idealize.ShloMosaic

theorem tri_12 : Tri 12 := by decide +kernel
theorem tri_13 : Tri 13 := by decide +kernel
theorem tri_14 : Tri 14 := by decide +kernel
theorem tri_15 : Tri 15 := by decide +kernel

end Cert.SbPromptIdeal.Value
end
-- ==== Proof.SbTri4.lean ====
/-
  The kernel's literal triangle, entries 32768 to 40959: each theorem is 2048 of them, checked one by one.
-/
module

public import proofs.«01_k».proof.Proof.SbTri

@[expose] public section

set_option maxRecDepth 16384

noncomputable section

namespace Cert.SbPromptIdeal.Value

open Cert.SbPromptIdeal Idealize.ShloMosaic

theorem tri_16 : Tri 16 := by decide +kernel
theorem tri_17 : Tri 17 := by decide +kernel
theorem tri_18 : Tri 18 := by decide +kernel
theorem tri_19 : Tri 19 := by decide +kernel

end Cert.SbPromptIdeal.Value
end
-- ==== Proof.SbTri5.lean ====
/-
  The kernel's literal triangle, entries 40960 to 49151: each theorem is 2048 of them, checked one by one.
-/
module

public import proofs.«01_k».proof.Proof.SbTri

@[expose] public section

set_option maxRecDepth 16384

noncomputable section

namespace Cert.SbPromptIdeal.Value

open Cert.SbPromptIdeal Idealize.ShloMosaic

theorem tri_20 : Tri 20 := by decide +kernel
theorem tri_21 : Tri 21 := by decide +kernel
theorem tri_22 : Tri 22 := by decide +kernel
theorem tri_23 : Tri 23 := by decide +kernel

end Cert.SbPromptIdeal.Value
end
-- ==== Proof.SbTri6.lean ====
/-
  The kernel's literal triangle, entries 49152 to 57343: each theorem is 2048 of them, checked one by one.
-/
module

public import proofs.«01_k».proof.Proof.SbTri

@[expose] public section

set_option maxRecDepth 16384

noncomputable section

namespace Cert.SbPromptIdeal.Value

open Cert.SbPromptIdeal Idealize.ShloMosaic

theorem tri_24 : Tri 24 := by decide +kernel
theorem tri_25 : Tri 25 := by decide +kernel
theorem tri_26 : Tri 26 := by decide +kernel
theorem tri_27 : Tri 27 := by decide +kernel

end Cert.SbPromptIdeal.Value
end
-- ==== Proof.SbTri7.lean ====
/-
  The kernel's literal triangle, entries 57344 to 65535: each theorem is 2048 of them, checked one by one.
-/
module

public import proofs.«01_k».proof.Proof.SbTri

@[expose] public section

set_option maxRecDepth 16384

noncomputable section

namespace Cert.SbPromptIdeal.Value

open Cert.SbPromptIdeal Idealize.ShloMosaic

theorem tri_28 : Tri 28 := by decide +kernel
theorem tri_29 : Tri 29 := by decide +kernel
theorem tri_30 : Tri 30 := by decide +kernel
theorem tri_31 : Tri 31 := by decide +kernel

end Cert.SbPromptIdeal.Value
end
-- ==== Proof.SbTriAll.lean ====
/-
  The kernel's literal triangle as a whole.
-/
module

public import proofs.«01_k».proof.Proof.SbTri0
public import proofs.«01_k».proof.Proof.SbTri1
public import proofs.«01_k».proof.Proof.SbTri2
public import proofs.«01_k».proof.Proof.SbTri3
public import proofs.«01_k».proof.Proof.SbTri4
public import proofs.«01_k».proof.Proof.SbTri5
public import proofs.«01_k».proof.Proof.SbTri6
public import proofs.«01_k».proof.Proof.SbTri7

@[expose] public section

set_option maxRecDepth 16384

noncomputable section

namespace Cert.SbPromptIdeal.Value

open Cert.SbPromptIdeal Idealize.ShloMosaic

/-- Every entry of the literal. -/
theorem lit_eq (i : Fin 65536) : lit0 i = if i.val % 256 < i.val / 256 then 0x3F80#16 else 0x0000#16 := by
  have hi := i.isLt
  have key : ∀ n, n < 32 → Tri n := by
    intro n hn
    match n, hn with
    | 0, _ => exact tri_0
    | 1, _ => exact tri_1
    | 2, _ => exact tri_2
    | 3, _ => exact tri_3
    | 4, _ => exact tri_4
    | 5, _ => exact tri_5
    | 6, _ => exact tri_6
    | 7, _ => exact tri_7
    | 8, _ => exact tri_8
    | 9, _ => exact tri_9
    | 10, _ => exact tri_10
    | 11, _ => exact tri_11
    | 12, _ => exact tri_12
    | 13, _ => exact tri_13
    | 14, _ => exact tri_14
    | 15, _ => exact tri_15
    | 16, _ => exact tri_16
    | 17, _ => exact tri_17
    | 18, _ => exact tri_18
    | 19, _ => exact tri_19
    | 20, _ => exact tri_20
    | 21, _ => exact tri_21
    | 22, _ => exact tri_22
    | 23, _ => exact tri_23
    | 24, _ => exact tri_24
    | 25, _ => exact tri_25
    | 26, _ => exact tri_26
    | 27, _ => exact tri_27
    | 28, _ => exact tri_28
    | 29, _ => exact tri_29
    | 30, _ => exact tri_30
    | 31, _ => exact tri_31
    | n + 32, h => exact absurd h (by omega)
  have h := key (i.val / 2048) (by omega) ⟨i.val % 2048, by omega⟩
  have e : 2048 * (i.val / 2048) + i.val % 2048 = i.val := by omega
  dsimp only at h
  rw [e] at h
  exact h

end Cert.SbPromptIdeal.Value
end
-- ==== Proof.SbValue.lean ====
/-
  The stick-breaking kernel's result array: the two scratch arrays after every grid point, then the output blocks of the
  last points of the runs, then the array they make up.
-/
module

public import proofs.«01_k».proof.Proof.SbPoint
public import proofs.«01_k».proof.Proof.SbTriAll

@[expose] public section

set_option maxRecDepth 16384

noncomputable section

namespace Cert.SbPromptIdeal.Value

open Cert.SbPromptIdeal Cert.SbPromptIdeal.Gen Idealize.ShloMosaic Idealize.ShloMosaic.TcCoe Idealize.SL.Sem
open Idealize.ShloMosaic.Pipeline (Dat)
open Cert.LatentMath Cert.StickMath Cert.OnlineSoftmax

variable (m : (ℓ : Loc nD τ sig) → Buf (Elt Ideal) ℓ) (c : Dev nD)

/-- The blocks each point reads and writes: query block `t / 8 % 8` of sequence `t / 128` and key head `t / 64 % 2`, the
    key block `t % 8` blocks before it (or the first), the whole triangle. -/
theorem idx : ∀ t : Fin cfg0.N, win0_0.index t = ![t.val / 64 % 2, t.val / 128 * 8 + t.val / 8 % 8, 0]
    ∧ win0_1.index t = ![t.val / 128 * 8 + (t.val / 8 % 8 - t.val % 8), t.val / 64 % 2]
    ∧ win0_2.index t = ![t.val / 128 * 8 + (t.val / 8 % 8 - t.val % 8), t.val / 64 % 2]
    ∧ win0_3.index t = ![0, 0]
    ∧ win0_4.index t = ![t.val / 128 * 8 + t.val / 8 % 8, t.val / 64 % 2] :=
  (by decide +kernel : ∀ t : Fin grid0.N, _)

/-- The three arrays as functions of their indices. -/
abbrev argQ : Fin 8 → Fin 9216 → Fin 128 → EReal := fun h i x => m (c.tc.loc main_arg0) (ix3 h i x)
abbrev argK : Fin 9216 → Fin 256 → EReal := fun i x => m (c.tc.loc main_arg1) (ix2 i x)
abbrev argV : Fin 9216 → Fin 256 → EReal := fun i x => m (c.tc.loc main_arg2) (ix2 i x)

theorem blk0 (t : Fin cfg0.N) (g : Fin 4) (p : Fin 256) (x : Fin 128) :
    iblk m c 0 t (ix3 g p x) = m (c.tc.loc main_arg0) (ix3 ⟨t.val / 64 % 2 * 4 + g.val, by have := g.isLt; omega⟩
      (row (t.val / 128) (256 * (t.val / 8 % 8) + p.val)) x) := by
  have ht : t.val < 512 := t.isLt
  unfold row
  blk_ext [iblk, V, idx t]

theorem blk1 (t : Fin cfg0.N) (j : Fin 256) (x : Fin 128) :
    iblk m c 1 t (ix2 j x) = m (c.tc.loc main_arg1) (ix2 (row (t.val / 128) (256 * (t.val / 8 % 8 - t.val % 8) + j.val))
      ⟨t.val / 64 % 2 * 128 + x.val, by have := x.isLt; omega⟩) := by
  have ht : t.val < 512 := t.isLt
  unfold row
  blk_ext [iblk, V, idx t]

theorem blk2 (t : Fin cfg0.N) (j : Fin 256) (x : Fin 128) :
    iblk m c 2 t (ix2 j x) = m (c.tc.loc main_arg2) (ix2 (row (t.val / 128) (256 * (t.val / 8 % 8 - t.val % 8) + j.val))
      ⟨t.val / 64 % 2 * 128 + x.val, by have := x.isLt; omega⟩) := by
  have ht : t.val < 512 := t.isLt
  unfold row
  blk_ext [iblk, V, idx t]

theorem oneBits : Ideal.ofBits FTy.bf16 0x3F80#16 = 1 := by
  pointwise

/-- An entry of the triangle. -/
theorem lit_at (i j : Fin 256) (n : Fin 65536) (hn : n.val = i.val * 256 + j.val) :
    Ideal.ofBits FTy.bf16 (lit0 n) = (if j.val < i.val then 1 else 0 : EReal) := by
  have hj := j.isLt
  rw [lit_eq, hn, show (i.val * 256 + j.val) % 256 = j.val by omega, show (i.val * 256 + j.val) / 256 = i.val by omega]
  split
  · exact oneBits
  · simp [Ideal.ofBits, Ideal.ieee]

theorem blk3 (t : Fin cfg0.N) (i j : Fin 256) :
    iblk m c 3 t (ix2 i j) = (if j.val < i.val then 1 else 0 : EReal) := by
  have ht : t.val < 512 := t.isLt
  have hi := i.isLt
  have hj := j.isLt
  blk_simp [iblk, idx t]
  entry_read
  have e : (((View.whole main_cst).slice (win0_3.rect t)).emb (ix2 i j) : S256x256.Idx) = ix2 i j := by
    blk_ext [idx t]
  rw [e]
  exact lit_at i j _ (Shape.rowMajor_val_two _)

/-- The head of scratch row `r` under key head `kv`. -/
def headOf (kv : ℕ) (r : Fin 1024) : Fin 8 := ⟨kv % 2 * 4 + r.val / 256, by have := r.isLt; omega⟩

/-- The column a head reads, under its key head. -/
theorem col_eq (kv : ℕ) (r : Fin 1024) (x : Fin 128) (h : kv % 2 * 128 + x.val < 256) : (⟨kv % 2 * 128 + x.val, h⟩ : Fin 256) = colOf (headOf kv r) x :=
  Fin.ext (by have := r.isLt; show kv % 2 * 128 + x.val = (kv % 2 * 4 + r.val / 256) / 4 * 128 + x.val; omega)

/-- With the keys from `N` on seen: the carried sum is the sum of their log-survivals, the other array the weighted sum of
    their values. -/
def Inv (b kv qi N : ℕ) (C : Vec Ideal S1024x1 .f32) (A : Vec Ideal S1024x128 .f32) : Prop :=
  ∀ r : Fin 1024, C (ix2 r 0) = ((tail (argQ m c) (argK m c) (headOf kv r) b (256 * qi + r.val % 256) N : ℝ) : EReal)
    ∧ ∀ d : Fin 128, A (ix2 r d) = mix (argQ m c) (argK m c) (argV m c) (headOf kv r) b (256 * qi + r.val % 256) N d

/-- The scores a point computes. -/
theorem dot_point (t : Fin cfg0.N) (r : Fin 1024) (j : Fin 256) :
    dotAt (iblk m c 0 t) (iblk m c 1 t) r j = logit (argQ m c) (argK m c) (headOf (t.val / 64) r) (t.val / 128)
      (256 * (t.val / 8 % 8) + r.val % 256) (256 * (t.val / 8 % 8 - t.val % 8) + j.val) := by
  unfold dotAt
  simp only [blk0, blk1, col_eq (t.val / 64) r]
  rfl

/-- The values a point reads. -/
theorem val_point (t : Fin cfg0.N) (r : Fin 1024) (j : Fin 256) (d : Fin 128) :
    iblk m c 2 t (ix2 j d) = argV m c (row (t.val / 128) (256 * (t.val / 8 % 8 - t.val % 8) + j.val)) (colOf (headOf (t.val / 64) r) d) := by
  rw [blk2, col_eq (t.val / 64) r]

variable {m c} (R : RealQK (argQ m c) (argK m c))
include R

/-- The logarithm of the survival, from a real score. -/
theorem keep_real (t : Fin cfg0.N) (r : Fin 1024) (j : Fin 256) :
    0 - (max (dotAt (iblk m c 0 t) (iblk m c 1 t) r j) 0 + Ideal.log (1 + Ideal.exp (0 - max (dotAt (iblk m c 0 t) (iblk m c 1 t) r j) (-(dotAt (iblk m c 0 t) (iblk m c 1 t) r j)))))
      = ((keep (logit (argQ m c) (argK m c) (headOf (t.val / 64) r) (t.val / 128)
      (256 * (t.val / 8 % 8) + r.val % 256) (256 * (t.val / 8 % 8 - t.val % 8) + j.val)).toReal : ℝ) : EReal) := by
  rw [dot_point, logit_coe R, keep_kernel, EReal.toReal_coe]

/-- The diagonal block's log-survivals, masked. -/
theorem lk_first (t : Fin cfg0.N) (h0 : t.val % 8 = 0) (r : Fin 1024) (j : Fin 256) :
    k0_pay14 (iblk m c 0 t) (iblk m c 1 t) (ix2 r j) = ((lk (argQ m c) (argK m c) (headOf (t.val / 64) r) (t.val / 128)
      (256 * (t.val / 8 % 8) + r.val % 256) (256 * (t.val / 8 % 8 - t.val % 8) + j.val) : ℝ) : EReal) := by
  refine (keep14_at _ _ r j).trans ?_
  rw [keep13_at, keep_real R, lk]
  by_cases h : j.val < r.val % 256
  · rw [if_pos h, if_pos (by omega)]
  · rw [if_neg h, if_neg (by omega), EReal.coe_zero]

/-- An earlier block's log-survivals. -/
theorem lk_next (t : Fin cfg0.N) (h0 : ¬t.val % 8 = 0) (h2 : t.val % 8 ≤ t.val / 8 % 8) (r : Fin 1024) (j : Fin 256) :
    k0_pay18 (iblk m c 0 t) (iblk m c 1 t) (ix2 r j) = ((lk (argQ m c) (argK m c) (headOf (t.val / 64) r) (t.val / 128)
      (256 * (t.val / 8 % 8) + r.val % 256) (256 * (t.val / 8 % 8 - t.val % 8) + j.val) : ℝ) : EReal) := by
  have hj := j.isLt
  refine (keep18_at _ _ r j).trans ?_
  rw [keep_real R, lk, if_pos (by omega)]

/-- The first step: the diagonal block, from nothing. -/
theorem inv_first (t : Fin cfg0.N) (h0 : t.val % 8 = 0) :
    Inv m c (t.val / 128) (t.val / 64) (t.val / 8 % 8) (256 * (t.val / 8 % 8 - t.val % 8)) (outsAt0 m c t.val t.isLt).2.1
      (outsAt0 m c t.val t.isLt).2.2 := by
  have ht : t.val < 512 := t.isLt
  intro r
  rw [first_C m c t h0, first_A m c t h0]
  have hN : 256 * (t.val / 8 % 8 - t.val % 8) + 256 ≤ 2048 := by omega
  have hend : 256 * (t.val / 8 % 8) + r.val % 256 ≤ 256 * (t.val / 8 % 8 - t.val % 8) + 256 := by omega
  refine ⟨?_, fun d => ?_⟩
  · refine (firstC_at _ _ r).trans ?_
    rw [tail_block _ _ _ _ hN, tail_end _ _ _ _ hend, zero_add, ← coe_sum]
    exact Finset.sum_congr rfl fun i _ => lk_first R t h0 r i
  · refine (firstA_at _ _ _ _ r d).trans ?_
    rw [mix_block _ _ _ _ _ hN, mix_end _ _ _ _ _ hend, zero_add]
    refine Finset.sum_congr (M := EReal) rfl fun i _ => congrArg₂ (fun a b : EReal => a * b) ?_ (val_point m c t r i d)
    by_cases h : i.val < r.val % 256
    · rw [if_pos h, ← wgt_kernel R _ _ _ _ i hN (by omega), tail_end _ _ _ _ hend]
      refine (w15_at _ _ _ _ r i).trans ?_
      rw [startC_at, keep13_at, keep_real R, dot_point, EReal.coe_zero]
      simp only [lk_first R t h0, blk3]
    · rw [if_neg h, wgt, if_neg (by omega), EReal.coe_zero]

/-- A later step with a block left. -/
theorem inv_next (t : Fin cfg0.N) (h0 : ¬t.val % 8 = 0) (h2 : t.val % 8 ≤ t.val / 8 % 8)
    (I : Inv m c (t.val / 128) (t.val / 64) (t.val / 8 % 8) (256 * (t.val / 8 % 8 - t.val % 8) + 256)
      (outsAt0 m c (t.val - 1) (prev_lt t)).2.1 (outsAt0 m c (t.val - 1) (prev_lt t)).2.2) :
    Inv m c (t.val / 128) (t.val / 64) (t.val / 8 % 8) (256 * (t.val / 8 % 8 - t.val % 8)) (outsAt0 m c t.val t.isLt).2.1
      (outsAt0 m c t.val t.isLt).2.2 := by
  have ht : t.val < 512 := t.isLt
  intro r
  obtain ⟨IC, IA⟩ := I r
  rw [next_C m c t h0 h2, next_A m c t h0 h2]
  have hN : 256 * (t.val / 8 % 8 - t.val % 8) + 256 ≤ 2048 := by omega
  refine ⟨?_, fun d => ?_⟩
  · refine (nextC_at _ _ _ r).trans ?_
    rw [tail_block _ _ _ _ hN, IC, EReal.coe_add, ← coe_sum]
    exact congrArg₂ (fun a b : EReal => a + b) rfl (Finset.sum_congr rfl fun i _ => lk_next R t h0 h2 r i)
  · refine (nextA_at _ _ _ _ _ _ r d).trans ?_
    rw [mix_block _ _ _ _ _ hN, IA]
    refine congrArg₂ (fun a b : EReal => a + b) rfl
      (Finset.sum_congr (M := EReal) rfl fun i _ => congrArg₂ (fun a b : EReal => a * b) ?_ (val_point m c t r i d))
    have hi := i.isLt
    rw [← wgt_kernel R _ _ _ _ i hN (by omega)]
    refine (w20_at _ _ _ _ r i).trans ?_
    rw [IC, keep18_at, keep_real R, dot_point]
    simp only [lk_next R t h0 h2, blk3]

/-- The scratch arrays after every point. -/
theorem inv_all : ∀ (n : ℕ) (hn : n < cfg0.N), Inv m c (n / 128) (n / 64) (n / 8 % 8) (256 * (n / 8 % 8 - n % 8))
    (outsAt0 m c n hn).2.1 (outsAt0 m c n hn).2.2 := by
  intro n
  induction n with
  | zero => exact fun hn => inv_first R ⟨0, hn⟩ rfl
  | succ n ih =>
    intro hn
    by_cases h0 : (n + 1) % 8 = 0
    · exact inv_first R ⟨n + 1, hn⟩ h0
    have I := ih (Nat.lt_of_succ_lt hn)
    have e1 : (n + 1) / 128 = n / 128 := by omega
    have e2 : (n + 1) / 64 = n / 64 := by omega
    have e3 : (n + 1) / 8 % 8 = n / 8 % 8 := by omega
    by_cases h2 : (n + 1) % 8 ≤ (n + 1) / 8 % 8
    · refine inv_next R ⟨n + 1, hn⟩ h0 h2 ?_
      dsimp only
      rw [e1, e2, e3, show 256 * (n / 8 % 8 - (n + 1) % 8) + 256 = 256 * (n / 8 % 8 - n % 8) by omega]
      exact I
    · have eC := idle_C m c ⟨n + 1, hn⟩ h0 h2
      have eA := idle_A m c ⟨n + 1, hn⟩ h0 h2
      dsimp only at eC eA
      rw [eC, eA, e1, e2, e3, show 256 * (n / 8 % 8 - (n + 1) % 8) = 256 * (n / 8 % 8 - n % 8) by omega]
      exact I

/-- The output block a run's last point writes. -/
theorem out_last (t : Fin cfg0.N) (h3 : t.val % 8 = 7) (p : Fin 256) (n : Fin 512) :
    (outsAt0 m c t.val t.isLt).1 (ix2 p n) = mix (argQ m c) (argK m c) (argV m c)
      ⟨t.val / 64 % 2 * 4 + n.val / 128, by have := n.isLt; omega⟩ (t.val / 128) (256 * (t.val / 8 % 8) + p.val) 0 ⟨n.val % 128, by omega⟩ := by
  have hp := p.isLt
  have hn := n.isLt
  rw [last_out m c t h3]
  refine (outOf_at _ p n).trans ?_
  have I := (inv_all R t.val t.isLt ⟨n.val / 128 * 256 + p.val, by omega⟩).2 ⟨n.val % 128, by omega⟩
  rw [I]
  have e1 : headOf (t.val / 64) ⟨n.val / 128 * 256 + p.val, by omega⟩ = ⟨t.val / 64 % 2 * 4 + n.val / 128, by omega⟩ :=
    Fin.ext (by show t.val / 64 % 2 * 4 + (n.val / 128 * 256 + p.val) / 256 = t.val / 64 % 2 * 4 + n.val / 128; omega)
  have e2 : (n.val / 128 * 256 + p.val) % 256 = p.val := by omega
  have e3 : 256 * (t.val / 8 % 8 - t.val % 8) = 0 := by omega
  rw [e1, e3]
  dsimp only
  rw [e2]

omit R
variable (m c)

/-- The weighted sums as an array: token `i`, column `j` (head `j / 128`). -/
def result : Vec Ideal S8192x1024 .bf16 := fun y => mix (argQ m c) (argK m c) (argV m c) ⟨(y 1).val / 128, by have : (y 1).val < 1024 := (y 1).isLt; omega⟩
  ((y 0).val / 2048) ((y 0).val % 2048) 0 ⟨(y 1).val % 128, by omega⟩

variable {m c}

/-- THE KERNEL'S RESULT is the array of weighted sums. -/
theorem arr_eq (R : RealQK (argQ m c) (argK m c)) : (dats m 0 c).arrAt 4 cfg0.N = result m c := by
  refine (dats m 0 c).arrAt_eq_of_covers 4 (result m c) (by decide +kernel) fun t hf y => ?_
  have ht : t.val < 512 := t.isLt
  have h7 : t.val % 8 = 7 := (flush0_4 t).1 hf
  blk_simp
  rw [after0_4]
  have key : ∀ (p : Fin 256) (n : Fin 512), (outsAt0 m c t.val t.isLt).1 (ix2 p n) = result m c ((win0_4.blk t).view.emb (ix2 p n)) := by
    intro p n
    have hp := p.isLt
    have hn := n.isLt
    rw [out_last R t h7]
    have e0 : ((win0_4.blk t).view.emb (ix2 p n) 0).val = (t.val / 128 * 8 + t.val / 8 % 8) * 256 + p.val := by
      blk_simp [idx t]
    have e1 : ((win0_4.blk t).view.emb (ix2 p n) 1).val = t.val / 64 % 2 * 512 + n.val := by
      blk_simp [idx t]
    unfold result
    congr 1
    · refine Fin.ext ?_
      show t.val / 64 % 2 * 4 + n.val / 128 = ((win0_4.blk t).view.emb (ix2 p n) 1).val / 128
      omega
    · omega
    · omega
    · refine Fin.ext ?_
      show n.val % 128 = ((win0_4.blk t).view.emb (ix2 p n) 1).val % 128
      omega
  have hy : y = ix2 (y 0) (y 1) := eq_ix2 (n0 := 256) (n1 := 512) y
  rw [hy]
  exact key _ _

end Cert.SbPromptIdeal.Value
end
-- ==== Proof.RunningSum.lean ====
/-
  A float running sum along the last of five axes, counted from the far end, as the reference's cumulative sum computes
  it: a window as long as the axis, padded by zeros past the end.
-/
module

public import proofs.«01_k».proof.Proof.OnlineSoftmax
public import Idealize.ShloMosaic.Lib.Pointwise

@[expose] public section

noncomputable section

open Idealize.ShloMosaic

namespace Cert.RunningSum

/-- A left fold of additions is a sum. -/
theorem foldl_add_eq {n : ℕ} (f : Fin n → EReal) (v : EReal) :
    (List.finRange n).foldl (fun r i => r + f i) v = v + ∑ i, f i := by
  have e : ∀ (l : List (Fin n)) (v : EReal), l.foldl (fun r i => r + f i) v = v + (l.map f).sum := by
    intro l
    induction l with
    | nil => intro v; simp
    | cons a l ih => intro v; rw [List.foldl_cons, ih, List.map_cons, List.sum_cons, add_assoc]
  rw [e, Fin.sum_univ_def]

/-- The positions of a window that is long in its last axis only. -/
def lastPos (N : ℕ) : (⟨5, ![1, 1, 1, 1, N]⟩ : Shape).Idx ≃ Fin N where
  toFun p := p 4
  invFun n := ix5 0 0 0 0 n
  left_inv p := by
    funext a
    match a with
    | 0 => exact Subsingleton.elim (α := Fin 1) _ _
    | 1 => exact Subsingleton.elim (α := Fin 1) _ _
    | 2 => exact Subsingleton.elim (α := Fin 1) _ _
    | 3 => exact Subsingleton.elim (α := Fin 1) _ _
    | 4 => rfl
  right_inv n := rfl

/-- The running sum of real numbers: entry `s` holds the sum of the entries from `s` on. -/
theorem from_last5 {n0 n1 n2 n3 N M : ℕ} (hM : M + 1 = N) (x : FVec Ideal ⟨5, ![n0, n1, n2, n3, N]⟩ .f32) {u : Shape} (init : FVec Ideal u .f32)
    (h : (⟨5, ![n0, n1, n2, n3, N]⟩ : Shape).ReduceWindows (![1, 1, 1, 1, N] : Fin 5 → Nat) ![1, 1, 1, 1, 1] ![0, 0, 0, 0, 0] ![0, 0, 0, 0, M]
      ⟨5, ![n0, n1, n2, n3, N]⟩) (hu : 0 < u.numel) (hinit : init (Shape.Idx.first hu) = (0 : EReal))
    (a : Fin n0) (b : Fin n1) (c : Fin n2) (d : Fin n3) (s : Fin N) (f : ℕ → ℝ)
    (hf : ∀ i : Fin N, x (ix5 a b c d i) = ((f i.val : ℝ) : EReal)) :
    Host.reduceWindowAdd ![1, 1, 1, 1, N] ![1, 1, 1, 1, 1] ![0, 0, 0, 0, 0] ![0, 0, 0, 0, M] x init h hu (ix5 a b c d s)
      = ((∑ i ∈ Finset.Ico s.val N, f i : ℝ) : EReal) := by
  have hs := s.isLt
  refine Eq.trans (b := (0 : EReal) + ∑ n : Fin N, (if s.val + n.val < N then ((f (s.val + n.val) : ℝ) : EReal) else 0)) ?_ ?_
  · show Ideal.hostReduceWindowAdd _ _ _ _ h x (init (Shape.Idx.first hu)) (ix5 a b c d s) = _
    rw [hinit]
    unfold Ideal.hostReduceWindowAdd Host.reduceWindow
    refine (foldl_add_eq _ _).trans (congrArg (fun y => (0 : EReal) + y) ?_)
    refine Fintype.sum_equiv ((⟨5, ![1, 1, 1, 1, N]⟩ : Shape).rowMajor.symm.trans (lastPos N)) _ _ fun n => ?_
    have w : ∀ e : Fin 5, e ≠ 4 → (((⟨5, ![1, 1, 1, 1, N]⟩ : Shape).rowMajor.symm n) e).val = 0 := fun e he => by
      have := (((⟨5, ![1, 1, 1, 1, N]⟩ : Shape).rowMajor.symm n) e).isLt
      match e, he with
      | 0, _ => exact Nat.lt_one_iff.1 this
      | 1, _ => exact Nat.lt_one_iff.1 this
      | 2, _ => exact Nat.lt_one_iff.1 this
      | 3, _ => exact Nat.lt_one_iff.1 this
      | 4, h => exact absurd rfl h
    have w0 := w 0 (by decide)
    have w1 := w 1 (by decide)
    have w2 := w 2 (by decide)
    have w3 := w 3 (by decide)
    show _ = if s.val + (((⟨5, ![1, 1, 1, 1, N]⟩ : Shape).rowMajor.symm n) 4).val < N
      then ((f (s.val + (((⟨5, ![1, 1, 1, 1, N]⟩ : Shape).rowMajor.symm n) 4).val) : ℝ) : EReal) else 0
    split
    · next hin =>
      have h4 := hin 4
      change 0 ≤ s.val * 1 + (((⟨5, ![1, 1, 1, 1, N]⟩ : Shape).rowMajor.symm n) 4).val
        ∧ s.val * 1 + (((⟨5, ![1, 1, 1, 1, N]⟩ : Shape).rowMajor.symm n) 4).val - 0 < N at h4
      have h5 : s.val + (((⟨5, ![1, 1, 1, 1, N]⟩ : Shape).rowMajor.symm n) 4).val < N := by omega
      rw [if_pos h5]
      refine (congrArg x (funext fun e => Fin.ext ?_)).trans (hf ⟨_, h5⟩)
      match e with
      | 0 => show a.val * 1 + (((⟨5, ![1, 1, 1, 1, N]⟩ : Shape).rowMajor.symm n) 0).val - 0 = a.val; rw [w0]; omega
      | 1 => show b.val * 1 + (((⟨5, ![1, 1, 1, 1, N]⟩ : Shape).rowMajor.symm n) 1).val - 0 = b.val; rw [w1]; omega
      | 2 => show c.val * 1 + (((⟨5, ![1, 1, 1, 1, N]⟩ : Shape).rowMajor.symm n) 2).val - 0 = c.val; rw [w2]; omega
      | 3 => show d.val * 1 + (((⟨5, ![1, 1, 1, 1, N]⟩ : Shape).rowMajor.symm n) 3).val - 0 = d.val; rw [w3]; omega
      | 4 => show s.val * 1 + (((⟨5, ![1, 1, 1, 1, N]⟩ : Shape).rowMajor.symm n) 4).val - 0 = _; exact (by omega : s.val * 1 + (((⟨5, ![1, 1, 1, 1, N]⟩ : Shape).rowMajor.symm n) 4).val - 0 = s.val + (((⟨5, ![1, 1, 1, 1, N]⟩ : Shape).rowMajor.symm n) 4).val)
    · next hin =>
      rw [if_neg]
      intro h5
      refine hin fun e => ?_
      match e with
      | 0 => show 0 ≤ _ ∧ a.val * 1 + (((⟨5, ![1, 1, 1, 1, N]⟩ : Shape).rowMajor.symm n) 0).val - 0 < n0; rw [w0]; have := a.isLt; exact ⟨Nat.zero_le _, by omega⟩
      | 1 => show 0 ≤ _ ∧ b.val * 1 + (((⟨5, ![1, 1, 1, 1, N]⟩ : Shape).rowMajor.symm n) 1).val - 0 < n1; rw [w1]; have := b.isLt; exact ⟨Nat.zero_le _, by omega⟩
      | 2 => show 0 ≤ _ ∧ c.val * 1 + (((⟨5, ![1, 1, 1, 1, N]⟩ : Shape).rowMajor.symm n) 2).val - 0 < n2; rw [w2]; have := c.isLt; exact ⟨Nat.zero_le _, by omega⟩
      | 3 => show 0 ≤ _ ∧ d.val * 1 + (((⟨5, ![1, 1, 1, 1, N]⟩ : Shape).rowMajor.symm n) 3).val - 0 < n3; rw [w3]; have := d.isLt; exact ⟨Nat.zero_le _, by omega⟩
      | 4 => show 0 ≤ _ ∧ s.val * 1 + (((⟨5, ![1, 1, 1, 1, N]⟩ : Shape).rowMajor.symm n) 4).val - 0 < N; exact ⟨Nat.zero_le _, by omega⟩
  · rw [zero_add]
    have e : ∀ n : Fin N, (if s.val + n.val < N then ((f (s.val + n.val) : ℝ) : EReal) else 0)
        = (((if s.val + n.val < N then f (s.val + n.val) else 0) : ℝ) : EReal) := fun n => by
      split
      · rfl
      · rw [EReal.coe_zero]
    simp only [e]
    rw [Cert.OnlineSoftmax.coe_sum, Fin.sum_univ_eq_sum_range (fun n => if s.val + n < N then f (s.val + n) else 0) N, ← Finset.sum_filter,
      Finset.sum_Ico_eq_sum_range]
    congr 1
    refine Finset.sum_congr (Finset.ext fun n => ?_) fun _ _ => rfl
    simp only [Finset.mem_filter, Finset.mem_range]
    omega

end Cert.RunningSum
end
-- ==== Proof.SbRef.lean ====
/-
  The reference of the stick-breaking attention read at one index: the scores, the log-survivals, their running sums, the
  weights and the sum of the values.
-/
module

public import proofs.«01_k».proof.Proof.Gen.SbReferenceIdeal.Run
public import proofs.«01_k».proof.Proof.StickMath
public import proofs.«01_k».proof.Proof.RunningSum
public import Idealize.ShloMosaic.Lib.Pipeline.ValueKit
public import Idealize.ShloMosaic.Lib.WordCmp

@[expose] public section

set_option maxRecDepth 16384

noncomputable section

namespace Cert.SbReferenceIdeal.Value

open Cert.SbReferenceIdeal Cert.SbReferenceIdeal.Gen Idealize.ShloMosaic Idealize.ShloMosaic.TcCoe Idealize.SL.Sem Idealize.ShloMosaic.StableHlo

section
variable {F : FTy → Type} [FloatOps F]
variable (m : (ℓ : Loc nD τ sig) → Buf (Elt F) ℓ) (c : Dev nD)

/-- The scores `[b, kv, g, t, s]`. -/
def scores : FVec F S4x2x4x2048x2048 .f32 :=
  mulf (transpose S4x2x4x2048x2048 [0, 1, 4, 3, 2] (Host.dotGeneral dot_S4x2048x2x128_S4x2048x2x4x128_S4x2x2048x2048x4_3_4_1_13_02_02 none (shapeCast _ (extractStridedSlice S8192x256 ![0, 0] (extf .f32 (m ((c.tc : Thread nD τ).loc main_arg1)) bitsLt_bf16_f32) slices_S9216x256_S8192x256_0_0) shapeCasts_S8192x256_S4x2048x2x128) (transpose S4x2048x2x4x128 [2, 3, 0, 1, 4] (shapeCast _ (extractStridedSlice S8x8192x128 ![0, 0, 0] (extf .f32 (m ((c.tc : Thread nD τ).loc main_arg0)) bitsLt_bf16_f32) slices_S8x9216x128_S8x8192x128_0_0_0) shapeCasts_S8x8192x128_S2x4x4x2048x128) transposes_S2x4x4x2048x128_S4x2048x2x4x128_2_3_0_1_4)) transposes_S4x2x2048x2048x4_S4x2x4x2048x2048_0_1_4_3_2) (broadcastInDim S4x2x4x2048x2048 ![] bcast_S_S4x2x4x2048x2048 (constant S_ .f32 0x3DB504F3#32))

/-- Which keys come before the query. -/
def before : IVec S4x2x4x2048x2048 1 :=
  broadcastInDim S4x2x4x2048x2048 ![3, 4] bcast_S2048x2048_S4x2x4x2048x2048_3_4 (cmpi .slt (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))

/-- The logarithm of the sigmoid, entry by entry. -/
def logSigs (X : FVec F S4x2x4x2048x2048 .f32) : FVec F S4x2x4x2048x2048 .f32 :=
  Host.negf (select (cmpf .une (subf (Host.negf X) (broadcastInDim S4x2x4x2048x2048 ![] bcast_S_S4x2x4x2048x2048 (constant S_ .f32 0x00000000#32))) (subf (Host.negf X) (broadcastInDim S4x2x4x2048x2048 ![] bcast_S_S4x2x4x2048x2048 (constant S_ .f32 0x00000000#32)))) (addf (Host.negf X) (broadcastInDim S4x2x4x2048x2048 ![] bcast_S_S4x2x4x2048x2048 (constant S_ .f32 0x00000000#32))) (addf (maximumf (Host.negf X) (broadcastInDim S4x2x4x2048x2048 ![] bcast_S_S4x2x4x2048x2048 (constant S_ .f32 0x00000000#32))) (Host.log1p (Host.exp (Host.negf (Host.absf (subf (Host.negf X) (broadcastInDim S4x2x4x2048x2048 ![] bcast_S_S4x2x4x2048x2048 (constant S_ .f32 0x00000000#32)))))))))

/-- The log-survivals. -/
def keeps (X : FVec F S4x2x4x2048x2048 .f32) : FVec F S4x2x4x2048x2048 .f32 :=
  select before (logSigs (Host.negf X)) (broadcastInDim S4x2x4x2048x2048 ![] bcast_S_S4x2x4x2048x2048 (id (constant S_ .f32 0x00000000#32)))

/-- Their sums from each key on. -/
def sums (K : FVec F S4x2x4x2048x2048 .f32) : FVec F S4x2x4x2048x2048 .f32 :=
  Host.reduceWindowAdd ![1, 1, 1, 1, 2048] ![1, 1, 1, 1, 1] ![0, 0, 0, 0, 0] ![0, 0, 0, 0, 2047] K (broadcastInDim S_ ![] bcast_S_S_ (constant S_ .f32 0x00000000#32)) reduceWindows_S4x2x4x2048x2048_S4x2x4x2048x2048_w1s1p0_0_w1s1p0_0_w1s1p0_0_w1s1p0_0_w2048s1p0_2047 h_S_

/-- The weights of scores `X`, log-survivals `K` and running sums `C`. -/
def weightsOf (X K C : FVec F S4x2x4x2048x2048 .f32) : FVec F S4x2x4x2048x2048 .f32 :=
  select before (Host.exp (addf (logSigs X) (subf C K))) (broadcastInDim S4x2x4x2048x2048 ![] bcast_S_S4x2x4x2048x2048 (id (constant S_ .f32 0x00000000#32)))

/-- The weights. -/
def weights : FVec F S4x2x4x2048x2048 .f32 := weightsOf (scores m c) (keeps (scores m c)) (sums (keeps (scores m c)))

/-- The result over weights `W`. -/
def resOf (W : FVec F S4x2x4x2048x2048 .f32) : FVec F S8192x1024 .bf16 :=
  truncf .bf16 (shapeCast _ (transpose S4x2048x2x4x128 [0, 4, 1, 3, 2] (Host.dotGeneral dot_S4x2048x2x128_S4x2x4x2048x2048_S4x2x128x4x2048_1_4_3_23_02_01 none (shapeCast _ (extractStridedSlice S8192x256 ![0, 0] (extf .f32 (m ((c.tc : Thread nD τ).loc main_arg2)) bitsLt_bf16_f32) slices_S9216x256_S8192x256_0_0) shapeCasts_S8192x256_S4x2048x2x128) W) transposes_S4x2x128x4x2048_S4x2048x2x4x128_0_4_1_3_2) shapeCasts_S4x2048x2x4x128_S8192x1024) bitsLt_bf16_f32

/-- The reference's result in those terms. -/
theorem res_eq : res_main_v32 m c = resOf m c (weights m c) := rfl
end

variable (m : (ℓ : Loc nD τ sig) → Buf (Elt Ideal) ℓ) (c : Dev nD)

open Cert.LatentMath Cert.StickMath

/-- The three operands as functions of their coordinates. -/
abbrev argQ : Fin 8 → Fin 9216 → Fin 128 → EReal := fun h i x => m (c.tc.loc main_arg0) (ix3 h i x)
abbrev argK : Fin 9216 → Fin 256 → EReal := fun i x => m (c.tc.loc main_arg1) (ix2 i x)
abbrev argV : Fin 9216 → Fin 256 → EReal := fun i x => m (c.tc.loc main_arg2) (ix2 i x)

/-- Head `g` of key head `kv`. -/
def headOf (kv : Fin 2) (g : Fin 4) : Fin 8 := ⟨kv.val * 4 + g.val, by have := kv.isLt; have := g.isLt; omega⟩

theorem scores_at (b : Fin 4) (kv : Fin 2) (g : Fin 4) (t s : Fin 2048) :
    scores m c (ix5 b kv g t s) = logit (argQ m c) (argK m c) (headOf kv g) b.val t.val s.val := by
  have hb := b.isLt
  have hk := kv.isLt
  have hg := g.isLt
  have ht := t.isLt
  have hs := s.isLt
  pointwise [scores]
  simp only [row_mk]
  rw [logit]
  refine congrArg₂ (fun a b : EReal => a * b) (Finset.sum_congr (M := EReal) rfl fun x _ => ?_) rfl
  refine (EReal.mul_comm _ _).trans (congrArg₂ (fun a b : EReal => a * b) rfl (congrArg (fun y => m (c.tc.loc main_arg1) (ix2 _ y)) (Fin.ext ?_)))
  show kv.val * 128 + x.val = (kv.val * 4 + g.val) / 4 * 128 + x.val
  omega

theorem before_at (b : Fin 4) (kv : Fin 2) (g : Fin 4) (t s : Fin 2048) :
    before (ix5 b kv g t s) = BitVec.ofBool (decide (s.val < t.val)) := by
  have ht := t.isLt
  have hs := s.isLt
  pointwise [before]
  exact WordCmp.cmpi_slt_ofNat (by norm_num; omega) (by norm_num; omega)

theorem zeroBits : Ideal.ofBits FTy.f32 0x00000000#32 = 0 := by
  simp [Ideal.ofBits, Ideal.ieee]

theorem logSigs_at (X : FVec Ideal S4x2x4x2048x2048 .f32) (b : Fin 4) (kv : Fin 2) (g : Fin 4) (t s : Fin 2048) :
    logSigs X (ix5 b kv g t s) = logSig (X (ix5 b kv g t s)) := by
  pointwise [logSigs]
  rw [if_neg (fun h => h rfl), logSig, sub_zero]
  rfl

theorem keeps_at (X : FVec Ideal S4x2x4x2048x2048 .f32) (b : Fin 4) (kv : Fin 2) (g : Fin 4) (t s : Fin 2048) :
    keeps X (ix5 b kv g t s) = if s.val < t.val then logSig (-X (ix5 b kv g t s)) else 0 := by
  pointwise [keeps]
  rw [before_at, logSigs_at]
  by_cases hst : s.val < t.val
  · rw [if_pos hst]; simp [hst, Scalar.select]; rfl
  · rw [if_neg hst]; simp [hst, Scalar.select]; exact zeroBits

theorem weightsOf_at (X K C : FVec Ideal S4x2x4x2048x2048 .f32) (b : Fin 4) (kv : Fin 2) (g : Fin 4) (t s : Fin 2048) :
    weightsOf X K C (ix5 b kv g t s) = if s.val < t.val then
      Ideal.exp (logSig (X (ix5 b kv g t s)) + (C (ix5 b kv g t s) - K (ix5 b kv g t s))) else 0 := by
  pointwise [weightsOf]
  rw [before_at, logSigs_at]
  by_cases hst : s.val < t.val
  · rw [if_pos hst]; simp [hst, Scalar.select]
  · rw [if_neg hst]; simp [hst, Scalar.select]; exact zeroBits

theorem resOf_at (W : FVec Ideal S4x2x4x2048x2048 .f32) (i : Fin 8192) (j : Fin 1024) :
    resOf m c W (ix2 i j) = (∑ x : Fin 2048, argV m c (row (i.val / 2048) x.val) (colOf ⟨j.val / 128, by have := j.isLt; omega⟩ ⟨j.val % 128, by omega⟩)
      * W (ix5 ⟨i.val / 2048, by have := i.isLt; omega⟩ ⟨j.val / 512, by have := j.isLt; omega⟩ ⟨j.val / 128 % 4, by omega⟩ ⟨i.val % 2048, by omega⟩ x) : EReal) := by
  have hi := i.isLt
  have hj := j.isLt
  pointwise [resOf]
  simp only [row_mk]
  refine Finset.sum_congr (M := EReal) rfl fun x _ => congrArg₂ (fun a b : EReal => a * b)
    (congrArg (fun y => m (c.tc.loc main_arg2) (ix2 _ y)) (Fin.ext ?_)) rfl
  show j.val / 512 * 128 + j.val % 128 = j.val / 128 / 4 * 128 + j.val % 128
  omega

variable {m c}

/-- The log-survivals. -/
theorem keep_at (A : RealQK (argQ m c) (argK m c)) (b : Fin 4) (kv : Fin 2) (g : Fin 4) (t s : Fin 2048) :
    keeps (scores m c) (ix5 b kv g t s) = ((lk (argQ m c) (argK m c) (headOf kv g) b.val t.val s.val : ℝ) : EReal) := by
  rw [keeps_at, scores_at, lk]
  split
  · rw [logit_coe A, logSig_neg, EReal.toReal_coe]
  · rw [EReal.coe_zero]

/-- The log-survivals from a key on. -/
theorem sums_at (A : RealQK (argQ m c) (argK m c)) (b : Fin 4) (kv : Fin 2) (g : Fin 4) (t s : Fin 2048) :
    sums (keeps (scores m c)) (ix5 b kv g t s) = ((tail (argQ m c) (argK m c) (headOf kv g) b.val t.val s.val : ℝ) : EReal) := by
  unfold sums
  exact Cert.RunningSum.from_last5 (by norm_num) _ _ _ _ zeroBits b kv g t s (lk (argQ m c) (argK m c) (headOf kv g) b.val t.val)
    fun i => keep_at A b kv g t i

/-- The weights. -/
theorem weights_at (A : RealQK (argQ m c) (argK m c)) (b : Fin 4) (kv : Fin 2) (g : Fin 4) (t s : Fin 2048) :
    weights m c (ix5 b kv g t s) = ((wgt (argQ m c) (argK m c) (headOf kv g) b.val t.val s.val : ℝ) : EReal) := by
  rw [weights, weightsOf_at, scores_at, keep_at A, sums_at A]
  split
  · next h => exact wgt_reference A _ _ _ _ s.isLt h
  · next h => rw [wgt, if_neg h, EReal.coe_zero]

/-- THE REFERENCE'S RESULT at token `i`, column `j` (head `j / 128`): the weighted sum over all keys. -/
theorem res_at (A : RealQK (argQ m c) (argK m c)) (i : Fin 8192) (j : Fin 1024) :
    res_main_v32 m c (ix2 i j) = mix (argQ m c) (argK m c) (argV m c) ⟨j.val / 128, by have := j.isLt; omega⟩
      (i.val / 2048) (i.val % 2048) 0 ⟨j.val % 128, by omega⟩ := by
  have hj := j.isLt
  rw [res_eq, resOf_at]
  have eh : headOf ⟨j.val / 512, by omega⟩ ⟨j.val / 128 % 4, by omega⟩ = ⟨j.val / 128, by omega⟩ :=
    Fin.ext (by show j.val / 512 * 4 + j.val / 128 % 4 = j.val / 128; omega)
  simp only [weights_at A, eh]
  rw [mix, ← Finset.range_eq_Ico, ← Fin.sum_univ_eq_sum_range (fun s => ((wgt (argQ m c) (argK m c) ⟨j.val / 128, by omega⟩ (i.val / 2048) (i.val % 2048) s : ℝ) : EReal)
    * argV m c (row (i.val / 2048) s) (colOf ⟨j.val / 128, by omega⟩ ⟨j.val % 128, by omega⟩))]
  exact Finset.sum_congr (M := EReal) rfl fun x _ => EReal.mul_comm _ _
end Cert.SbReferenceIdeal.Value
end
-- ==== Proof.SbClose.lean ====
/-
  The stick-breaking attention's claim: under the finiteness precondition, the kernel's result array is the reference's.
-/
module

public import proofs.«01_k».proof.Proof.SbValue
public import proofs.«01_k».proof.Proof.SbRef
public import proofs.«01_k».proof.Proof.Finite
public import proofs.«01_k».proof.Defs
public import proofs.«01_k».proof.Proof.Gen.Pre_finite_qk

@[expose] public section

set_option maxRecDepth 16384

noncomputable section

open Idealize.ShloMosaic Idealize.ShloMosaic.TcCoe Idealize.SL.Sem
open Cert.StickMath

namespace Cert.SbClose

instance : Subsingleton Cert.Pre_finite_qk.S_.Idx := ⟨fun i j => funext fun a => a.elim0⟩

/-- The precondition says that the queries and the keys are real numbers. -/
theorem realQK (m : (ℓ : Loc Cert.SbPromptIdeal.nD Cert.SbPromptIdeal.τ Cert.SbPromptIdeal.sig) → Buf (Elt Ideal) ℓ)
    (h : Cert.Pre_SbPromptIdeal (hPre_finite_qk := Cert.Pre_finite_qk.Gen.facts) m) (c : Dev Cert.SbPromptIdeal.nD) :
    RealQK (Cert.SbPromptIdeal.Value.argQ m c) (Cert.SbPromptIdeal.Value.argK m c) := by
  have e1 := IntOp.andi_eq_one.1 (congrFun (h c) ix0)
  exact ⟨fun h i x => Cert.Finite.real_of_all _ _ (fun _ => rfl) _ _ _ _ e1.1 (ix3 h i x),
    fun i x => Cert.Finite.real_of_all _ _ (fun _ => rfl) _ _ _ _ e1.2 (ix2 i x)⟩

/-- The two result arrays agree when the arguments do. -/
theorem result_eq (m : (ℓ : Loc Cert.SbPromptIdeal.nD Cert.SbPromptIdeal.τ Cert.SbPromptIdeal.sig) → Buf (Elt Ideal) ℓ)
    (m' : (ℓ : Loc Cert.SbReferenceIdeal.nD Cert.SbReferenceIdeal.τ Cert.SbReferenceIdeal.sig) → Buf (Elt Ideal) ℓ)
    (h : Cert.Pre_SbPromptIdeal (hPre_finite_qk := Cert.Pre_finite_qk.Gen.facts) m) (c : Dev Cert.SbPromptIdeal.nD)
    (a0 : m' (c.tc.loc Cert.SbReferenceIdeal.main_arg0) = m (c.tc.loc Cert.SbPromptIdeal.main_arg0))
    (a1 : m' (c.tc.loc Cert.SbReferenceIdeal.main_arg1) = m (c.tc.loc Cert.SbPromptIdeal.main_arg1))
    (a2 : m' (c.tc.loc Cert.SbReferenceIdeal.main_arg2) = m (c.tc.loc Cert.SbPromptIdeal.main_arg2)) :
    Cert.SbReferenceIdeal.Value.res_main_v32 m' c
      = (Cert.SbPromptIdeal.Gen.dats m 0 c).arrAt 4 Cert.SbPromptIdeal.cfg0.N := by
  have R := realQK m h c
  rw [Cert.SbPromptIdeal.Value.arr_eq R]
  have q0 : Cert.SbReferenceIdeal.Value.argQ m' c = Cert.SbPromptIdeal.Value.argQ m c :=
    funext fun h => funext fun i => funext fun x => congrFun a0 (ix3 h i x)
  have q1 : Cert.SbReferenceIdeal.Value.argK m' c = Cert.SbPromptIdeal.Value.argK m c :=
    funext fun i => funext fun x => congrFun a1 (ix2 i x)
  have q2 : Cert.SbReferenceIdeal.Value.argV m' c = Cert.SbPromptIdeal.Value.argV m c :=
    funext fun i => funext fun x => congrFun a2 (ix2 i x)
  have R' : RealQK (Cert.SbReferenceIdeal.Value.argQ m' c) (Cert.SbReferenceIdeal.Value.argK m' c) := by
    rw [q0, q1]; exact R
  have key : ∀ (i0 : Fin 8192) (i1 : Fin 1024), Cert.SbReferenceIdeal.Value.res_main_v32 m' c (ix2 i0 i1)
      = Cert.SbPromptIdeal.Value.result m c (ix2 i0 i1) := by
    intro i0 i1
    refine (Cert.SbReferenceIdeal.Value.res_at R' i0 i1).trans ?_
    rw [q0, q1, q2]
    rfl
  refine funext fun (i : Cert.SbPromptIdeal.S8192x1024.Idx) => ?_
  idx_vars i
  exact key _ _

/-- The claim. -/
theorem algebraic : Cert.algebraic_SbPromptIdeal_SbReferenceIdeal (hSbPromptIdeal := Cert.SbPromptIdeal.Gen.facts)
    (hSbReferenceIdeal := Cert.SbReferenceIdeal.Gen.facts) (hPre_finite_qk := Cert.Pre_finite_qk.Gen.facts) := by
  pair_intro
  · run_from Cert.SbPromptIdeal.Value.run_blocks m g
  · run_from Cert.SbReferenceIdeal.Value.run m' g'
    exact result_eq m m' hpre c (hagree c).1 (hagree c).2.1 (hagree c).2.2

end Cert.SbClose
end
-- ==== Proof.MoeTables.lean ====
module

public import proofs.«01_k».proof.Proof.Gen.MoeIdeal.Launch
public import proofs.«01_k».proof.Proof.Gen.MoeIdeal.Flash.Runs
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine

/-! # The experts' call at any allowed tables: its run, from which the frame and the values follow

The call reads two tables, the expert of each tile and the number of tiles in use. Whatever the
tables hold, as long as every tile names one of the experts, each tile either runs the feed-forward
part (when it is in use) or stores zeros (when it is not). -/

@[expose] public section

set_option maxRecDepth 16384
set_option Elab.async false

noncomputable section

namespace Cert.MoeIdeal.Tab

open Cert.MoeIdeal Cert.MoeIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-! ## The two decisions of the body -/

/-- The word of the second table as the body reads it. -/
abbrev usedWord (T1 : S1.Idx → BitVec 32) : BitVec 32 :=
  View.readAt (Elt Ideal) (tbM0_1).view (Rect.unit (s := S1) ![0] S1.size inb_S1_S1_0).toLoadRect T1 (Shape.Idx.first (numel1_S1.symm ▸ Nat.one_pos))

/-- The first condition compares the tile's number with the word, signed. -/
theorem cond1_iff (i : grid0.Coords) (w : BitVec 32) :
    k0_cond1 i w = 1#1 ↔ (BitVec.ofNat 32 (i 0).val).slt w = true := by
  unfold k0_cond1
  cases h : (BitVec.ofNat 32 (i 0).val).slt w <;>
    simp [Scalar.cmpi, Scalar.extui, IntOp.cmpi, h]

/-- The second condition is the first one's contrary. -/
theorem cond2_iff (i : grid0.Coords) (w : BitVec 32) :
    k0_cond2 i w = 1#1 ↔ ¬k0_cond1 i w = 1#1 := by
  rw [cond1_iff]
  unfold k0_cond2
  cases h : (BitVec.ofNat 32 (i 0).val).slt w <;>
    simp [Scalar.cmpi, Scalar.extui, IntOp.cmpi, BitVec.sle_eq_not_slt, h]

/-! ## The call at its tables -/

variable (a : (pcfg0 (F := Ideal)).Adm)
variable (m : (ℓ : Loc nD τ sig) → Buf (Elt Ideal) ℓ) (ρ : Dev nD → PrngReg)

/-- The tables' contents. -/
abbrev tab0 : S104.Idx → BitVec 32 := a.1 (0 : Fin 2)
abbrev tab1 : S1.Idx → BitVec 32 := a.1 (1 : Fin 2)

abbrev cfgT : Pipeline.Cfg sig Λ₀ := cfg0 (F := Ideal) a
abbrev pcsT : Fin 1 → Pipeline.Cfg sig Λ₀ := Pipeline.pin (pcfgs (F := Ideal)) fun _ => a

/-- A point's coordinates, and its windows' staging buffers there. -/
abbrev crd (t : Fin (cfgT a).N) : (cfgT a).grid.Coords := (cfgT a).grid.coords t

abbrev ms0 (t : Fin (cfgT a).N) : Memref sig .tc .vmem S256x2048 .f32 := spec0_0.stage ((cfgT a).slots t (0 : Fin 6))
abbrev hs0 (t : Fin (cfgT a).N) : (ms0 a t).IsWhole := hstage0_0 (((cfgT a).slots t (0 : Fin 6)).cast nbuf0_0)

abbrev ms1 (t : Fin (cfgT a).N) : Memref sig .tc .vmem S256x1 .f32 := spec0_1.stage ((cfgT a).slots t (1 : Fin 6))
abbrev hs1 (t : Fin (cfgT a).N) : (ms1 a t).IsWhole := hstage0_1 (((cfgT a).slots t (1 : Fin 6)).cast nbuf0_1)

abbrev ms2 (t : Fin (cfgT a).N) : Memref sig .tc .vmem S1x2048x512 .bf16 := spec0_2.stage ((cfgT a).slots t (2 : Fin 6))
abbrev hs2 (t : Fin (cfgT a).N) : (ms2 a t).IsWhole := hstage0_2 (((cfgT a).slots t (2 : Fin 6)).cast nbuf0_2)

abbrev ms3 (t : Fin (cfgT a).N) : Memref sig .tc .vmem S1x2048x512 .bf16 := spec0_3.stage ((cfgT a).slots t (3 : Fin 6))
abbrev hs3 (t : Fin (cfgT a).N) : (ms3 a t).IsWhole := hstage0_3 (((cfgT a).slots t (3 : Fin 6)).cast nbuf0_3)

abbrev ms4 (t : Fin (cfgT a).N) : Memref sig .tc .vmem S1x512x2048 .bf16 := spec0_4.stage ((cfgT a).slots t (4 : Fin 6))
abbrev hs4 (t : Fin (cfgT a).N) : (ms4 a t).IsWhole := hstage0_4 (((cfgT a).slots t (4 : Fin 6)).cast nbuf0_4)

abbrev ms5 (t : Fin (cfgT a).N) : Memref sig .tc .vmem S256x2048 .f32 := spec0_5.stage ((cfgT a).slots t (5 : Fin 6))
abbrev hs5 (t : Fin (cfgT a).N) : (ms5 a t).IsWhole := hstage0_5 (((cfgT a).slots t (5 : Fin 6)).cast nbuf0_5)

/-- Window `w`'s block at point `t`, read off its array at launch. -/
def iblk (c : Dev nD) (w : Fin (cfgT a).W) (t : Fin (cfgT a).N) : (((cfgT a).win w).xblock (crd a t)).Idx → Elt Ideal ((cfgT a).win w).elt :=
  (((cfgT a).win w).blk t).view.read (Elt Ideal) (m (((cfgT a).win w).arr.view.loc (c : Thread nD τ)))

/-- Whether tile `t` is in use. -/
abbrev InUse (t : Fin (cfgT a).N) : Prop := k0_cond1 (crd a t) (usedWord (tab1 a)) = 1#1

/-- No tile leaves the result's block unwritten. -/
theorem never_idle (t : Fin (cfgT a).N) : (cfgT a).idle (5 : Fin 6) ((cfgT a).grid.coords t) = false := by
  show (!(k0_cond1 _ _ == 1#1) && !(k0_cond2 _ _ == 1#1)) = false
  by_cases h : k0_cond1 ((cfgT a).grid.coords t) (a.1.atD 1 ![0]) = 1#1
  · rw [h]; rfl
  · rw [(cond2_iff _ _).2 h, Bool.and_eq_false_iff]; exact .inr rfl

/-- What the body leaves in the result's block at point `t`. -/
def left (c : Dev nD) (t : Fin (cfgT a).N) : S256x2048.Idx → Elt Ideal .f32 :=
  if q : InUse a t then
    out0_A_5 c (crd a t) (ms0 a t) (hs0 a t) (ms1 a t) (hs1 a t) (ms2 a t) (hs2 a t) (ms3 a t) (hs3 a t) (ms4 a t) (hs4 a t) (ms5 a t) (hs5 a t) (tab0 a) (tab1 a) (iblk a m c (0 : Fin 6) t) (iblk a m c (1 : Fin 6) t) (iblk a m c (2 : Fin 6) t) (iblk a m c (3 : Fin 6) t) (iblk a m c (4 : Fin 6) t) q (fun h => (cond2_iff _ _).1 h q)
  else
    out0_B_5 c (crd a t) (ms0 a t) (hs0 a t) (ms1 a t) (hs1 a t) (ms2 a t) (hs2 a t) (ms3 a t) (hs3 a t) (ms4 a t) (hs4 a t) (ms5 a t) (hs5 a t) (tab0 a) (tab1 a) (iblk a m c (0 : Fin 6) t) (iblk a m c (1 : Fin 6) t) (iblk a m c (2 : Fin 6) t) (iblk a m c (3 : Fin 6) t) (iblk a m c (4 : Fin 6) t) q ((cond2_iff _ _).2 q)

/-- Before each point: the body's share of the tables. -/
def held (c : Dev nD) : sProp 𝕄 :=
  iprop((tbM0_0.view.loc (c : Thread nD τ) ↦{fullShare.right} tab0 a) ∗ (tbM0_1.view.loc (c : Thread nD τ) ↦{fullShare.right} tab1 a))

/-- The contents of every window's block, point by point. -/
def dats (_ : Fin 1) (c : Dev nD) : Dat τ (Elt Ideal) Unit ℕ (UR sig nD τ) ℕ (cfgT a) c where
  A w := m (((cfgT a).win w).arr.view.loc (c : Thread nD τ))
  after w t := match w with
    | ⟨0, _⟩ => iblk a m c (0 : Fin 6) t
    | ⟨1, _⟩ => iblk a m c (1 : Fin 6) t
    | ⟨2, _⟩ => iblk a m c (2 : Fin 6) t
    | ⟨3, _⟩ => iblk a m c (3 : Fin 6) t
    | ⟨4, _⟩ => iblk a m c (4 : Fin 6) t
    | ⟨5, _⟩ => left a m c t
  Φ _ := held a c
  q _ := fullShare
  owed _ := 0

theorem after_0 (c : Dev nD) (t : Fin (cfgT a).N) : (dats a m 0 c).after (0 : Fin 6) t = iblk a m c (0 : Fin 6) t := rfl
theorem after_1 (c : Dev nD) (t : Fin (cfgT a).N) : (dats a m 0 c).after (1 : Fin 6) t = iblk a m c (1 : Fin 6) t := rfl
theorem after_2 (c : Dev nD) (t : Fin (cfgT a).N) : (dats a m 0 c).after (2 : Fin 6) t = iblk a m c (2 : Fin 6) t := rfl
theorem after_3 (c : Dev nD) (t : Fin (cfgT a).N) : (dats a m 0 c).after (3 : Fin 6) t = iblk a m c (3 : Fin 6) t := rfl
theorem after_4 (c : Dev nD) (t : Fin (cfgT a).N) : (dats a m 0 c).after (4 : Fin 6) t = iblk a m c (4 : Fin 6) t := rfl
theorem after_5 (c : Dev nD) (t : Fin (cfgT a).N) : (dats a m 0 c).after (5 : Fin 6) t = left a m c t := rfl

/-- Input 0 holds its block when the body runs. -/
theorem before_0 (c : Dev nD) (t : Fin (cfgT a).N) (d) : (dats a m 0 c).before (0 : Fin 6) t d = iblk a m c (0 : Fin 6) t :=
  ((dats a m 0 c).before_in_eq_fetched (0 : Fin 6) rfl (fun _ => rfl) (fun _ _ _ => rfl) (fun t => by rw [after_0]; unfold Dat.blockOf iblk; rfl) t d).trans
    (by unfold Dat.fetched Dat.blockOf iblk; rfl)

/-- Input 1 holds its block when the body runs. -/
theorem before_1 (c : Dev nD) (t : Fin (cfgT a).N) (d) : (dats a m 0 c).before (1 : Fin 6) t d = iblk a m c (1 : Fin 6) t :=
  ((dats a m 0 c).before_in_eq_fetched (1 : Fin 6) rfl (fun _ => rfl) (fun _ _ _ => rfl) (fun t => by rw [after_1]; unfold Dat.blockOf iblk; rfl) t d).trans
    (by unfold Dat.fetched Dat.blockOf iblk; rfl)

/-- Input 2 holds its block when the body runs. -/
theorem before_2 (c : Dev nD) (t : Fin (cfgT a).N) (d) : (dats a m 0 c).before (2 : Fin 6) t d = iblk a m c (2 : Fin 6) t :=
  ((dats a m 0 c).before_in_eq_fetched (2 : Fin 6) rfl (fun _ => rfl) (fun _ _ _ => rfl) (fun t => by rw [after_2]; unfold Dat.blockOf iblk; rfl) t d).trans
    (by unfold Dat.fetched Dat.blockOf iblk; rfl)

/-- Input 3 holds its block when the body runs. -/
theorem before_3 (c : Dev nD) (t : Fin (cfgT a).N) (d) : (dats a m 0 c).before (3 : Fin 6) t d = iblk a m c (3 : Fin 6) t :=
  ((dats a m 0 c).before_in_eq_fetched (3 : Fin 6) rfl (fun _ => rfl) (fun _ _ _ => rfl) (fun t => by rw [after_3]; unfold Dat.blockOf iblk; rfl) t d).trans
    (by unfold Dat.fetched Dat.blockOf iblk; rfl)

/-- Input 4 holds its block when the body runs. -/
theorem before_4 (c : Dev nD) (t : Fin (cfgT a).N) (d) : (dats a m 0 c).before (4 : Fin 6) t d = iblk a m c (4 : Fin 6) t :=
  ((dats a m 0 c).before_in_eq_fetched (4 : Fin 6) rfl (fun _ => rfl) (fun _ _ _ => rfl) (fun t => by rw [after_4]; unfold Dat.blockOf iblk; rfl) t d).trans
    (by unfold Dat.fetched Dat.blockOf iblk; rfl)

set_option maxHeartbeats 4000000 in
/-- The body at point `t`: from its blocks and its share of the tables it leaves every block as `dats` says. -/
theorem sound_body (c : Dev nD) (t : Fin (cfgT a).N) :
    iprop((dats a m 0 c).Φ t.castSucc ∗ (dats a m 0 c).owesAt () t.castSucc
        ∗ (∃ d, owns (c : Thread nD τ) (ms0 a t) fullShare ((dats a m 0 c).before (0 : Fin 6) t d))
        ∗ (∃ d, owns (c : Thread nD τ) (ms1 a t) fullShare ((dats a m 0 c).before (1 : Fin 6) t d))
        ∗ (∃ d, owns (c : Thread nD τ) (ms2 a t) fullShare ((dats a m 0 c).before (2 : Fin 6) t d))
        ∗ (∃ d, owns (c : Thread nD τ) (ms3 a t) fullShare ((dats a m 0 c).before (3 : Fin 6) t d))
        ∗ (∃ d, owns (c : Thread nD τ) (ms4 a t) fullShare ((dats a m 0 c).before (4 : Fin 6) t d))
        ∗ (∃ d, owns (c : Thread nD τ) (ms5 a t) fullShare ((dats a m 0 c).before (5 : Fin 6) t d)))
      ⊢ wp frame (wpE (defs₀ (F := Ideal)) Variants.none c none) Set.univ
          (cc0_moe_experts (crd a t) (Memref.whole main_arg0) (Memref.isWhole_whole _) (Memref.whole main_arg1) (Memref.isWhole_whole _) (ms0 a t) (hs0 a t) (ms1 a t) (hs1 a t) (ms2 a t) (hs2 a t) (ms3 a t) (hs3 a t) (ms4 a t) (hs4 a t) (ms5 a t) (hs5 a t)) fun _ =>
          iprop((dats a m 0 c).Φ t.succ ∗ (dats a m 0 c).owesAt () t.succ
            ∗ bigSep Finset.univ fun w : Fin (cfgT a).W =>
                match (cfgT a).idle w ((cfgT a).grid.coords t) with
                | true =>
                  match ((cfgT a).win w).flush t with
                  | false => iprop(∃ d, owns (c : Thread nD τ) (((cfgT a).win w).stage ((cfgT a).slots t w)) fullShare ((dats a m 0 c).before w t d))
                  | true => owns (c : Thread nD τ) (((cfgT a).win w).stage ((cfgT a).slots t w)) fullShare ((dats a m 0 c).after w t)
                | false => owns (c : Thread nD τ) (((cfgT a).win w).stage ((cfgT a).slots t w)) fullShare ((dats a m 0 c).after w t)) := by
  rw [bigSep_W0]
  rewrite [never_idle a t]
  simp only [before_0, before_1, before_2, before_3, before_4, after_0, after_1, after_2, after_3, after_4, after_5]
  rewrite [show (dats a m 0 c).Φ t.succ = held a c from rfl, show (dats a m 0 c).Φ t.castSucc = held a c from rfl,
    show (dats a m 0 c).owesAt () t.succ = (dats a m 0 c).owesAt () t.castSucc from rfl]
  unfold held
  by_cases q : InUse a t
  · rw [show left a m c t = out0_A_5 c (crd a t) (ms0 a t) (hs0 a t) (ms1 a t) (hs1 a t) (ms2 a t) (hs2 a t) (ms3 a t) (hs3 a t) (ms4 a t) (hs4 a t) (ms5 a t) (hs5 a t) (tab0 a) (tab1 a) (iblk a m c (0 : Fin 6) t) (iblk a m c (1 : Fin 6) t) (iblk a m c (2 : Fin 6) t) (iblk a m c (3 : Fin 6) t) (iblk a m c (4 : Fin 6) t) q (fun h => (cond2_iff _ _).1 h q) from dif_pos q]
    iintro ⟨⟨HT0, HT1⟩, Ho, ⟨%d0, H0⟩, ⟨%d1, H1⟩, ⟨%d2, H2⟩, ⟨%d3, H3⟩, ⟨%d4, H4⟩, ⟨%d5, H5⟩⟩
    iapply ((kernelRun0_A c (crd a t) (ms0 a t) (hs0 a t) (ms1 a t) (hs1 a t) (ms2 a t) (hs2 a t) (ms3 a t) (hs3 a t) (ms4 a t) (hs4 a t) (ms5 a t) (hs5 a t) (tab0 a) (tab1 a) (iblk a m c (0 : Fin 6) t) (iblk a m c (1 : Fin 6) t) (iblk a m c (2 : Fin 6) t) (iblk a m c (3 : Fin 6) t) (iblk a m c (4 : Fin 6) t) q (fun h => (cond2_iff _ _).1 h q)).2 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    isplitl [HT1]; · iexact HT1
    isplitl [H5]; · iexists _; iexact H5
    iintro ⟨H0, H1, H2, H3, H4, HT0, HT1, ⟨%e5, H5⟩⟩
    isplitl [HT0 HT1]
    · isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    isplitl [H4]
    · iapply owns_of_rep; iexact H4
    unfold owns; iexists _; isplitr; swap
    · iexact H5
    · ipureintro; exact View.read_writes_of_cover _ _ _ _ _ (cover0_A_5 c _ _ _ _ _ _ _ _ _ _ _ _ _ _ _ _ _ _ _ _ _ _)
  · rw [show left a m c t = out0_B_5 c (crd a t) (ms0 a t) (hs0 a t) (ms1 a t) (hs1 a t) (ms2 a t) (hs2 a t) (ms3 a t) (hs3 a t) (ms4 a t) (hs4 a t) (ms5 a t) (hs5 a t) (tab0 a) (tab1 a) (iblk a m c (0 : Fin 6) t) (iblk a m c (1 : Fin 6) t) (iblk a m c (2 : Fin 6) t) (iblk a m c (3 : Fin 6) t) (iblk a m c (4 : Fin 6) t) q ((cond2_iff _ _).2 q) from dif_neg q]
    iintro ⟨⟨HT0, HT1⟩, Ho, ⟨%d0, H0⟩, ⟨%d1, H1⟩, ⟨%d2, H2⟩, ⟨%d3, H3⟩, ⟨%d4, H4⟩, ⟨%d5, H5⟩⟩
    iapply ((kernelRun0_B c (crd a t) (ms0 a t) (hs0 a t) (ms1 a t) (hs1 a t) (ms2 a t) (hs2 a t) (ms3 a t) (hs3 a t) (ms4 a t) (hs4 a t) (ms5 a t) (hs5 a t) (tab0 a) (tab1 a) (iblk a m c (0 : Fin 6) t) (iblk a m c (1 : Fin 6) t) (iblk a m c (2 : Fin 6) t) (iblk a m c (3 : Fin 6) t) (iblk a m c (4 : Fin 6) t) q ((cond2_iff _ _).2 q)).2 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    isplitl [HT1]; · iexact HT1
    isplitl [H5]; · iexists _; iexact H5
    iintro ⟨H0, H1, H2, H3, H4, HT0, HT1, ⟨%e5, H5⟩⟩
    isplitl [HT0 HT1]
    · isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    isplitl [H4]
    · iapply owns_of_rep; iexact H4
    unfold owns; iexists _; isplitr; swap
    · iexact H5
    · ipureintro; exact View.read_writes_of_cover _ _ _ _ _ (cover0_B_5 c _ _ _ _ _ _ _ _ _ _ _ _ _ _ _ _ _ _ _ _ _ _)

/-- The body, at every point. -/
theorem body_all (c : Dev nD) : BodyObligation (dats a m 0 c) (defs₀ (F := Ideal)) Variants.none () Set.univ := fun t => by
  rw [bigSep_W0]
  exact sound_body a m c t

/-! ## The launch -/

/-- The launch's own resource. -/
def u₀ : UR sig nD τ :=
  initOf (Pipeline.cells (pcsT a) ((launch0 (F := Ideal)).cellOf_inj fun _ => a))
    (Pipeline.launchToks (pcsT a) ((launch0 (F := Ideal)).cellOf_inj fun _ => a))

theorem share_eq (c : Dev nD) (w : Fin (cfgT a).W) : (dats a m 0 c).share w = fullShare := by unfold Dat.share; split <;> rfl

/-- The tables, one by one. -/
theorem tables_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem held_intro (c : Dev nD) :
    iprop(BI.emp ∗ Pipeline.prefHeld pre0 c (fun _ => fullShare.right) a.1 ∗ Pipeline.scopedRest spec0 c) ⊢ (dats a m 0 c).Φ 0 := by
  rw [tables_eq, scopedRest0_eq, show (dats a m 0 c).Φ 0 = held a c from rfl]
  unfold held
  iintro ⟨-, ⟨HT0, HT1⟩, -⟩
  isplitl [HT0]
  · iexact HT0
  iexact HT1

theorem held_exit (c : Dev nD) : (dats a m 0 c).Φ (Fin.last (cfgT a).N) ⊢ iprop(BI.emp ∗ Pipeline.scopedRest spec0 c) := by
  rw [scopedRest0_eq, show (dats a m 0 c).Φ (Fin.last (cfgT a).N) = held a c from rfl]
  unfold held
  iintro ⟨-, -⟩
  isplitr; · iempintro
  iempintro

/-- The call's post: each array at its computed contents, the tables as they were. -/
def Post : PUnit × MemSt nD τ sig (Elt Ideal) → Prop := fun r =>
  ∀ c : Dev nD, (∀ w : Fin (cfgT a).W, r.2.mem (((cfgT a).win w).arr.view.loc (c : Thread nD τ)) = (dats a m 0 c).arrAt w (cfgT a).N)
    ∧ ∀ j, r.2.mem ((c : Thread nD τ).loc (pre0.ref j)) = a.1 j

set_option backward.isDefEq.respectTransparency.types false in
set_option maxHeartbeats 4000000 in
/-- From a memory whose tables are `a`'s, the program ends with every array at its computed contents and every counter at zero. -/
theorem run_tables (hp : ∀ (c : Dev nD) (j : Fin 2), m ((c : Thread nD τ).loc (pre0.ref j)) = a.1 j) :
    θ_run (defs (F := Ideal)) (onTc (τ := τ) (main (F := Ideal))) ⟨m, fun _ => 0, ρ⟩ (fun r => Post a m r ∧ r.2.sem = fun _ => 0) :=
  Pipeline.θ_run_region_noSem_pf_quiescent pcfgs (fun _ => a) (dats a m) () ((launch0 (F := Ideal)).cellOf_inj fun _ => a) (0 : Fin 1)
    (launch0 (F := Ideal)).win.to₀ (launch0 (F := Ideal)).pre (emb₁ : Emb (UR sig nD τ) 𝕄) defs₀ Variants.none m ρ main
    (hbody := fun c => (body_all a m c).loose) (hne := (launch0 (F := Ideal)).block_pos)
    (harr := (launch0 (F := Ideal)).arr_whole) (hstage := (launch0 (F := Ideal)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcsT a) (dats a m) 0 (launch0 (F := Ideal)).win.arr_inj c (launch0 (F := Ideal)).arr_whole
      (share_eq a m c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := held_intro a m)
    (hout := held_exit a m)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The run's result and arguments: the result at its computed contents, every argument unchanged. -/
theorem run_result (hp : ∀ (c : Dev nD) (j : Fin 2), m ((c : Thread nD τ).loc (pre0.ref j)) = a.1 j) :
    θ_run (defs (F := Ideal)) (onTc (τ := τ) (main (F := Ideal))) ⟨m, fun _ => 0, ρ⟩ (fun r => (∀ c : Dev nD,
      r.2.mem ((c.tc : Thread nD τ).loc main_v0) = (dats a m 0 c).arrAt (5 : Fin 6) (cfgT a).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(h.1 c).1 (5 : Fin 6), ((h.1 c).2 0).trans (hp c 0).symm, ((h.1 c).2 1).trans (hp c 1).symm,
    ((h.1 c).1 (0 : Fin 6)).trans ((dats a m 0 c).arrAt_in (0 : Fin 6) rfl _), ((h.1 c).1 (1 : Fin 6)).trans ((dats a m 0 c).arrAt_in (1 : Fin 6) rfl _),
    ((h.1 c).1 (2 : Fin 6)).trans ((dats a m 0 c).arrAt_in (2 : Fin 6) rfl _), ((h.1 c).1 (3 : Fin 6)).trans ((dats a m 0 c).arrAt_in (3 : Fin 6) rfl _),
    ((h.1 c).1 (4 : Fin 6)).trans ((dats a m 0 c).arrAt_in (4 : Fin 6) rfl _)⟩, h.2⟩) (run_tables a m ρ hp)

/-! ## The tables of a launch memory -/

/-- The tables as the launch memory holds them. -/
def tabs (m : (ℓ : Loc nD τ sig) → Buf (Elt Ideal) ℓ) : pre0.Contents (Elt Ideal) := fun j => m (((0 : Dev nD) : Thread nD τ).loc (pre0.ref j))

/-- Every block of the experts' matrices lies inside its array when every tile names one of the 32 experts. -/
theorem ok_tabs (h : ∀ t : S104.Idx, BitVec.toNat (w := 32) (tabs m (0 : Fin 2) t) < 32) : ok0 (F := Ideal) (tabs m) := by
  refine ⟨fun i => ⟨fun a => ?_, .inr (Affine.block_words_dvd (s := S32x2048x512) (p := EltTy.packing .bf16) (by decide) (by decide))⟩,
    fun i => ⟨fun a => ?_, .inr (Affine.block_words_dvd (s := S32x2048x512) (p := EltTy.packing .bf16) (by decide) (by decide))⟩,
    fun i => ⟨fun a => ?_, .inr (Affine.block_words_dvd (s := S32x512x2048) (p := EltTy.packing .bf16) (by decide) (by decide))⟩⟩
  · match a with
    | ⟨0, _⟩ => exact (Nat.mul_one _).le.trans (h _)
    | ⟨1, _⟩ => exact le_refl 2048
    | ⟨2, _⟩ => exact le_refl 512
    | ⟨_ + 3, q⟩ => exact absurd q (Nat.not_lt.2 (Nat.le_add_left _ _))
  · match a with
    | ⟨0, _⟩ => exact (Nat.mul_one _).le.trans (h _)
    | ⟨1, _⟩ => exact le_refl 2048
    | ⟨2, _⟩ => exact le_refl 512
    | ⟨_ + 3, q⟩ => exact absurd q (Nat.not_lt.2 (Nat.le_add_left _ _))
  · match a with
    | ⟨0, _⟩ => exact (Nat.mul_one _).le.trans (h _)
    | ⟨1, _⟩ => exact le_refl 512
    | ⟨2, _⟩ => exact le_refl 2048
    | ⟨_ + 3, q⟩ => exact absurd q (Nat.not_lt.2 (Nat.le_add_left _ _))

/-- The tables of a launch memory in which every tile names one of the experts. -/
def atLaunch (h : ∀ t : S104.Idx, BitVec.toNat (w := 32) (tabs m (0 : Fin 2) t) < 32) : (pcfg0 (F := Ideal)).Adm := ⟨tabs m, ok_tabs m h⟩

theorem atLaunch_eq (h : ∀ t : S104.Idx, BitVec.toNat (w := 32) (tabs m (0 : Fin 2) t) < 32) (c : Dev nD) (j : Fin 2) :
    m ((c : Thread nD τ).loc (pre0.ref j)) = (atLaunch m h).1 j := by
  obtain rfl : c = 0 := Subsingleton.elim _ _
  rfl

end Cert.MoeIdeal.Tab

end
-- ==== Proof.ExpertMath.lean ====
/-
  The experts' feed-forward part, entry by entry over the extended reals: what one expert makes of one row, and
  that the sum over all experts, each weighted by its gate, is the one expert whose gate is not zero.
-/
module

public import Idealize.ShloMosaic.Lib.Pipeline.ValueKit
public import Idealize.ShloMosaic.Lib.WordCmp

@[expose] public section

noncomputable section

open Idealize.ShloMosaic

namespace Cert.ExpertMath

/-- A number times its logistic. -/
def swish (x : EReal) : EReal := x * Ideal.div 1 (1 + Ideal.exp (-x))

/-- Row `r` through column `f` of expert `e`'s matrix. -/
def proj (x : Fin 26624 → Fin 2048 → EReal) (w : Fin 32 → Fin 2048 → Fin 512 → EReal) (r : Fin 26624) (e : Fin 32) (f : Fin 512) : EReal :=
  ∑ d : Fin 2048, x r d * w e d f

/-- The hidden value `f` of row `r` at expert `e`. -/
def hidden (x : Fin 26624 → Fin 2048 → EReal) (wg wu : Fin 32 → Fin 2048 → Fin 512 → EReal) (r : Fin 26624) (e : Fin 32) (f : Fin 512) : EReal :=
  swish (proj x wg r e f) * proj x wu r e f

/-- Output `j` of row `r` at expert `e`, the row weighted by `g`. -/
def ffn (x : Fin 26624 → Fin 2048 → EReal) (wg wu : Fin 32 → Fin 2048 → Fin 512 → EReal) (wd : Fin 32 → Fin 512 → Fin 2048 → EReal)
    (g : EReal) (r : Fin 26624) (e : Fin 32) (j : Fin 2048) : EReal :=
  ∑ f : Fin 512, hidden x wg wu r e f * g * wd e f j

/-- A row of weight zero gives zero. -/
theorem ffn_zero (x : Fin 26624 → Fin 2048 → EReal) (wg wu : Fin 32 → Fin 2048 → Fin 512 → EReal) (wd : Fin 32 → Fin 512 → Fin 2048 → EReal)
    (r : Fin 26624) (e : Fin 32) (j : Fin 2048) : ffn x wg wu wd 0 r e j = 0 := by
  unfold ffn
  simp only [mul_zero, zero_mul, Finset.sum_const_zero]

/-- The sum over all experts, weighted by `g` at expert `e` and by zero at the others, is expert `e`'s part. -/
theorem sum_gated (x : Fin 26624 → Fin 2048 → EReal) (wg wu : Fin 32 → Fin 2048 → Fin 512 → EReal) (wd : Fin 32 → Fin 512 → Fin 2048 → EReal)
    (g : EReal) (r : Fin 26624) (e : Fin 32) (j : Fin 2048) :
    (∑ e' : Fin 32, ffn x wg wu wd (g * if e = e' then 1 else 0) r e' j) = ffn x wg wu wd g r e j := by
  rw [Finset.sum_eq_single (M := EReal) e]
  · rw [if_pos rfl, mul_one]
  · intro b _ hb
    rw [if_neg (Ne.symm hb), mul_zero, ffn_zero]
  · intro h; exact absurd (Finset.mem_univ e) h

/-- The expert that tile `t` names. -/
def named (T : Fin 104 → BitVec 32) (hT : ∀ t, (T t).toNat < 32) (t : Fin 104) : Fin 32 := ⟨(T t).toNat, hT t⟩

/-- The tile of row `r`. -/
def tileOf (r : Fin 26624) : Fin 104 := ⟨r.val / 256, by have := r.isLt; omega⟩

/-- The whole result: a row of a tile in use through its tile's expert, zero in the other tiles. -/
def routed (T : Fin 104 → BitVec 32) (hT : ∀ t, (T t).toNat < 32) (n : BitVec 32)
    (x : Fin 26624 → Fin 2048 → EReal) (g : Fin 26624 → EReal) (wg wu : Fin 32 → Fin 2048 → Fin 512 → EReal)
    (wd : Fin 32 → Fin 512 → Fin 2048 → EReal) (r : Fin 26624) (j : Fin 2048) : EReal :=
  if (BitVec.ofNat 32 (r.val / 256)).slt n = true then ffn x wg wu wd (g r) r (named T hT (tileOf r)) j else 0

end Cert.ExpertMath
end
-- ==== Proof.MoeValue.lean ====
/-
  What the experts' call computes: the result array, entry by entry, at any tables in which every tile names one
  of the experts.
-/
module

public import proofs.«01_k».proof.Proof.MoeTables
public import proofs.«01_k».proof.Proof.Gen.MoeIdeal.Flash.Cfg
public import proofs.«01_k».proof.Proof.ExpertMath
public import Idealize.ShloMosaic.Lib.Pipeline.ValueKit

@[expose] public section

set_option maxRecDepth 16384

noncomputable section

namespace Cert.MoeIdeal.Tab

open Cert.MoeIdeal Cert.MoeIdeal.Gen
open Idealize.ShloMosaic Idealize.ShloMosaic.TcCoe
open Idealize.ShloMosaic.Pipeline (Dat)
open Cert.ExpertMath

variable (a : (pcfg0 (F := Ideal)).Adm)
variable (m : (ℓ : Loc nD τ sig) → Buf (Elt Ideal) ℓ)

/-- The tables-free windows' blocks, and the tables-free facts of the result's window: the same at all tables. -/
theorem rows_index (t : Fin (cfgT a).N) : ((cfgT a).win (0 : Fin 6)).index t = ![t.val, 0] ∧ ((cfgT a).win (1 : Fin 6)).index t = ![t.val, 0]
    ∧ ((cfgT a).win (5 : Fin 6)).index t = ![t.val, 0] :=
  (by decide +kernel : ∀ t : Fin grid0.N, cc0_transform_0 (grid0.coords t) = ![t.val, 0] ∧ cc0_transform_1 (grid0.coords t) = ![t.val, 0]
    ∧ cc0_transform_5 (grid0.coords t) = ![t.val, 0]) t

theorem covers : ((cfgT a).win (5 : Fin 6)).Covers :=
  (by decide +kernel : ((cfgA 0).win (5 : Fin 6)).Covers)

/-- Tile `t`'s coordinate. -/
theorem crd_val (t : Fin (cfgT a).N) : ((crd a t) 0 : ℕ) = t.val :=
  (by decide +kernel : ∀ t : Fin grid0.N, ((grid0.coords t) 0 : ℕ) = t.val) t

/-- The body's first path leaves the feed-forward part of its blocks. -/
theorem pathA (t : Fin (cfgT a).N) (c : Dev nD) (q : InUse a t) : left a m c t
    = k0_pay1 (iblk a m c (0 : Fin 6) t) (iblk a m c (2 : Fin 6) t) (iblk a m c (3 : Fin 6) t) (iblk a m c (1 : Fin 6) t) (iblk a m c (4 : Fin 6) t) := by
  unfold left
  rw [dif_pos q]
  unfold out0_A_5 kernelRun0_A
  dsimp only
  frame_out
  simp only [View.read_rep]

/-- The other leaves zeros. -/
theorem pathB (t : Fin (cfgT a).N) (c : Dev nD) (q : ¬InUse a t) : left a m c t = k0_pay2 (F := Ideal) := by
  unfold left
  rw [dif_neg q]
  unfold out0_B_5 kernelRun0_B
  dsimp only
  frame_out

/-- The feed-forward part of blocks, entry by entry. -/
theorem pay1_at (x : Vec Ideal S256x2048 .f32) (wg wu : Vec Ideal S1x2048x512 .bf16) (g : Vec Ideal S256x1 .f32) (wd : Vec Ideal S1x512x2048 .bf16)
    (p : Fin 256) (j : Fin 2048) : k0_pay1 x wg wu g wd (ix2 p j)
      = ∑ f : Fin 512, swish (∑ d : Fin 2048, x (ix2 p d) * wg (ix3 0 d f)) * (∑ d : Fin 2048, x (ix2 p d) * wu (ix3 0 d f)) * g (ix2 p 0)
          * wd (ix3 0 f j) := by
  pointwise [k0_pay1]
  simp only [zero_sub]
  rfl

/-- The stored zeros. -/
theorem pay2_at (p : Fin 256) (j : Fin 2048) : k0_pay2 (F := Ideal) (ix2 p j) = 0 := by
  pointwise [k0_pay2]

/-- Row `p` of tile `t`. -/
def rowOf (t : Fin 104) (p : Fin 256) : Fin 26624 := ⟨256 * t.val + p.val, by have := t.isLt; have := p.isLt; omega⟩

/-- Tile `t` reads word `t` of the table of experts. -/
theorem tile_word : ∀ t : Fin grid0.N,
    (Rect.unit (s := S104) ![(Scalar.indexCast (BitVec.ofNat 32 ((grid0.coords t) 0).val)).toNat] S1.size (k0_off1_inb (grid0.coords t))).emb
      (Shape.Idx.first (numel1_S1.symm ▸ Nat.one_pos)) = (ix1 (n0 := 104) t : S104.Idx) := by
  have h : ∀ t : Fin grid0.N, (Scalar.indexCast (BitVec.ofNat 32 ((grid0.coords t) 0).val)).toNat = t.val := by decide +kernel
  intro t
  funext k
  fin_cases k
  exact Fin.ext ((ValueKit.rect_emb_unit_val _ _ _ _ _).trans (h t))

/-- The expert's matrices of tile `t` are the blocks its word names. -/
theorem expert_index (t : Fin (cfgT a).N) : ((cfgT a).win (2 : Fin 6)).index t = ![(tab0 a (ix1 t)).toNat, 0, 0]
    ∧ ((cfgT a).win (3 : Fin 6)).index t = ![(tab0 a (ix1 t)).toNat, 0, 0] ∧ ((cfgT a).win (4 : Fin 6)).index t = ![(tab0 a (ix1 t)).toNat, 0, 0] := by
  have e := tile_word t
  refine ⟨?_, ?_, ?_⟩
  · exact congrArg (fun y => ![(tab0 a y).toNat, 0, 0]) e
  · exact congrArg (fun y => ![(tab0 a y).toNat, 0, 0]) e
  · exact congrArg (fun y => ![(tab0 a y).toNat, 0, 0]) e

variable (c : Dev nD) (hT : ∀ t : Fin 104, (tab0 a (ix1 t)).toNat < 32)

theorem blk0 (t : Fin (cfgT a).N) (p : Fin 256) (d : Fin 2048) :
    iblk a m c (0 : Fin 6) t (ix2 p d) = m (c.tc.loc main_arg2) (ix2 (rowOf t p) d) := by
  unfold rowOf
  blk_ext [iblk, rows_index a t]

theorem blk1 (t : Fin (cfgT a).N) (p : Fin 256) :
    iblk a m c (1 : Fin 6) t (ix2 p 0) = m (c.tc.loc main_arg3) (ix2 (rowOf t p) 0) := by
  unfold rowOf
  blk_ext [iblk, rows_index a t]

theorem blk2 (t : Fin (cfgT a).N) (d : Fin 2048) (f : Fin 512) :
    iblk a m c (2 : Fin 6) t (ix3 0 d f) = m (c.tc.loc main_arg4) (ix3 (ExpertMath.named (fun t => tab0 a (ix1 t)) hT t) d f) := by
  unfold ExpertMath.named
  blk_ext [iblk, expert_index a t]

theorem blk3 (t : Fin (cfgT a).N) (d : Fin 2048) (f : Fin 512) :
    iblk a m c (3 : Fin 6) t (ix3 0 d f) = m (c.tc.loc main_arg5) (ix3 (ExpertMath.named (fun t => tab0 a (ix1 t)) hT t) d f) := by
  unfold ExpertMath.named
  blk_ext [iblk, expert_index a t]

theorem blk4 (t : Fin (cfgT a).N) (f : Fin 512) (j : Fin 2048) :
    iblk a m c (4 : Fin 6) t (ix3 0 f j) = m (c.tc.loc main_arg6) (ix3 (ExpertMath.named (fun t => tab0 a (ix1 t)) hT t) f j) := by
  unfold ExpertMath.named
  blk_ext [iblk, expert_index a t]

/-- The word that counts the tiles in use, as the body reads it. -/
theorem word_eq : usedWord (tab1 a) = tab1 a (ix1 0) := by
  unfold usedWord
  have e : ∀ y : S1.Idx, y = ix1 0 := by decide
  exact congrArg (tab1 a) (e _)

/-- The call's arrays as functions of their coordinates, and the result they determine. -/
abbrev goal (r : Fin 26624) (j : Fin 2048) : EReal :=
  routed (fun t => tab0 a (ix1 t)) hT (tab1 a (ix1 0)) (fun r d => m (c.tc.loc main_arg2) (ix2 r d)) (fun r => m (c.tc.loc main_arg3) (ix2 r 0))
    (fun e d f => m (c.tc.loc main_arg4) (ix3 e d f)) (fun e d f => m (c.tc.loc main_arg5) (ix3 e d f)) (fun e f j => m (c.tc.loc main_arg6) (ix3 e f j)) r j

/-- What the body leaves at tile `t` is the goal's rows there. -/
theorem left_at (t : Fin (cfgT a).N) (p : Fin 256) (j : Fin 2048) : left a m c t (ix2 p j) = goal a m c hT (rowOf t p) j := by
  have ht : t.val < 104 := t.isLt
  have hp := p.isLt
  have hd : (rowOf t p).val / 256 = t.val := by unfold rowOf; dsimp only; omega
  have hu : InUse a t ↔ (BitVec.ofNat 32 ((rowOf t p).val / 256)).slt (tab1 a (ix1 0)) = true := by
    rw [InUse, cond1_iff, word_eq, crd_val, hd]
  have htile : tileOf (rowOf t p) = t := Fin.ext hd
  unfold goal routed
  by_cases q : InUse a t
  · rw [if_pos (hu.1 q), pathA a m t c q, pay1_at, htile]
    simp only [blk0, blk1, blk2 a m c hT, blk3 a m c hT, blk4 a m c hT]
    rfl
  · rw [if_neg (mt hu.2 q), pathB a m t c q, pay2_at]

/-- THE CALL'S RESULT, entry by entry. -/
theorem result_at (r : Fin 26624) (j : Fin 2048) : (dats a m 0 c).arrAt (5 : Fin 6) (cfgT a).N (ix2 r j) = goal a m c hT r j := by
  have h : (dats a m 0 c).arrAt (5 : Fin 6) (cfgT a).N = fun i : S26624x2048.Idx => goal a m c hT (i 0) (i 1) := by
    refine (dats a m 0 c).arrAt_eq_of_covers (5 : Fin 6) _ (covers a) fun t hf y => ?_
    rw [after_5]
    blk_simp [rows_index a t]
    have key : ∀ (p : Fin 256) (j : Fin 2048), left a m c t (ix2 p j)
        = goal a m c hT ((((cfgT a).win (5 : Fin 6)).blk t).view.emb (ix2 p j) 0) ((((cfgT a).win (5 : Fin 6)).blk t).view.emb (ix2 p j) 1) := by
      intro p j
      have ht : t.val < 104 := t.isLt
      have hp := p.isLt
      rw [left_at a m c hT t p j]
      have e0 : (((cfgT a).win (5 : Fin 6)).blk t).view.emb (ix2 p j) 0 = rowOf t p := by
        apply Fin.ext
        blk_simp [rows_index a t]
        show t.val * 256 + p.val = 256 * t.val + p.val
        omega
      have e1 : (((cfgT a).win (5 : Fin 6)).blk t).view.emb (ix2 p j) 1 = j := by
        apply Fin.ext
        blk_simp [rows_index a t]
      rw [e0, e1]
    have hy : y = ix2 (y 0) (y 1) := eq_ix2 (n0 := 256) (n1 := 2048) y
    rw [hy]
    exact key _ _
  exact congrFun h (ix2 r j)

end Cert.MoeIdeal.Tab
end
-- ==== Proof.MoeTablesBits.lean ====
module

public import proofs.«01_k».proof.Proof.Gen.Moe.Launch
public import proofs.«01_k».proof.Proof.Gen.Moe.Flash.Runs
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine

/-! # The experts' call at any allowed tables: its run, from which the frame and the values follow

The call reads two tables, the expert of each tile and the number of tiles in use. Whatever the
tables hold, as long as every tile names one of the experts, each tile either runs the feed-forward
part (when it is in use) or stores zeros (when it is not). -/

@[expose] public section

set_option maxRecDepth 16384
set_option Elab.async false

noncomputable section

namespace Cert.Moe.Tab

open Cert.Moe Cert.Moe.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-! ## The two decisions of the body -/

/-- The word of the second table as the body reads it. -/
abbrev usedWord (T1 : S1.Idx → BitVec 32) : BitVec 32 :=
  View.readAt (Elt Bits) (tbM0_1).view (Rect.unit (s := S1) ![0] S1.size inb_S1_S1_0).toLoadRect T1 (Shape.Idx.first (numel1_S1.symm ▸ Nat.one_pos))

/-- The first condition compares the tile's number with the word, signed. -/
theorem cond1_iff (i : grid0.Coords) (w : BitVec 32) :
    k0_cond1 i w = 1#1 ↔ (BitVec.ofNat 32 (i 0).val).slt w = true := by
  unfold k0_cond1
  cases h : (BitVec.ofNat 32 (i 0).val).slt w <;>
    simp [Scalar.cmpi, Scalar.extui, IntOp.cmpi, h]

/-- The second condition is the first one's contrary. -/
theorem cond2_iff (i : grid0.Coords) (w : BitVec 32) :
    k0_cond2 i w = 1#1 ↔ ¬k0_cond1 i w = 1#1 := by
  rw [cond1_iff]
  unfold k0_cond2
  cases h : (BitVec.ofNat 32 (i 0).val).slt w <;>
    simp [Scalar.cmpi, Scalar.extui, IntOp.cmpi, BitVec.sle_eq_not_slt, h]

/-! ## The call at its tables -/

variable (a : (pcfg0 (F := Bits)).Adm)
variable (m : (ℓ : Loc nD τ sig) → Buf (Elt Bits) ℓ) (ρ : Dev nD → PrngReg)

/-- The tables' contents. -/
abbrev tab0 : S104.Idx → BitVec 32 := a.1 (0 : Fin 2)
abbrev tab1 : S1.Idx → BitVec 32 := a.1 (1 : Fin 2)

abbrev cfgT : Pipeline.Cfg sig Λ₀ := cfg0 (F := Bits) a
abbrev pcsT : Fin 1 → Pipeline.Cfg sig Λ₀ := Pipeline.pin (pcfgs (F := Bits)) fun _ => a

/-- A point's coordinates, and its windows' staging buffers there. -/
abbrev crd (t : Fin (cfgT a).N) : (cfgT a).grid.Coords := (cfgT a).grid.coords t

abbrev ms0 (t : Fin (cfgT a).N) : Memref sig .tc .vmem S256x2048 .f32 := spec0_0.stage ((cfgT a).slots t (0 : Fin 6))
abbrev hs0 (t : Fin (cfgT a).N) : (ms0 a t).IsWhole := hstage0_0 (((cfgT a).slots t (0 : Fin 6)).cast nbuf0_0)

abbrev ms1 (t : Fin (cfgT a).N) : Memref sig .tc .vmem S256x1 .f32 := spec0_1.stage ((cfgT a).slots t (1 : Fin 6))
abbrev hs1 (t : Fin (cfgT a).N) : (ms1 a t).IsWhole := hstage0_1 (((cfgT a).slots t (1 : Fin 6)).cast nbuf0_1)

abbrev ms2 (t : Fin (cfgT a).N) : Memref sig .tc .vmem S1x2048x512 .bf16 := spec0_2.stage ((cfgT a).slots t (2 : Fin 6))
abbrev hs2 (t : Fin (cfgT a).N) : (ms2 a t).IsWhole := hstage0_2 (((cfgT a).slots t (2 : Fin 6)).cast nbuf0_2)

abbrev ms3 (t : Fin (cfgT a).N) : Memref sig .tc .vmem S1x2048x512 .bf16 := spec0_3.stage ((cfgT a).slots t (3 : Fin 6))
abbrev hs3 (t : Fin (cfgT a).N) : (ms3 a t).IsWhole := hstage0_3 (((cfgT a).slots t (3 : Fin 6)).cast nbuf0_3)

abbrev ms4 (t : Fin (cfgT a).N) : Memref sig .tc .vmem S1x512x2048 .bf16 := spec0_4.stage ((cfgT a).slots t (4 : Fin 6))
abbrev hs4 (t : Fin (cfgT a).N) : (ms4 a t).IsWhole := hstage0_4 (((cfgT a).slots t (4 : Fin 6)).cast nbuf0_4)

abbrev ms5 (t : Fin (cfgT a).N) : Memref sig .tc .vmem S256x2048 .f32 := spec0_5.stage ((cfgT a).slots t (5 : Fin 6))
abbrev hs5 (t : Fin (cfgT a).N) : (ms5 a t).IsWhole := hstage0_5 (((cfgT a).slots t (5 : Fin 6)).cast nbuf0_5)

/-- Window `w`'s block at point `t`, read off its array at launch. -/
def iblk (c : Dev nD) (w : Fin (cfgT a).W) (t : Fin (cfgT a).N) : (((cfgT a).win w).xblock (crd a t)).Idx → Elt Bits ((cfgT a).win w).elt :=
  (((cfgT a).win w).blk t).view.read (Elt Bits) (m (((cfgT a).win w).arr.view.loc (c : Thread nD τ)))

/-- Whether tile `t` is in use. -/
abbrev InUse (t : Fin (cfgT a).N) : Prop := k0_cond1 (crd a t) (usedWord (tab1 a)) = 1#1

/-- No tile leaves the result's block unwritten. -/
theorem never_idle (t : Fin (cfgT a).N) : (cfgT a).idle (5 : Fin 6) ((cfgT a).grid.coords t) = false := by
  show (!(k0_cond1 _ _ == 1#1) && !(k0_cond2 _ _ == 1#1)) = false
  by_cases h : k0_cond1 ((cfgT a).grid.coords t) (a.1.atD 1 ![0]) = 1#1
  · rw [h]; rfl
  · rw [(cond2_iff _ _).2 h, Bool.and_eq_false_iff]; exact .inr rfl

/-- What the body leaves in the result's block at point `t`. -/
def left (c : Dev nD) (t : Fin (cfgT a).N) : S256x2048.Idx → Elt Bits .f32 :=
  if q : InUse a t then
    out0_A_5 c (crd a t) (ms0 a t) (hs0 a t) (ms1 a t) (hs1 a t) (ms2 a t) (hs2 a t) (ms3 a t) (hs3 a t) (ms4 a t) (hs4 a t) (ms5 a t) (hs5 a t) (tab0 a) (tab1 a) (iblk a m c (0 : Fin 6) t) (iblk a m c (1 : Fin 6) t) (iblk a m c (2 : Fin 6) t) (iblk a m c (3 : Fin 6) t) (iblk a m c (4 : Fin 6) t) q (fun h => (cond2_iff _ _).1 h q)
  else
    out0_B_5 c (crd a t) (ms0 a t) (hs0 a t) (ms1 a t) (hs1 a t) (ms2 a t) (hs2 a t) (ms3 a t) (hs3 a t) (ms4 a t) (hs4 a t) (ms5 a t) (hs5 a t) (tab0 a) (tab1 a) (iblk a m c (0 : Fin 6) t) (iblk a m c (1 : Fin 6) t) (iblk a m c (2 : Fin 6) t) (iblk a m c (3 : Fin 6) t) (iblk a m c (4 : Fin 6) t) q ((cond2_iff _ _).2 q)

/-- Before each point: the body's share of the tables. -/
def held (c : Dev nD) : sProp 𝕄 :=
  iprop((tbM0_0.view.loc (c : Thread nD τ) ↦{fullShare.right} tab0 a) ∗ (tbM0_1.view.loc (c : Thread nD τ) ↦{fullShare.right} tab1 a))

/-- The contents of every window's block, point by point. -/
def dats (_ : Fin 1) (c : Dev nD) : Dat τ (Elt Bits) Unit ℕ (UR sig nD τ) ℕ (cfgT a) c where
  A w := m (((cfgT a).win w).arr.view.loc (c : Thread nD τ))
  after w t := match w with
    | ⟨0, _⟩ => iblk a m c (0 : Fin 6) t
    | ⟨1, _⟩ => iblk a m c (1 : Fin 6) t
    | ⟨2, _⟩ => iblk a m c (2 : Fin 6) t
    | ⟨3, _⟩ => iblk a m c (3 : Fin 6) t
    | ⟨4, _⟩ => iblk a m c (4 : Fin 6) t
    | ⟨5, _⟩ => left a m c t
  Φ _ := held a c
  q _ := fullShare
  owed _ := 0

theorem after_0 (c : Dev nD) (t : Fin (cfgT a).N) : (dats a m 0 c).after (0 : Fin 6) t = iblk a m c (0 : Fin 6) t := rfl
theorem after_1 (c : Dev nD) (t : Fin (cfgT a).N) : (dats a m 0 c).after (1 : Fin 6) t = iblk a m c (1 : Fin 6) t := rfl
theorem after_2 (c : Dev nD) (t : Fin (cfgT a).N) : (dats a m 0 c).after (2 : Fin 6) t = iblk a m c (2 : Fin 6) t := rfl
theorem after_3 (c : Dev nD) (t : Fin (cfgT a).N) : (dats a m 0 c).after (3 : Fin 6) t = iblk a m c (3 : Fin 6) t := rfl
theorem after_4 (c : Dev nD) (t : Fin (cfgT a).N) : (dats a m 0 c).after (4 : Fin 6) t = iblk a m c (4 : Fin 6) t := rfl
theorem after_5 (c : Dev nD) (t : Fin (cfgT a).N) : (dats a m 0 c).after (5 : Fin 6) t = left a m c t := rfl

/-- Input 0 holds its block when the body runs. -/
theorem before_0 (c : Dev nD) (t : Fin (cfgT a).N) (d) : (dats a m 0 c).before (0 : Fin 6) t d = iblk a m c (0 : Fin 6) t :=
  ((dats a m 0 c).before_in_eq_fetched (0 : Fin 6) rfl (fun _ => rfl) (fun _ _ _ => rfl) (fun t => by rw [after_0]; unfold Dat.blockOf iblk; rfl) t d).trans
    (by unfold Dat.fetched Dat.blockOf iblk; rfl)

/-- Input 1 holds its block when the body runs. -/
theorem before_1 (c : Dev nD) (t : Fin (cfgT a).N) (d) : (dats a m 0 c).before (1 : Fin 6) t d = iblk a m c (1 : Fin 6) t :=
  ((dats a m 0 c).before_in_eq_fetched (1 : Fin 6) rfl (fun _ => rfl) (fun _ _ _ => rfl) (fun t => by rw [after_1]; unfold Dat.blockOf iblk; rfl) t d).trans
    (by unfold Dat.fetched Dat.blockOf iblk; rfl)

/-- Input 2 holds its block when the body runs. -/
theorem before_2 (c : Dev nD) (t : Fin (cfgT a).N) (d) : (dats a m 0 c).before (2 : Fin 6) t d = iblk a m c (2 : Fin 6) t :=
  ((dats a m 0 c).before_in_eq_fetched (2 : Fin 6) rfl (fun _ => rfl) (fun _ _ _ => rfl) (fun t => by rw [after_2]; unfold Dat.blockOf iblk; rfl) t d).trans
    (by unfold Dat.fetched Dat.blockOf iblk; rfl)

/-- Input 3 holds its block when the body runs. -/
theorem before_3 (c : Dev nD) (t : Fin (cfgT a).N) (d) : (dats a m 0 c).before (3 : Fin 6) t d = iblk a m c (3 : Fin 6) t :=
  ((dats a m 0 c).before_in_eq_fetched (3 : Fin 6) rfl (fun _ => rfl) (fun _ _ _ => rfl) (fun t => by rw [after_3]; unfold Dat.blockOf iblk; rfl) t d).trans
    (by unfold Dat.fetched Dat.blockOf iblk; rfl)

/-- Input 4 holds its block when the body runs. -/
theorem before_4 (c : Dev nD) (t : Fin (cfgT a).N) (d) : (dats a m 0 c).before (4 : Fin 6) t d = iblk a m c (4 : Fin 6) t :=
  ((dats a m 0 c).before_in_eq_fetched (4 : Fin 6) rfl (fun _ => rfl) (fun _ _ _ => rfl) (fun t => by rw [after_4]; unfold Dat.blockOf iblk; rfl) t d).trans
    (by unfold Dat.fetched Dat.blockOf iblk; rfl)

set_option maxHeartbeats 4000000 in
/-- The body at point `t`: from its blocks and its share of the tables it leaves every block as `dats` says. -/
theorem sound_body (c : Dev nD) (t : Fin (cfgT a).N) :
    iprop((dats a m 0 c).Φ t.castSucc ∗ (dats a m 0 c).owesAt () t.castSucc
        ∗ (∃ d, owns (c : Thread nD τ) (ms0 a t) fullShare ((dats a m 0 c).before (0 : Fin 6) t d))
        ∗ (∃ d, owns (c : Thread nD τ) (ms1 a t) fullShare ((dats a m 0 c).before (1 : Fin 6) t d))
        ∗ (∃ d, owns (c : Thread nD τ) (ms2 a t) fullShare ((dats a m 0 c).before (2 : Fin 6) t d))
        ∗ (∃ d, owns (c : Thread nD τ) (ms3 a t) fullShare ((dats a m 0 c).before (3 : Fin 6) t d))
        ∗ (∃ d, owns (c : Thread nD τ) (ms4 a t) fullShare ((dats a m 0 c).before (4 : Fin 6) t d))
        ∗ (∃ d, owns (c : Thread nD τ) (ms5 a t) fullShare ((dats a m 0 c).before (5 : Fin 6) t d)))
      ⊢ wp frame (wpE (defs₀ (F := Bits)) Variants.none c none) Set.univ
          (cc0_moe_experts (crd a t) (Memref.whole main_arg0) (Memref.isWhole_whole _) (Memref.whole main_arg1) (Memref.isWhole_whole _) (ms0 a t) (hs0 a t) (ms1 a t) (hs1 a t) (ms2 a t) (hs2 a t) (ms3 a t) (hs3 a t) (ms4 a t) (hs4 a t) (ms5 a t) (hs5 a t)) fun _ =>
          iprop((dats a m 0 c).Φ t.succ ∗ (dats a m 0 c).owesAt () t.succ
            ∗ bigSep Finset.univ fun w : Fin (cfgT a).W =>
                match (cfgT a).idle w ((cfgT a).grid.coords t) with
                | true =>
                  match ((cfgT a).win w).flush t with
                  | false => iprop(∃ d, owns (c : Thread nD τ) (((cfgT a).win w).stage ((cfgT a).slots t w)) fullShare ((dats a m 0 c).before w t d))
                  | true => owns (c : Thread nD τ) (((cfgT a).win w).stage ((cfgT a).slots t w)) fullShare ((dats a m 0 c).after w t)
                | false => owns (c : Thread nD τ) (((cfgT a).win w).stage ((cfgT a).slots t w)) fullShare ((dats a m 0 c).after w t)) := by
  rw [bigSep_W0]
  rewrite [never_idle a t]
  simp only [before_0, before_1, before_2, before_3, before_4, after_0, after_1, after_2, after_3, after_4, after_5]
  rewrite [show (dats a m 0 c).Φ t.succ = held a c from rfl, show (dats a m 0 c).Φ t.castSucc = held a c from rfl,
    show (dats a m 0 c).owesAt () t.succ = (dats a m 0 c).owesAt () t.castSucc from rfl]
  unfold held
  by_cases q : InUse a t
  · rw [show left a m c t = out0_A_5 c (crd a t) (ms0 a t) (hs0 a t) (ms1 a t) (hs1 a t) (ms2 a t) (hs2 a t) (ms3 a t) (hs3 a t) (ms4 a t) (hs4 a t) (ms5 a t) (hs5 a t) (tab0 a) (tab1 a) (iblk a m c (0 : Fin 6) t) (iblk a m c (1 : Fin 6) t) (iblk a m c (2 : Fin 6) t) (iblk a m c (3 : Fin 6) t) (iblk a m c (4 : Fin 6) t) q (fun h => (cond2_iff _ _).1 h q) from dif_pos q]
    iintro ⟨⟨HT0, HT1⟩, Ho, ⟨%d0, H0⟩, ⟨%d1, H1⟩, ⟨%d2, H2⟩, ⟨%d3, H3⟩, ⟨%d4, H4⟩, ⟨%d5, H5⟩⟩
    iapply ((kernelRun0_A c (crd a t) (ms0 a t) (hs0 a t) (ms1 a t) (hs1 a t) (ms2 a t) (hs2 a t) (ms3 a t) (hs3 a t) (ms4 a t) (hs4 a t) (ms5 a t) (hs5 a t) (tab0 a) (tab1 a) (iblk a m c (0 : Fin 6) t) (iblk a m c (1 : Fin 6) t) (iblk a m c (2 : Fin 6) t) (iblk a m c (3 : Fin 6) t) (iblk a m c (4 : Fin 6) t) q (fun h => (cond2_iff _ _).1 h q)).2 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    isplitl [HT1]; · iexact HT1
    isplitl [H5]; · iexists _; iexact H5
    iintro ⟨H0, H1, H2, H3, H4, HT0, HT1, ⟨%e5, H5⟩⟩
    isplitl [HT0 HT1]
    · isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    isplitl [H4]
    · iapply owns_of_rep; iexact H4
    unfold owns; iexists _; isplitr; swap
    · iexact H5
    · ipureintro; exact View.read_writes_of_cover _ _ _ _ _ (cover0_A_5 c _ _ _ _ _ _ _ _ _ _ _ _ _ _ _ _ _ _ _ _ _ _)
  · rw [show left a m c t = out0_B_5 c (crd a t) (ms0 a t) (hs0 a t) (ms1 a t) (hs1 a t) (ms2 a t) (hs2 a t) (ms3 a t) (hs3 a t) (ms4 a t) (hs4 a t) (ms5 a t) (hs5 a t) (tab0 a) (tab1 a) (iblk a m c (0 : Fin 6) t) (iblk a m c (1 : Fin 6) t) (iblk a m c (2 : Fin 6) t) (iblk a m c (3 : Fin 6) t) (iblk a m c (4 : Fin 6) t) q ((cond2_iff _ _).2 q) from dif_neg q]
    iintro ⟨⟨HT0, HT1⟩, Ho, ⟨%d0, H0⟩, ⟨%d1, H1⟩, ⟨%d2, H2⟩, ⟨%d3, H3⟩, ⟨%d4, H4⟩, ⟨%d5, H5⟩⟩
    iapply ((kernelRun0_B c (crd a t) (ms0 a t) (hs0 a t) (ms1 a t) (hs1 a t) (ms2 a t) (hs2 a t) (ms3 a t) (hs3 a t) (ms4 a t) (hs4 a t) (ms5 a t) (hs5 a t) (tab0 a) (tab1 a) (iblk a m c (0 : Fin 6) t) (iblk a m c (1 : Fin 6) t) (iblk a m c (2 : Fin 6) t) (iblk a m c (3 : Fin 6) t) (iblk a m c (4 : Fin 6) t) q ((cond2_iff _ _).2 q)).2 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    isplitl [HT1]; · iexact HT1
    isplitl [H5]; · iexists _; iexact H5
    iintro ⟨H0, H1, H2, H3, H4, HT0, HT1, ⟨%e5, H5⟩⟩
    isplitl [HT0 HT1]
    · isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    isplitl [H4]
    · iapply owns_of_rep; iexact H4
    unfold owns; iexists _; isplitr; swap
    · iexact H5
    · ipureintro; exact View.read_writes_of_cover _ _ _ _ _ (cover0_B_5 c _ _ _ _ _ _ _ _ _ _ _ _ _ _ _ _ _ _ _ _ _ _)

/-- The body, at every point. -/
theorem body_all (c : Dev nD) : BodyObligation (dats a m 0 c) (defs₀ (F := Bits)) Variants.none () Set.univ := fun t => by
  rw [bigSep_W0]
  exact sound_body a m c t

/-! ## The launch -/

/-- The launch's own resource. -/
def u₀ : UR sig nD τ :=
  initOf (Pipeline.cells (pcsT a) ((launch0 (F := Bits)).cellOf_inj fun _ => a))
    (Pipeline.launchToks (pcsT a) ((launch0 (F := Bits)).cellOf_inj fun _ => a))

theorem share_eq (c : Dev nD) (w : Fin (cfgT a).W) : (dats a m 0 c).share w = fullShare := by unfold Dat.share; split <;> rfl

/-- The tables, one by one. -/
theorem tables_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem held_intro (c : Dev nD) :
    iprop(BI.emp ∗ Pipeline.prefHeld pre0 c (fun _ => fullShare.right) a.1 ∗ Pipeline.scopedRest spec0 c) ⊢ (dats a m 0 c).Φ 0 := by
  rw [tables_eq, scopedRest0_eq, show (dats a m 0 c).Φ 0 = held a c from rfl]
  unfold held
  iintro ⟨-, ⟨HT0, HT1⟩, -⟩
  isplitl [HT0]
  · iexact HT0
  iexact HT1

theorem held_exit (c : Dev nD) : (dats a m 0 c).Φ (Fin.last (cfgT a).N) ⊢ iprop(BI.emp ∗ Pipeline.scopedRest spec0 c) := by
  rw [scopedRest0_eq, show (dats a m 0 c).Φ (Fin.last (cfgT a).N) = held a c from rfl]
  unfold held
  iintro ⟨-, -⟩
  isplitr; · iempintro
  iempintro

/-- The call's post: each array at its computed contents, the tables as they were. -/
def Post : PUnit × MemSt nD τ sig (Elt Bits) → Prop := fun r =>
  ∀ c : Dev nD, (∀ w : Fin (cfgT a).W, r.2.mem (((cfgT a).win w).arr.view.loc (c : Thread nD τ)) = (dats a m 0 c).arrAt w (cfgT a).N)
    ∧ ∀ j, r.2.mem ((c : Thread nD τ).loc (pre0.ref j)) = a.1 j

set_option backward.isDefEq.respectTransparency.types false in
set_option maxHeartbeats 4000000 in
/-- From a memory whose tables are `a`'s, the program ends with every array at its computed contents and every counter at zero. -/
theorem run_tables (hp : ∀ (c : Dev nD) (j : Fin 2), m ((c : Thread nD τ).loc (pre0.ref j)) = a.1 j) :
    θ_run (defs (F := Bits)) (onTc (τ := τ) (main (F := Bits))) ⟨m, fun _ => 0, ρ⟩ (fun r => Post a m r ∧ r.2.sem = fun _ => 0) :=
  Pipeline.θ_run_region_noSem_pf_quiescent pcfgs (fun _ => a) (dats a m) () ((launch0 (F := Bits)).cellOf_inj fun _ => a) (0 : Fin 1)
    (launch0 (F := Bits)).win.to₀ (launch0 (F := Bits)).pre (emb₁ : Emb (UR sig nD τ) 𝕄) defs₀ Variants.none m ρ main
    (hbody := fun c => (body_all a m c).loose) (hne := (launch0 (F := Bits)).block_pos)
    (harr := (launch0 (F := Bits)).arr_whole) (hstage := (launch0 (F := Bits)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcsT a) (dats a m) 0 (launch0 (F := Bits)).win.arr_inj c (launch0 (F := Bits)).arr_whole
      (share_eq a m c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := held_intro a m)
    (hout := held_exit a m)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The run's result and arguments: the result at its computed contents, every argument unchanged. -/
theorem run_result (hp : ∀ (c : Dev nD) (j : Fin 2), m ((c : Thread nD τ).loc (pre0.ref j)) = a.1 j) :
    θ_run (defs (F := Bits)) (onTc (τ := τ) (main (F := Bits))) ⟨m, fun _ => 0, ρ⟩ (fun r => (∀ c : Dev nD,
      r.2.mem ((c.tc : Thread nD τ).loc main_v0) = (dats a m 0 c).arrAt (5 : Fin 6) (cfgT a).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(h.1 c).1 (5 : Fin 6), ((h.1 c).2 0).trans (hp c 0).symm, ((h.1 c).2 1).trans (hp c 1).symm,
    ((h.1 c).1 (0 : Fin 6)).trans ((dats a m 0 c).arrAt_in (0 : Fin 6) rfl _), ((h.1 c).1 (1 : Fin 6)).trans ((dats a m 0 c).arrAt_in (1 : Fin 6) rfl _),
    ((h.1 c).1 (2 : Fin 6)).trans ((dats a m 0 c).arrAt_in (2 : Fin 6) rfl _), ((h.1 c).1 (3 : Fin 6)).trans ((dats a m 0 c).arrAt_in (3 : Fin 6) rfl _),
    ((h.1 c).1 (4 : Fin 6)).trans ((dats a m 0 c).arrAt_in (4 : Fin 6) rfl _)⟩, h.2⟩) (run_tables a m ρ hp)

/-! ## The tables of a launch memory -/

/-- The tables as the launch memory holds them. -/
def tabs (m : (ℓ : Loc nD τ sig) → Buf (Elt Bits) ℓ) : pre0.Contents (Elt Bits) := fun j => m (((0 : Dev nD) : Thread nD τ).loc (pre0.ref j))

/-- Every block of the experts' matrices lies inside its array when every tile names one of the 32 experts. -/
theorem ok_tabs (h : ∀ t : S104.Idx, BitVec.toNat (w := 32) (tabs m (0 : Fin 2) t) < 32) : ok0 (F := Bits) (tabs m) := by
  refine ⟨fun i => ⟨fun a => ?_, .inr (Affine.block_words_dvd (s := S32x2048x512) (p := EltTy.packing .bf16) (by decide) (by decide))⟩,
    fun i => ⟨fun a => ?_, .inr (Affine.block_words_dvd (s := S32x2048x512) (p := EltTy.packing .bf16) (by decide) (by decide))⟩,
    fun i => ⟨fun a => ?_, .inr (Affine.block_words_dvd (s := S32x512x2048) (p := EltTy.packing .bf16) (by decide) (by decide))⟩⟩
  · match a with
    | ⟨0, _⟩ => exact (Nat.mul_one _).le.trans (h _)
    | ⟨1, _⟩ => exact le_refl 2048
    | ⟨2, _⟩ => exact le_refl 512
    | ⟨_ + 3, q⟩ => exact absurd q (Nat.not_lt.2 (Nat.le_add_left _ _))
  · match a with
    | ⟨0, _⟩ => exact (Nat.mul_one _).le.trans (h _)
    | ⟨1, _⟩ => exact le_refl 2048
    | ⟨2, _⟩ => exact le_refl 512
    | ⟨_ + 3, q⟩ => exact absurd q (Nat.not_lt.2 (Nat.le_add_left _ _))
  · match a with
    | ⟨0, _⟩ => exact (Nat.mul_one _).le.trans (h _)
    | ⟨1, _⟩ => exact le_refl 512
    | ⟨2, _⟩ => exact le_refl 2048
    | ⟨_ + 3, q⟩ => exact absurd q (Nat.not_lt.2 (Nat.le_add_left _ _))

/-- The tables of a launch memory in which every tile names one of the experts. -/
def atLaunch (h : ∀ t : S104.Idx, BitVec.toNat (w := 32) (tabs m (0 : Fin 2) t) < 32) : (pcfg0 (F := Bits)).Adm := ⟨tabs m, ok_tabs m h⟩

theorem atLaunch_eq (h : ∀ t : S104.Idx, BitVec.toNat (w := 32) (tabs m (0 : Fin 2) t) < 32) (c : Dev nD) (j : Fin 2) :
    m ((c : Thread nD τ).loc (pre0.ref j)) = (atLaunch m h).1 j := by
  obtain rfl : c = 0 := Subsingleton.elim _ _
  rfl

end Cert.Moe.Tab

end
-- ==== Proof.MoeRef.lean ====
/-
  The experts' reference read at one index.
-/
module

public import proofs.«01_k».proof.Proof.Gen.MoeReferenceIdeal.Run
public import proofs.«01_k».proof.Proof.ExpertMath
public import Idealize.ShloMosaic.Lib.Pipeline.ValueKit
public import Idealize.ShloMosaic.Lib.WordCmp

@[expose] public section

set_option maxRecDepth 16384

noncomputable section

namespace Cert.MoeReferenceIdeal.Dense

open Cert.MoeReferenceIdeal Cert.MoeReferenceIdeal.Gen Idealize.ShloMosaic Idealize.ShloMosaic.TcCoe Idealize.SL.Sem Idealize.ShloMosaic.StableHlo

section
variable {F : FTy → Type} [FloatOps F]

/-- Every row through every expert's matrix `[row, expert, hidden]`. -/
def through (x : FVec F S26624x2048 .f32) (w : FVec F S32x2048x512 .bf16) : FVec F S26624x32x512 .f32 :=
  Host.dotGeneral dot_S26624x2048_S32x2048x512_S26624x32x512_1_1_0_02_n_n none x (extf .f32 w bitsLt_bf16_f32)

/-- Each number times its logistic. -/
def act (a : FVec F S26624x32x512 .f32) : FVec F S26624x32x512 .f32 :=
  mulf a (Host.divf (broadcastInDim S26624x32x512 ![] bcast_S_S26624x32x512 (constant S_ .f32 0x3F800000#32)) (addf (broadcastInDim S26624x32x512 ![] bcast_S_S26624x32x512 (constant S_ .f32 0x3F800000#32)) (Host.exp (Host.negf a))))

/-- The weight of each row in use, zero for the others `[row, 1]`. -/
def weightOf (n : IVec S1 32) (g : FVec F S26624x1 .f32) : FVec F S26624x1 .f32 :=
  select (broadcastInDim S26624x1 ![0] bcast_S26624_S26624x1_0 (shapeCast _ (broadcastInDim S104x256 ![0] bcast_S104_S104x256_0 (cmpi .slt (iotaInDim S104 32 0) (broadcastInDim S104 ![] bcast_S_S104 (shapeCast _ n shapeCasts_S1_S_)))) shapeCasts_S104x256_S26624)) g (broadcastInDim S26624x1 ![] bcast_S_S26624x1 (id (constant S_ .f32 0x00000000#32)))

/-- One at each row's expert, zero elsewhere `[row, expert]`. -/
def chosen (T : IVec S104 32) : FVec F S26624x32 .f32 :=
  select (cmpi .eq (broadcastInDim S26624x32 ![0, 1] bcast_S26624x1_S26624x32_0_1 (broadcastInDim S26624x1 ![0] bcast_S26624_S26624x1_0 (shapeCast _ (broadcastInDim S104x256 ![0] bcast_S104_S104x256_0 T) shapeCasts_S104x256_S26624))) (broadcastInDim S26624x32 ![0, 1] bcast_S1x32_S26624x32_0_1 (broadcastInDim S1x32 ![1] bcast_S32_S1x32_1 (iotaInDim S32 32 0)))) (broadcastInDim S26624x32 ![] bcast_S_S26624x32 (constant S_ .f32 0x3F800000#32)) (broadcastInDim S26624x32 ![] bcast_S_S26624x32 (constant S_ .f32 0x00000000#32))

/-- Each row's gate at each expert `[row, expert]`. -/
def gates (w : FVec F S26624x1 .f32) (o : FVec F S26624x32 .f32) : FVec F S26624x32 .f32 :=
  mulf (broadcastInDim S26624x32 ![0, 1] bcast_S26624x1_S26624x32_0_1 w) (id o)

/-- The hidden values, weighted by the gates. -/
def weighted (a b : FVec F S26624x32x512 .f32) (g : FVec F S26624x32 .f32) : FVec F S26624x32x512 .f32 :=
  mulf (mulf (act a) b) (broadcastInDim S26624x32x512 ![0, 1, 2] bcast_S26624x32x1_S26624x32x512_0_1_2 (broadcastInDim S26624x32x1 ![0, 1] bcast_S26624x32_S26624x32x1_0_1 g))

/-- The sum over the experts and their hidden values. -/
def down (h : FVec F S26624x32x512 .f32) (w : FVec F S32x512x2048 .bf16) : FVec F S26624x2048 .f32 :=
  Host.dotGeneral dot_S26624x32x512_S32x512x2048_S26624x2048_12_01_0_2_n_n none h (extf .f32 w bitsLt_bf16_f32)

/-- The reference's result as a function of its arguments. -/
def result (T : IVec S104 32) (n : IVec S1 32) (x : FVec F S26624x2048 .f32) (g : FVec F S26624x1 .f32)
    (wg wu : FVec F S32x2048x512 .bf16) (wd : FVec F S32x512x2048 .bf16) : FVec F S26624x2048 .f32 :=
  down (weighted (through x wg) (through x wu) (gates (weightOf n g) (chosen T))) wd

end

open Cert.ExpertMath

/-- One entry of a product with every expert's matrix. -/
theorem through_at (x : FVec Ideal S26624x2048 .f32) (w : FVec Ideal S32x2048x512 .bf16) (r : Fin 26624) (e : Fin 32) (f : Fin 512) :
    through x w (ix3 r e f) = ∑ d : Fin 2048, x (ix2 r d) * w (ix3 e d f) := by
  pointwise [through]

/-- The activation, entry by entry. -/
theorem act_at (a : FVec Ideal S26624x32x512 .f32) (r : Fin 26624) (e : Fin 32) (f : Fin 512) :
    act a (ix3 r e f) = swish (a (ix3 r e f)) := by
  pointwise [act]
  rfl

/-- The weight of a row. -/
theorem weightOf_at (n : IVec S1 32) (g : FVec Ideal S26624x1 .f32) (r : Fin 26624) :
    weightOf n g (ix2 r 0) = if (BitVec.ofNat 32 (r.val / 256)).slt (n (ix1 0)) = true then g (ix2 r 0) else 0 := by
  pointwise [weightOf]
  have z : (id (constant (F := Ideal) S_ FTy.f32 0#32) ix0 : EReal) = 0 := Ideal.ofBits_zero FTy.f32
  rw [z]
  cases h : (BitVec.ofNat 32 (r.val / 256)).slt (n (ix1 0)) <;> simp [IntOp.cmpi, Scalar.select, h]

/-- The row's own expert. -/
theorem chosen_at (T : IVec S104 32) (hT : ∀ t, (T (ix1 t)).toNat < 32) (r : Fin 26624) (e : Fin 32) :
    chosen (F := Ideal) T (ix2 r e) = if named (fun t => T (ix1 t)) hT (tileOf r) = e then 1 else 0 := by
  pointwise [chosen]
  have he := e.isLt
  have h : (T (ix1 ⟨r.val / 256, by have := r.isLt; omega⟩) = BitVec.ofNat 32 e.val) ↔ named (fun t => T (ix1 t)) hT (tileOf r) = e := by
    rw [Fin.ext_iff, ← BitVec.toNat_inj, BitVec.toNat_ofNat, Nat.mod_eq_of_lt (by omega)]
    rfl
  by_cases q : named (fun t => T (ix1 t)) hT (tileOf r) = e
  · rw [if_pos q]; simp [IntOp.cmpi, Scalar.select, h.2 q]
  · have b : (T (ix1 ⟨r.val / 256, by have := r.isLt; omega⟩) == BitVec.ofNat 32 e.val) = false := beq_false_of_ne (mt h.1 q)
    rw [if_neg q]; simp [IntOp.cmpi, Scalar.select, b]

/-- A weighted hidden value. -/
theorem weighted_at (a b : FVec Ideal S26624x32x512 .f32) (g : FVec Ideal S26624x1 .f32) (o : FVec Ideal S26624x32 .f32) (r : Fin 26624) (e : Fin 32) (f : Fin 512) :
    weighted a b (gates g o) (ix3 r e f) = act a (ix3 r e f) * b (ix3 r e f) * (g (ix2 r 0) * o (ix2 r e)) := by
  pointwise [weighted, gates]
  rfl

/-- The final sum, over experts and hidden values. -/
theorem down_at (h : FVec Ideal S26624x32x512 .f32) (w : FVec Ideal S32x512x2048 .bf16) (r : Fin 26624) (j : Fin 2048) :
    down h w (ix2 r j) = ∑ e : Fin 32, ∑ f : Fin 512, h (ix3 r e f) * w (ix3 e f j) := by
  pointwise [down]

/-- THE REFERENCE'S RESULT: every row of a tile in use through its tile's expert, zero in the other tiles. -/
theorem result_at (T : IVec S104 32) (n : IVec S1 32) (x : FVec Ideal S26624x2048 .f32) (g : FVec Ideal S26624x1 .f32)
    (wg wu : FVec Ideal S32x2048x512 .bf16) (wd : FVec Ideal S32x512x2048 .bf16) (hT : ∀ t, (T (ix1 t)).toNat < 32)
    (r : Fin 26624) (j : Fin 2048) :
    result T n x g wg wu wd (ix2 r j)
      = routed (fun t => T (ix1 t)) hT (n (ix1 0)) (fun r d => x (ix2 r d)) (fun r => g (ix2 r 0)) (fun e d f => wg (ix3 e d f))
          (fun e d f => wu (ix3 e d f)) (fun e f j => wd (ix3 e f j)) r j := by
  unfold result
  rw [down_at]
  have h : ∀ e : Fin 32, (∑ f : Fin 512, weighted (through x wg) (through x wu) (gates (weightOf n g) (chosen T)) (ix3 r e f) * wd (ix3 e f j))
      = ffn (fun r d => x (ix2 r d)) (fun e d f => wg (ix3 e d f)) (fun e d f => wu (ix3 e d f)) (fun e f j => wd (ix3 e f j))
          ((if (BitVec.ofNat 32 (r.val / 256)).slt (n (ix1 0)) = true then g (ix2 r 0) else 0)
            * if named (fun t => T (ix1 t)) hT (tileOf r) = e then 1 else 0) r e j := by
    intro e
    unfold ffn
    refine Finset.sum_congr (M := EReal) rfl fun f _ => ?_
    rw [weighted_at, act_at, through_at, through_at, weightOf_at, chosen_at T hT]
    rfl
  rw [Finset.sum_congr (M := EReal) rfl fun e _ => h e, sum_gated]
  unfold routed
  split
  · rfl
  · exact ffn_zero ..

end Cert.MoeReferenceIdeal.Dense
end
-- ==== Proof.MoeExperts.lean ====
/-
  Which tables the experts' call allows: every tile names one of the 32 experts, and so every block the call
  fetches lies inside its array.
-/
module

public import proofs.«01_k».proof.Proof.Gen.Pre_experts_in_range
public import Idealize.ShloMosaic.Lib.ReduceAll
public import Idealize.ShloMosaic.Lib.Pipeline.ValueKit

@[expose] public section

noncomputable section

open Idealize.ShloMosaic

namespace Cert.Experts

/-- A word that is not negative and below 32 as a signed number is below 32 as an unsigned one. -/
theorem small_of_signed (x : BitVec 32) (h0 : (0#32).sle x = true) (h1 : x.slt 32#32 = true) : x.toNat < 32 := by
  rw [BitVec.sle_iff_toInt_le] at h0
  rw [BitVec.slt_iff_toInt_lt] at h1
  have e0 : (0#32).toInt = 0 := rfl
  have e1 : (32#32).toInt = 32 := rfl
  rw [e0] at h0
  rw [e1] at h1
  have hc := BitVec.toInt_eq_toNat_cond x
  have hl := x.isLt
  norm_num at hc hl
  split at hc <;> omega

open Cert.Pre_experts_in_range in
/-- When the precondition's test comes out true, every tile names one of the experts. -/
theorem experts_small {F : FTy → Type} [FloatOps F] (T : IVec S104 32) (n : IVec S1 32) (x : FVec F S26624x2048 .f32)
    (g : FVec F S26624x1 .f32) (wg wu : FVec F S32x2048x512 .bf16) (wd : FVec F S32x512x2048 .bf16)
    (h : fn T n x g wg wu wd = fun _ => 1#1) (t : S104.Idx) : (T t).toNat < 32 := by
  have h0 := congrFun h ix0
  unfold fn at h0
  have h1 : IntOp.andi (IntOp.cmpi .sge (T t) 0#32) (IntOp.cmpi .slt (T t) 32#32) = 1#1 := Host.reduce_andi_all _ _ _ _ _ h0 t
  simp only [IntOp.cmpi, IntOp.andi] at h1
  refine small_of_signed (T t) ?_ ?_
  · by_contra hn
    rw [Bool.not_eq_true] at hn
    rw [hn] at h1
    simp at h1
  · by_contra hn
    rw [Bool.not_eq_true] at hn
    rw [hn] at h1
    simp at h1

end Cert.Experts
end
-- ==== Proof.MoeClose.lean ====
/-
  The experts' claims: the call runs and leaves its arguments as they were, on hardware floats and on the
  idealized ones; and its result array is the reference's.
-/
module

public import proofs.«01_k».proof.Proof.MoeValue
public import proofs.«01_k».proof.Proof.MoeTablesBits
public import proofs.«01_k».proof.Proof.MoeRef
public import proofs.«01_k».proof.Proof.MoeExperts
public import proofs.«01_k».proof.Defs
public import proofs.«01_k».proof.Proof.Gen.Pre_experts_in_range
public import proofs.«01_k».proof.Proof.Gen.MoeReferenceIdeal.Run

@[expose] public section

set_option maxRecDepth 16384

noncomputable section

open Idealize.ShloMosaic Idealize.ShloMosaic.TcCoe Idealize.SL.Sem

namespace Cert.MoeClose

/-- The call on hardware floats runs, ends quiescent and leaves its arguments as they were. -/
theorem frame : Cert.quiescent_Moe (hMoe := Cert.Moe.Gen.facts) (hPre_experts_in_range := Cert.Pre_experts_in_range.Gen.facts) :=
  fun m ρ hpre =>
    have h : ∀ t : Cert.Moe.S104.Idx, BitVec.toNat (w := 32) (Cert.Moe.Tab.tabs m (0 : Fin 2) t) < 32 :=
      Cert.Experts.experts_small (F := Bits) _ _ _ _ _ _ _ (hpre 0)
    (θ_run Cert.Moe.defs _ _).mono (fun _ q => ⟨fun c => (q.1 c).2, q.2⟩)
      (Cert.Moe.Tab.run_result (Cert.Moe.Tab.atLaunch m h) m ρ (Cert.Moe.Tab.atLaunch_eq m h))

/-- The words of the table of experts at the launch are small under the precondition. -/
theorem small (m : (ℓ : Loc Cert.MoeIdeal.nD Cert.MoeIdeal.τ Cert.MoeIdeal.sig) → Buf (Elt Ideal) ℓ)
    (hpre : Cert.Pre_MoeIdeal (hPre_experts_in_range := Cert.Pre_experts_in_range.Gen.facts) m) (t : Cert.MoeIdeal.S104.Idx) :
    BitVec.toNat (w := 32) (Cert.MoeIdeal.Tab.tabs m (0 : Fin 2) t) < 32 :=
  Cert.Experts.experts_small (F := Ideal) _ _ _ _ _ _ _ (hpre 0) t

/-- The idealized call runs, ends quiescent and leaves its arguments as they were. -/
theorem frame_ideal : Cert.quiescent_MoeIdeal (hMoeIdeal := Cert.MoeIdeal.Gen.facts)
    (hPre_experts_in_range := Cert.Pre_experts_in_range.Gen.facts) :=
  fun m ρ hpre =>
    (θ_run Cert.MoeIdeal.defs _ _).mono (fun _ q => ⟨fun c => (q.1 c).2, q.2⟩)
      (Cert.MoeIdeal.Tab.run_result (Cert.MoeIdeal.Tab.atLaunch m (small m hpre)) m ρ (Cert.MoeIdeal.Tab.atLaunch_eq m (small m hpre)))

/-- The array the idealized call leaves. -/
def kernelOut (m : (ℓ : Loc Cert.MoeIdeal.nD Cert.MoeIdeal.τ Cert.MoeIdeal.sig) → Buf (Elt Ideal) ℓ)
    (hpre : Cert.Pre_MoeIdeal (hPre_experts_in_range := Cert.Pre_experts_in_range.Gen.facts) m) (c : Dev Cert.MoeIdeal.nD) :
    FVec Ideal Cert.MoeIdeal.S26624x2048 .f32 :=
  (Cert.MoeIdeal.Tab.dats (Cert.MoeIdeal.Tab.atLaunch m (small m hpre)) m 0 c).arrAt (5 : Fin 6)
    (Cert.MoeIdeal.Tab.cfgT (Cert.MoeIdeal.Tab.atLaunch m (small m hpre))).N

/-- The idealized call run from a memory that meets the precondition: its result array, and its arguments unchanged. -/
theorem run_ideal (m : (ℓ : Loc Cert.MoeIdeal.nD Cert.MoeIdeal.τ Cert.MoeIdeal.sig) → Buf (Elt Ideal) ℓ)
    (ρ : Dev Cert.MoeIdeal.nD → PrngReg)
    (hpre : Cert.Pre_MoeIdeal (hPre_experts_in_range := Cert.Pre_experts_in_range.Gen.facts) m) :
    θ_run (Cert.MoeIdeal.defs (F := Ideal)) (onTc (τ := Cert.MoeIdeal.τ) (Cert.MoeIdeal.main (F := Ideal))) ⟨m, fun _ => 0, ρ⟩
      (fun r => ∀ c : Dev Cert.MoeIdeal.nD,
        r.2.mem ((c.tc : Thread Cert.MoeIdeal.nD Cert.MoeIdeal.τ).loc Cert.MoeIdeal.main_v0)
          = kernelOut m hpre c
        ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
        ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
        ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
        ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
        ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
        ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
        ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)) :=
  (θ_run Cert.MoeIdeal.defs _ _).mono (fun _ q => q.1)
    (Cert.MoeIdeal.Tab.run_result (Cert.MoeIdeal.Tab.atLaunch m (small m hpre)) m ρ (Cert.MoeIdeal.Tab.atLaunch_eq m (small m hpre)))

/-- The reference's result of the kernel's arguments is the array the kernel leaves. -/
theorem result_eq (m : (ℓ : Loc Cert.MoeIdeal.nD Cert.MoeIdeal.τ Cert.MoeIdeal.sig) → Buf (Elt Ideal) ℓ)
    (hpre : Cert.Pre_MoeIdeal (hPre_experts_in_range := Cert.Pre_experts_in_range.Gen.facts) m) (c : Dev Cert.MoeIdeal.nD) :
    Cert.MoeReferenceIdeal.Dense.result (m (c.tc.loc Cert.MoeIdeal.main_arg0)) (m (c.tc.loc Cert.MoeIdeal.main_arg1))
        (m (c.tc.loc Cert.MoeIdeal.main_arg2)) (m (c.tc.loc Cert.MoeIdeal.main_arg3)) (m (c.tc.loc Cert.MoeIdeal.main_arg4))
        (m (c.tc.loc Cert.MoeIdeal.main_arg5)) (m (c.tc.loc Cert.MoeIdeal.main_arg6))
      = kernelOut m hpre c := by
  obtain rfl : c = 0 := Subsingleton.elim _ _
  refine funext fun (i : Cert.MoeIdeal.S26624x2048.Idx) => ?_
  have key : ∀ (r : Fin 26624) (j : Fin 2048), Cert.MoeReferenceIdeal.Dense.result _ _ _ _ _ _ _ (ix2 r j) = kernelOut m hpre 0 (ix2 r j) := fun r j =>
    (Cert.MoeReferenceIdeal.Dense.result_at (m ((0 : Dev Cert.MoeIdeal.nD).tc.loc Cert.MoeIdeal.main_arg0)) (m ((0 : Dev Cert.MoeIdeal.nD).tc.loc Cert.MoeIdeal.main_arg1))
        (m ((0 : Dev Cert.MoeIdeal.nD).tc.loc Cert.MoeIdeal.main_arg2)) (m ((0 : Dev Cert.MoeIdeal.nD).tc.loc Cert.MoeIdeal.main_arg3)) (m ((0 : Dev Cert.MoeIdeal.nD).tc.loc Cert.MoeIdeal.main_arg4))
        (m ((0 : Dev Cert.MoeIdeal.nD).tc.loc Cert.MoeIdeal.main_arg5)) (m ((0 : Dev Cert.MoeIdeal.nD).tc.loc Cert.MoeIdeal.main_arg6)) (fun t => small m hpre (ix1 t)) r j).trans
      (Cert.MoeIdeal.Tab.result_at (Cert.MoeIdeal.Tab.atLaunch m (small m hpre)) m 0 (fun t => small m hpre (ix1 t)) r j).symm
  have hi : i = ix2 (i 0) (i 1) := eq_ix2 (n0 := 26624) (n1 := 2048) i
  rw [hi]
  exact key _ _

/-- The reference's run: its result as a function of its arguments, which end unchanged. -/
theorem run_reference (m : (ℓ : Loc Cert.MoeReferenceIdeal.nD Cert.MoeReferenceIdeal.τ Cert.MoeReferenceIdeal.sig) → Buf (Elt Ideal) ℓ)
    (ρ : Dev Cert.MoeReferenceIdeal.nD → PrngReg) :
    θ_run (Cert.MoeReferenceIdeal.defs (F := Ideal)) (onTc (τ := Cert.MoeReferenceIdeal.τ) (Cert.MoeReferenceIdeal.main (F := Ideal)))
      ⟨m, fun _ => 0, ρ⟩ (fun r => ∀ c : Dev Cert.MoeReferenceIdeal.nD,
        r.2.mem ((c.tc : Thread Cert.MoeReferenceIdeal.nD Cert.MoeReferenceIdeal.τ).loc Cert.MoeReferenceIdeal.main_v30)
          = Cert.MoeReferenceIdeal.Dense.result (F := Ideal) (m (c.tc.loc Cert.MoeReferenceIdeal.main_arg0)) (m (c.tc.loc Cert.MoeReferenceIdeal.main_arg1)) (m (c.tc.loc Cert.MoeReferenceIdeal.main_arg2)) (m (c.tc.loc Cert.MoeReferenceIdeal.main_arg3)) (m (c.tc.loc Cert.MoeReferenceIdeal.main_arg4)) (m (c.tc.loc Cert.MoeReferenceIdeal.main_arg5)) (m (c.tc.loc Cert.MoeReferenceIdeal.main_arg6))
        ∧ r.2.mem ((c.tc : Thread Cert.MoeReferenceIdeal.nD Cert.MoeReferenceIdeal.τ).loc Cert.MoeReferenceIdeal.main_arg0) = m ((c.tc : Thread Cert.MoeReferenceIdeal.nD Cert.MoeReferenceIdeal.τ).loc Cert.MoeReferenceIdeal.main_arg0)
        ∧ r.2.mem ((c.tc : Thread Cert.MoeReferenceIdeal.nD Cert.MoeReferenceIdeal.τ).loc Cert.MoeReferenceIdeal.main_arg1) = m ((c.tc : Thread Cert.MoeReferenceIdeal.nD Cert.MoeReferenceIdeal.τ).loc Cert.MoeReferenceIdeal.main_arg1)
        ∧ r.2.mem ((c.tc : Thread Cert.MoeReferenceIdeal.nD Cert.MoeReferenceIdeal.τ).loc Cert.MoeReferenceIdeal.main_arg2) = m ((c.tc : Thread Cert.MoeReferenceIdeal.nD Cert.MoeReferenceIdeal.τ).loc Cert.MoeReferenceIdeal.main_arg2)
        ∧ r.2.mem ((c.tc : Thread Cert.MoeReferenceIdeal.nD Cert.MoeReferenceIdeal.τ).loc Cert.MoeReferenceIdeal.main_arg3) = m ((c.tc : Thread Cert.MoeReferenceIdeal.nD Cert.MoeReferenceIdeal.τ).loc Cert.MoeReferenceIdeal.main_arg3)
        ∧ r.2.mem ((c.tc : Thread Cert.MoeReferenceIdeal.nD Cert.MoeReferenceIdeal.τ).loc Cert.MoeReferenceIdeal.main_arg4) = m ((c.tc : Thread Cert.MoeReferenceIdeal.nD Cert.MoeReferenceIdeal.τ).loc Cert.MoeReferenceIdeal.main_arg4)
        ∧ r.2.mem ((c.tc : Thread Cert.MoeReferenceIdeal.nD Cert.MoeReferenceIdeal.τ).loc Cert.MoeReferenceIdeal.main_arg5) = m ((c.tc : Thread Cert.MoeReferenceIdeal.nD Cert.MoeReferenceIdeal.τ).loc Cert.MoeReferenceIdeal.main_arg5)
        ∧ r.2.mem ((c.tc : Thread Cert.MoeReferenceIdeal.nD Cert.MoeReferenceIdeal.τ).loc Cert.MoeReferenceIdeal.main_arg6) = m ((c.tc : Thread Cert.MoeReferenceIdeal.nD Cert.MoeReferenceIdeal.τ).loc Cert.MoeReferenceIdeal.main_arg6)) :=
  Cert.MoeReferenceIdeal.Value.run (F := Ideal) m ρ

attribute [local irreducible] kernelOut Cert.MoeReferenceIdeal.Dense.result

/-- THE CLAIM: the idealized call and the reference leave the same result array. -/
theorem algebraic : Cert.algebraic_MoeIdeal_MoeReferenceIdeal (hMoeIdeal := Cert.MoeIdeal.Gen.facts)
    (hMoeReferenceIdeal := Cert.MoeReferenceIdeal.Gen.facts) (hPre_experts_in_range := Cert.Pre_experts_in_range.Gen.facts) := by
  intro m g m' g' hpre hagree
  refine ⟨kernelOut m hpre, run_ideal m g hpre, ?_⟩
  refine (θ_run Cert.MoeReferenceIdeal.defs _ _).mono (fun r h c => ⟨(h c).1.trans ?_, (h c).2⟩) (run_reference m' g')
  have e := hagree c
  rw [e.1, e.2.1, e.2.2.1, e.2.2.2.1, e.2.2.2.2.1, e.2.2.2.2.2.1, e.2.2.2.2.2.2]
  exact result_eq m hpre c

end Cert.MoeClose
end
-- ==== Proof.RowNorm.lean ====
/-
  A row over its root mean square, times a gain: the layer's norm, over the extended reals.
-/
module

public import proofs.«01_k».proof.Proof.LatentMath
public import Idealize.ShloMosaic.Lib.Pipeline.ValueKit

@[expose] public section

noncomputable section

open Idealize.ShloMosaic

namespace Cert.RowNorm

/-- Entry `d` of a row over its root mean square, times the gain. -/
def normed (x g : Fin 2048 → EReal) (d : Fin 2048) : EReal :=
  x d * Ideal.rsqrt (Ideal.div (∑ k, x k * x k) (Ideal.ofBits FTy.f32 0x45000000#32) + Ideal.ofBits FTy.f32 0x358637BD#32) * g d

/-- The row's length, as the programs write it. -/
theorem length_word : ∃ r : ℝ, 0 < r ∧ Ideal.ofBits FTy.f32 0x45000000#32 = (r : EReal) := by
  simp only [Ideal.ofBits, Ideal.ieee]
  exact ⟨_, by rw [if_neg (by decide)]; positivity, if_neg (by decide) |>.trans (if_neg (by decide))⟩

/-- The number added under the root. -/
theorem guard_word : ∃ r : ℝ, 0 < r ∧ Ideal.ofBits FTy.f32 0x358637BD#32 = (r : EReal) := by
  simp only [Ideal.ofBits, Ideal.ieee]
  exact ⟨_, by rw [if_neg (by decide)]; positivity, if_neg (by decide) |>.trans (if_neg (by decide))⟩

/-- Real numbers have a real sum. -/
theorem sum_real {ι : Type} [Fintype ι] (f : ι → EReal) (h : ∀ i, ∃ r : ℝ, f i = r) : ∃ r : ℝ, (∑ i, f i) = (r : EReal) := by
  choose g hg using h
  refine ⟨∑ i, g i, ?_⟩
  rw [← Cert.OnlineSoftmax.coe_sum]
  exact Finset.sum_congr rfl fun i _ => hg i

/-- A row of real numbers with real gains has a real norm. -/
theorem normed_real_of_real (x g : Fin 2048 → EReal) (hx : ∀ d, ∃ r : ℝ, x d = r) (hg : ∀ d, ∃ r : ℝ, g d = r) (d : Fin 2048) :
    ∃ r : ℝ, normed x g d = (r : EReal) := by
  choose a ha using hx
  obtain ⟨b, hb⟩ := hg d
  obtain ⟨n, n0, hn⟩ := length_word
  obtain ⟨e, e0, he⟩ := guard_word
  have hs : (∑ k, x k * x k) = ((∑ k, a k * a k : ℝ) : EReal) := by
    rw [← Cert.OnlineSoftmax.coe_sum]
    exact Finset.sum_congr rfl fun k _ => by rw [ha k, EReal.coe_mul]
  have s0 : (0 : ℝ) ≤ ∑ k, a k * a k := Finset.sum_nonneg fun k _ => mul_self_nonneg (a k)
  have q0 : 0 < (∑ k, a k * a k) * n⁻¹ + e := by positivity
  have hd : Ideal.div (∑ k, x k * x k) (Ideal.ofBits FTy.f32 0x45000000#32) = (((∑ k, a k * a k) * n⁻¹ : ℝ) : EReal) := by
    rw [hs, hn, Ideal.div, if_neg (by exact_mod_cast n0.ne'), ← EReal.coe_inv, ← EReal.coe_mul]
  have hr : Ideal.rsqrt (Ideal.div (∑ k, x k * x k) (Ideal.ofBits FTy.f32 0x45000000#32) + Ideal.ofBits FTy.f32 0x358637BD#32)
      = (((Real.sqrt ((∑ k, a k * a k) * n⁻¹ + e))⁻¹ : ℝ) : EReal) := by
    rw [hd, he, ← EReal.coe_add, Ideal.rsqrt_coe, if_neg (not_lt.2 q0.le), if_neg q0.ne']
  refine ⟨a d * (Real.sqrt ((∑ k, a k * a k) * n⁻¹ + e))⁻¹ * b, ?_⟩
  unfold normed
  rw [hr, ha d, hb, EReal.coe_mul, EReal.coe_mul]

/-- A square is not negative. -/
theorem square_nonneg (x : EReal) : 0 ≤ x * x := by
  induction x with
  | bot => rw [EReal.bot_mul_bot]; exact le_top
  | top => rw [EReal.top_mul_top]; exact le_top
  | coe r => rw [← EReal.coe_mul]; exact_mod_cast mul_self_nonneg r

/-- A row with an infinite entry has the norm zero: its root mean square is infinite, and over it every entry is zero. -/
theorem normed_zero (x g : Fin 2048 → EReal) (k : Fin 2048) (hk : x k = ⊤ ∨ x k = ⊥) (d : Fin 2048) : normed x g d = 0 := by
  obtain ⟨n, n0, hn⟩ := length_word
  obtain ⟨e, e0, he⟩ := guard_word
  have h1 : x k * x k = ⊤ := by
    rcases hk with h | h <;> rw [h]
    · exact EReal.top_mul_top
    · exact EReal.bot_mul_bot
  have hs : (∑ k, x k * x k) = ⊤ :=
    top_le_iff.1 (h1 ▸ Finset.single_le_sum (f := fun k => x k * x k) (fun i _ => square_nonneg (x i)) (Finset.mem_univ k))
  have hr : Ideal.rsqrt (Ideal.div (∑ k, x k * x k) (Ideal.ofBits FTy.f32 0x45000000#32) + Ideal.ofBits FTy.f32 0x358637BD#32) = 0 := by
    rw [hs, hn, he, Ideal.div, if_neg (by exact_mod_cast n0.ne'), ← EReal.coe_inv, EReal.top_mul_coe_of_pos (inv_pos.2 n0), EReal.top_add_coe]
    rfl
  unfold normed
  rw [hr, mul_zero, zero_mul]

/-- With real gains the norm of any row is real. -/
theorem normed_real (x g : Fin 2048 → EReal) (hg : ∀ d, ∃ r : ℝ, g d = r) (d : Fin 2048) : ∃ r : ℝ, normed x g d = (r : EReal) := by
  by_cases h : ∃ k, x k = ⊤ ∨ x k = ⊥
  · obtain ⟨k, hk⟩ := h
    exact ⟨0, by rw [normed_zero x g k hk d, EReal.coe_zero]⟩
  · refine normed_real_of_real x g (fun k => ?_) hg d
    have hk := not_or.1 (fun q => h ⟨k, q⟩)
    exact ⟨(x k).toReal, (EReal.coe_toReal hk.1 hk.2).symm⟩

end Cert.RowNorm
end
-- ==== Proof.InprojClose.lean ====
/-
  The input projection: rows normalised by their root mean square, through the combined matrix. The kernel normalises a row
  block once, at the first of its seven column blocks, and keeps it for the others.
-/
module

public import proofs.«01_k».proof.Defs
public import proofs.«01_k».proof.Proof.RowNorm
public import proofs.«01_k».proof.Proof.Gen.InprojIdeal.Value
public import proofs.«01_k».proof.Proof.Gen.InprojReferenceIdeal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem

open Cert.RowNorm

namespace Cert.InprojMath

/-- One entry of the projection. -/
def projected (x g w : Fin 2048 → EReal) : EReal := ∑ d, normed x g d * w d

end Cert.InprojMath

open Cert.InprojMath

namespace Cert.InprojIdeal.Value

open Cert.InprojIdeal Cert.InprojIdeal.Gen

variable (m : (ℓ : Loc nD τ sig) → Buf (Elt Ideal) ℓ) (c : Dev nD)

/-- The blocks each point reads and writes: row block `t / 7`, column block `t % 7`. -/
theorem idx : ∀ t : Fin cfg0.N, win0_0.index t = ![t.val / 7, 0] ∧ win0_1.index t = ![0, 0]
    ∧ win0_2.index t = ![0, t.val % 7] ∧ win0_3.index t = ![t.val / 7, t.val % 7] :=
  (by decide +kernel : ∀ t : Fin grid0.N, _)

/-- Row `p` of row block `b`, and column `q` of column block `b`. -/
def rowAt (b : ℕ) (p : Fin 512) : Fin 9216 := ⟨b % 18 * 512 + p.val, by have := p.isLt; omega⟩
def colAt (b : ℕ) (q : Fin 1024) : Fin 7168 := ⟨b % 7 * 1024 + q.val, by have := q.isLt; omega⟩

theorem blk0 (t : Fin cfg0.N) (p : Fin 512) (d : Fin 2048) :
    iblk m c 0 t (ix2 p d) = m (c.tc.loc main_arg0) (ix2 (rowAt (t.val / 7) p) d) := by
  have ht : t.val < 126 := t.isLt
  unfold rowAt
  blk_ext [iblk, V, idx t]

theorem blk1 (t : Fin cfg0.N) (d : Fin 2048) : iblk m c 1 t (ix2 0 d) = m (c.tc.loc main_arg1) (ix1 d) := by
  blk_simp [iblk, idx t]
  entry_read
  pointwise
  blk_ext [idx t]

theorem blk2 (t : Fin cfg0.N) (d : Fin 2048) (q : Fin 1024) :
    iblk m c 2 t (ix2 d q) = m (c.tc.loc main_arg2) (ix2 d (colAt t.val q)) := by
  unfold colAt
  blk_ext [iblk, V, idx t]

/-- The normalised row block, entry by entry. -/
theorem pay1_at (x : Vec Ideal S512x2048 .f32) (g : Vec Ideal S1x2048 .f32) (p : Fin 512) (d : Fin 2048) :
    k0_pay1 x g (ix2 p d) = normed (fun d => x (ix2 p d)) (fun d => g (ix2 0 d)) d := by
  pointwise [k0_pay1]
  rfl

/-- A block of the product, entry by entry. -/
theorem pay2_at (h : Vec Ideal S512x2048 .bf16) (w : Vec Ideal S2048x1024 .bf16) (p : Fin 512) (q : Fin 1024) :
    k0_pay2 h w (ix2 p q) = ∑ d : Fin 2048, h (ix2 p d) * w (ix2 d q) := by
  pointwise [k0_pay2]

theorem prev_lt (t : Fin cfg0.N) : t.val - 1 < cfg0.N := Nat.lt_of_le_of_lt (Nat.sub_le _ _) t.isLt

/-- At a row block's first point the kept rows are the normalised ones. -/
theorem kept_first (t : Fin cfg0.N) (h0 : t.val % 7 = 0) :
    (outsAt0 m c t.val t.isLt).2 = k0_pay1 (iblk m c 0 t) (iblk m c 1 t) := by
  rw [outsAt0_A m c t h0]
  dsimp only
  frame_out

/-- At the others they stay. -/
theorem kept_next (t : Fin cfg0.N) (h0 : ¬t.val % 7 = 0) :
    (outsAt0 m c t.val t.isLt).2 = (outsAt0 m c (t.val - 1) (prev_lt t)).2 := by
  rw [outsAt0_B m c t h0]
  rfl

/-- Every point writes the product of the kept rows and its columns. -/
theorem written (t : Fin cfg0.N) : (outsAt0 m c t.val t.isLt).1 = k0_pay2 (outsAt0 m c t.val t.isLt).2 (iblk m c 2 t) := by
  by_cases h0 : t.val % 7 = 0
  · rw [kept_first m c t h0, outsAt0_A m c t h0]
    dsimp only
    frame_out
  · rw [kept_next m c t h0, outsAt0_B m c t h0]
    dsimp only
    frame_out
    simp only [read_unread_whole]

/-- The kept rows after every point are the normalised rows of its row block. -/
theorem kept_all : ∀ (n : ℕ) (hn : n < cfg0.N) (p : Fin 512) (d : Fin 2048),
    (outsAt0 m c n hn).2 (ix2 p d)
      = normed (fun d => m (c.tc.loc main_arg0) (ix2 (rowAt (n / 7) p) d)) (fun d => m (c.tc.loc main_arg1) (ix1 d)) d := by
  intro n
  induction n with
  | zero =>
    intro hn p d
    rw [kept_first m c ⟨0, hn⟩ rfl, pay1_at]
    simp only [blk0, blk1]
  | succ n ih =>
    intro hn p d
    by_cases h0 : (n + 1) % 7 = 0
    · rw [kept_first m c ⟨n + 1, hn⟩ h0, pay1_at]
      simp only [blk0, blk1]
    · rw [kept_next m c ⟨n + 1, hn⟩ h0]
      rw [show (n + 1) / 7 = n / 7 by omega]
      exact ih _ p d

/-- The result, entry by entry. -/
abbrev goal (r : Fin 9216) (j : Fin 7168) : EReal :=
  projected (fun d => m (c.tc.loc main_arg0) (ix2 r d)) (fun d => m (c.tc.loc main_arg1) (ix1 d)) (fun d => m (c.tc.loc main_arg2) (ix2 d j))

/-- What point `t` writes. -/
theorem out_at (t : Fin cfg0.N) (p : Fin 512) (q : Fin 1024) :
    (outsAt0 m c t.val t.isLt).1 (ix2 p q) = goal m c (rowAt (t.val / 7) p) (colAt t.val q) := by
  rw [written, pay2_at]
  unfold goal projected
  simp only [kept_all, blk2]

/-- THE ARRAY the call leaves. -/
theorem arr_eq : (dats m 0 c).arrAt 3 cfg0.N = fun i : S9216x7168.Idx => goal m c (i 0) (i 1) := by
  refine (dats m 0 c).arrAt_eq_of_covers 3 _ (by decide +kernel) fun t hf y => ?_
  have ht : t.val < 126 := t.isLt
  blk_simp
  rw [after0_3]
  have key : ∀ (p : Fin 512) (q : Fin 1024), (outsAt0 m c t.val t.isLt).1 (ix2 p q)
        = goal m c ((win0_3.blk t).view.emb (ix2 p q) 0) ((win0_3.blk t).view.emb (ix2 p q) 1) := by
    intro p q
    rw [out_at]
    have e0 : (win0_3.blk t).view.emb (ix2 p q) 0 = rowAt (t.val / 7) p := by
      apply Fin.ext
      blk_simp [idx t]
      show t.val / 7 * 512 + p.val = t.val / 7 % 18 * 512 + p.val
      omega
    have e1 : (win0_3.blk t).view.emb (ix2 p q) 1 = colAt t.val q := by
      apply Fin.ext
      blk_simp [idx t]
      rfl
    rw [e0, e1]
  have hy : y = ix2 (y 0) (y 1) := eq_ix2 (n0 := 512) (n1 := 1024) y
  rw [hy]
  exact key _ _

end Cert.InprojIdeal.Value

namespace Cert.InprojReferenceIdeal.Whole

open Cert.InprojReferenceIdeal Cert.InprojReferenceIdeal.Gen Idealize.ShloMosaic.StableHlo

section
variable {F : FTy → Type} [FloatOps F]

/-- One over the root mean square of every row. -/
def scale (x : FVec F S9216x2048 .f32) : FVec F S9216x1 .f32 :=
  Host.rsqrt (addf (Host.divf (broadcastInDim S9216x1 ![0] bcast_S9216_S9216x1_0 (Host.reduceAdd (mulf x x) (constant S_ .f32 0x00000000#32) reducesTo_S9216x2048_S9216_d1 h_S_)) (broadcastInDim S9216x1 ![] bcast_S_S9216x1 (constant S_ .f32 0x45000000#32))) (broadcastInDim S9216x1 ![] bcast_S_S9216x1 (constant S_ .f32 0x358637BD#32)))

/-- The normalised rows. -/
def rows (x : FVec F S9216x2048 .f32) (g : FVec F S2048 .f32) : FVec F S9216x2048 .f32 :=
  mulf (mulf x (broadcastInDim S9216x2048 ![0, 1] bcast_S9216x1_S9216x2048_0_1 (scale x))) (broadcastInDim S9216x2048 ![0, 1] bcast_S1x2048_S9216x2048_0_1 (broadcastInDim S1x2048 ![1] bcast_S2048_S1x2048_1 g))

/-- The reference's result as a function of its arguments. -/
def result (x : FVec F S9216x2048 .f32) (g : FVec F S2048 .f32) (w : FVec F S2048x7168 .bf16) : FVec F S9216x7168 .f32 :=
  Host.dotGeneral dot_S9216x2048_S2048x7168_S9216x7168_1_0_0_1_n_n none (rows x g) (extf .f32 w bitsLt_bf16_f32)

end

theorem scale_at (x : FVec Ideal S9216x2048 .f32) (r : Fin 9216) : scale x (ix2 r 0)
    = Ideal.rsqrt (Ideal.div (∑ k : Fin 2048, x (ix2 r k) * x (ix2 r k)) (Ideal.ofBits FTy.f32 0x45000000#32) + Ideal.ofBits FTy.f32 0x358637BD#32) := by
  pointwise [scale]

theorem rows_at (x : FVec Ideal S9216x2048 .f32) (g : FVec Ideal S2048 .f32) (r : Fin 9216) (d : Fin 2048) :
    rows x g (ix2 r d) = normed (fun d => x (ix2 r d)) (fun d => g (ix1 d)) d := by
  unfold normed
  rw [← scale_at]
  pointwise [rows]

/-- THE REFERENCE'S RESULT, entry by entry. -/
theorem result_at (x : FVec Ideal S9216x2048 .f32) (g : FVec Ideal S2048 .f32) (w : FVec Ideal S2048x7168 .bf16) (r : Fin 9216) (j : Fin 7168) :
    result x g w (ix2 r j) = projected (fun d => x (ix2 r d)) (fun d => g (ix1 d)) (fun d => w (ix2 d j)) := by
  unfold projected
  simp only [← rows_at]
  pointwise [result]

/-- The reference's run: its result as a function of its arguments, which end unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v14)
        = result (F := Ideal) (m (c.tc.loc main_arg0)) (m (c.tc.loc main_arg1)) (m (c.tc.loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Cert.InprojReferenceIdeal.Value.run (F := Ideal) m ρ

end Cert.InprojReferenceIdeal.Whole

namespace Cert.InprojClose

/-- The reference's result of the kernel's arguments is the array the kernel leaves. -/
theorem result_eq (m : (ℓ : Loc Cert.InprojIdeal.nD Cert.InprojIdeal.τ Cert.InprojIdeal.sig) → Buf (Elt Ideal) ℓ) (c : Dev Cert.InprojIdeal.nD) :
    Cert.InprojReferenceIdeal.Whole.result (F := Ideal) (m (c.tc.loc Cert.InprojIdeal.main_arg0)) (m (c.tc.loc Cert.InprojIdeal.main_arg1))
        (m (c.tc.loc Cert.InprojIdeal.main_arg2))
      = fun i : Cert.InprojIdeal.S9216x7168.Idx => Cert.InprojIdeal.Value.goal m c (i 0) (i 1) := by
  refine funext fun (i : Cert.InprojIdeal.S9216x7168.Idx) => ?_
  have hi : i = ix2 (i 0) (i 1) := eq_ix2 (n0 := 9216) (n1 := 7168) i
  rw [hi]
  exact Cert.InprojReferenceIdeal.Whole.result_at _ _ _ _ _

attribute [local irreducible] Cert.InprojReferenceIdeal.Whole.result

/-- THE CLAIM: the idealized call and the reference leave the same result array. -/
theorem algebraic : Cert.algebraic_InprojIdeal_InprojReferenceIdeal (hInprojIdeal := Cert.InprojIdeal.Gen.facts)
    (hInprojReferenceIdeal := Cert.InprojReferenceIdeal.Gen.facts) := by
  intro m g m' g' _ hagree
  refine ⟨fun c => fun i : Cert.InprojIdeal.S9216x7168.Idx => Cert.InprojIdeal.Value.goal m c (i 0) (i 1), ?_, ?_⟩
  · exact (θ_run Cert.InprojIdeal.defs _ _).mono (fun r h c => ⟨(h c).1.trans (Cert.InprojIdeal.Value.arr_eq m c), (h c).2⟩)
      (Cert.InprojIdeal.Value.run_blocks (F := Ideal) m g)
  · refine (θ_run Cert.InprojReferenceIdeal.defs _ _).mono (fun r h c => ⟨(h c).1.trans ?_, (h c).2⟩) (Cert.InprojReferenceIdeal.Whole.run m' g')
    have e := hagree c
    rw [e.1, e.2.1, e.2.2]
    exact result_eq m c

end Cert.InprojClose
end
-- ==== Proof.MergeClose.lean ====
/-
  The gated merge: the two branches, each through its projection, each times the logistic of its gate, added. The kernel's
  array, the reference's, and the claim that they are one.
-/
module

public import proofs.«01_k».proof.Defs
public import proofs.«01_k».proof.Proof.Gen.MergeIdeal.Value
public import proofs.«01_k».proof.Proof.Gen.MergeReferenceIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.MergeMath

/-- The logistic function. -/
def logistic (x : EReal) : EReal := Ideal.div 1 (1 + Ideal.exp (-x))

/-- One entry of the merge: row `r` of the branches `oa` and `ob`, column `j` of the matrices, the gates `ga` and `gb`. -/
def merged (oa ob : Fin 1024 → EReal) (ga gb : EReal) (wa wb : Fin 1024 → EReal) : EReal :=
  logistic ga * (∑ d, oa d * wa d) + logistic gb * (∑ d, ob d * wb d)

end Cert.MergeMath

open Cert.MergeMath

namespace Cert.MergeIdeal.Value

open Cert.MergeIdeal Cert.MergeIdeal.Gen

variable (m : (ℓ : Loc nD τ sig) → Buf (Elt Ideal) ℓ) (c : Dev nD)

/-- The blocks each point reads and writes: row block `t / 2`, column block `t % 2`. -/
theorem idx : ∀ t : Fin cfg0.N, win0_0.index t = ![t.val / 2, 0] ∧ win0_1.index t = ![t.val / 2, 0]
    ∧ win0_2.index t = ![t.val / 2, t.val % 2] ∧ win0_3.index t = ![t.val / 2, 2 + t.val % 2]
    ∧ win0_4.index t = ![0, t.val % 2] ∧ win0_5.index t = ![0, t.val % 2] ∧ win0_6.index t = ![t.val / 2, t.val % 2] :=
  (by decide +kernel : ∀ t : Fin grid0.N, _)

/-- Row `p` of point `t`'s blocks, and column `q`. -/
def rowAt (t : Fin cfg0.N) (p : Fin 512) : Fin 9216 :=
  ⟨t.val / 2 * 512 + p.val, by have ht : t.val < 36 := t.isLt; have := p.isLt; omega⟩
def colAt (t : Fin cfg0.N) (q : Fin 1024) : Fin 2048 := ⟨t.val % 2 * 1024 + q.val, by have := q.isLt; omega⟩

/-- Where the second gate's column `j` lies among the projection's columns, and the first's. -/
def gateB (j : Fin 2048) : Fin 7168 := ⟨2048 + j.val, by have := j.isLt; omega⟩
def gateA (j : Fin 2048) : Fin 7168 := ⟨j.val, by have := j.isLt; omega⟩

theorem blk0 (t : Fin cfg0.N) (p : Fin 512) (d : Fin 1024) :
    iblk m c 0 t (ix2 p d) = m (c.tc.loc main_arg0) (ix2 (rowAt t p) d) := by
  unfold rowAt
  blk_ext [iblk, V, idx t]

theorem blk1 (t : Fin cfg0.N) (p : Fin 512) (d : Fin 1024) :
    iblk m c 1 t (ix2 p d) = m (c.tc.loc main_arg1) (ix2 (rowAt t p) d) := by
  unfold rowAt
  blk_ext [iblk, V, idx t]

theorem blk2 (t : Fin cfg0.N) (p : Fin 512) (q : Fin 1024) :
    iblk m c 2 t (ix2 p q) = m (c.tc.loc main_arg2) (ix2 (rowAt t p) (gateA (colAt t q))) := by
  unfold rowAt gateA colAt
  blk_ext [iblk, V, idx t]

theorem blk3 (t : Fin cfg0.N) (p : Fin 512) (q : Fin 1024) :
    iblk m c 3 t (ix2 p q) = m (c.tc.loc main_arg2) (ix2 (rowAt t p) (gateB (colAt t q))) := by
  unfold rowAt gateB colAt
  blk_ext [iblk, V, idx t]

theorem blk4 (t : Fin cfg0.N) (d : Fin 1024) (q : Fin 1024) :
    iblk m c 4 t (ix2 d q) = m (c.tc.loc main_arg3) (ix2 d (colAt t q)) := by
  unfold colAt
  blk_simp [iblk, idx t]
  entry_read
  pointwise
  blk_ext [idx t]

theorem blk5 (t : Fin cfg0.N) (d : Fin 1024) (q : Fin 1024) :
    iblk m c 5 t (ix2 d q) = m (c.tc.loc main_arg4) (ix2 d (colAt t q)) := by
  unfold colAt
  blk_simp [iblk, idx t]
  entry_read
  pointwise
  blk_ext [idx t]

/-- What the body computes of its blocks, entry by entry. -/
theorem pay_at (oa : Vec Ideal S512x1024 .bf16) (wa : Vec Ideal S1024x1024 .bf16) (ob : Vec Ideal S512x1024 .bf16)
    (wb : Vec Ideal S1024x1024 .bf16) (ga gb : Vec Ideal S512x1024 .f32) (p : Fin 512) (q : Fin 1024) :
    k0_pay1 oa wa ob wb ga gb (ix2 p q)
      = merged (fun d => oa (ix2 p d)) (fun d => ob (ix2 p d)) (ga (ix2 p q)) (gb (ix2 p q)) (fun d => wa (ix2 d q)) (fun d => wb (ix2 d q)) := by
  pointwise [k0_pay1]
  simp only [zero_sub]
  rfl

/-- The result, entry by entry. -/
abbrev goal (r : Fin 9216) (j : Fin 2048) : EReal :=
  merged (fun d => m (c.tc.loc main_arg0) (ix2 r d)) (fun d => m (c.tc.loc main_arg1) (ix2 r d))
    (m (c.tc.loc main_arg2) (ix2 r (gateA j))) (m (c.tc.loc main_arg2) (ix2 r (gateB j)))
    (fun d => m (c.tc.loc main_arg3) (ix2 d j)) (fun d => m (c.tc.loc main_arg4) (ix2 d j))

/-- What the body leaves at point `t`. -/
theorem out_at (t : Fin cfg0.N) (p : Fin 512) (q : Fin 1024) :
    out0_6 (iblk m c 0 t) (iblk m c 1 t) (iblk m c 2 t) (iblk m c 3 t) (iblk m c 4 t) (iblk m c 5 t) (ix2 p q)
      = goal m c (rowAt t p) (colAt t q) := by
  have e : out0_6 (iblk m c 0 t) (iblk m c 1 t) (iblk m c 2 t) (iblk m c 3 t) (iblk m c 4 t) (iblk m c 5 t)
      = k0_pay1 (iblk m c 0 t) (iblk m c 4 t) (iblk m c 1 t) (iblk m c 5 t) (iblk m c 2 t) (iblk m c 3 t) := by
    unfold out0_6
    frame_out
  rw [e, pay_at]
  unfold goal
  simp only [blk0, blk1, blk2, blk3, blk4, blk5]

/-- THE ARRAY the call leaves. -/
theorem arr_eq : (dats m 0 c).arrAt 6 cfg0.N = fun i : S9216x2048.Idx => goal m c (i 0) (i 1) := by
  refine (dats m 0 c).arrAt_eq_of_covers 6 _ (by decide +kernel) fun t hf y => ?_
  have ht : t.val < 36 := t.isLt
  blk_simp
  rw [after0_6]
  have key : ∀ (p : Fin 512) (q : Fin 1024),
      out0_6 (iblk m c 0 t) (iblk m c 1 t) (iblk m c 2 t) (iblk m c 3 t) (iblk m c 4 t) (iblk m c 5 t) (ix2 p q)
        = goal m c ((win0_6.blk t).view.emb (ix2 p q) 0) ((win0_6.blk t).view.emb (ix2 p q) 1) := by
    intro p q
    rw [out_at]
    have e0 : (win0_6.blk t).view.emb (ix2 p q) 0 = rowAt t p := by
      apply Fin.ext
      blk_simp [idx t]
      rfl
    have e1 : (win0_6.blk t).view.emb (ix2 p q) 1 = colAt t q := by
      apply Fin.ext
      blk_simp [idx t]
      rfl
    rw [e0, e1]
  have hy : y = ix2 (y 0) (y 1) := eq_ix2 (n0 := 512) (n1 := 1024) y
  rw [hy]
  exact key _ _

end Cert.MergeIdeal.Value

namespace Cert.MergeReferenceIdeal.Whole

open Cert.MergeReferenceIdeal Cert.MergeReferenceIdeal.Gen Idealize.ShloMosaic.StableHlo

section
variable {F : FTy → Type} [FloatOps F]

/-- A branch through its projection. -/
def through (x : FVec F S9216x1024 .bf16) (w : FVec F S1024x2048 .f32) : FVec F S9216x2048 .f32 :=
  Host.dotGeneral dot_S9216x1024_S1024x2048_S9216x2048_1_0_0_1_n_n none (extf .f32 x bitsLt_bf16_f32) w

/-- The logistic of every entry. -/
def opened (g : FVec F S9216x2048 .f32) : FVec F S9216x2048 .f32 :=
  Host.divf (broadcastInDim S9216x2048 ![] bcast_S_S9216x2048 (constant S_ .f32 0x3F800000#32)) (addf (broadcastInDim S9216x2048 ![] bcast_S_S9216x2048 (constant S_ .f32 0x3F800000#32)) (Host.exp (Host.negf g)))

/-- The reference's result as a function of its arguments. -/
def result (oa ob : FVec F S9216x1024 .bf16) (p : FVec F S9216x7168 .f32) (wa wb : FVec F S1024x2048 .f32) : FVec F S9216x2048 .bf16 :=
  truncf .bf16 (addf (mulf (opened (extractStridedSlice S9216x2048 ![0, 0] p slices_S9216x7168_S9216x2048_0_0)) (through oa wa))
    (mulf (opened (extractStridedSlice S9216x2048 ![0, 2048] p slices_S9216x7168_S9216x2048_0_2048)) (through ob wb))) bitsLt_bf16_f32

end

theorem through_at (x : FVec Ideal S9216x1024 .bf16) (w : FVec Ideal S1024x2048 .f32) (r : Fin 9216) (j : Fin 2048) :
    through x w (ix2 r j) = ∑ d : Fin 1024, x (ix2 r d) * w (ix2 d j) := by
  pointwise [through]

theorem opened_at (g : FVec Ideal S9216x2048 .f32) (r : Fin 9216) (j : Fin 2048) : opened g (ix2 r j) = logistic (g (ix2 r j)) := by
  pointwise [opened]
  rfl

/-- THE REFERENCE'S RESULT, entry by entry. -/
theorem result_at (oa ob : FVec Ideal S9216x1024 .bf16) (p : FVec Ideal S9216x7168 .f32) (wa wb : FVec Ideal S1024x2048 .f32)
    (r : Fin 9216) (j : Fin 2048) : result oa ob p wa wb (ix2 r j)
      = merged (fun d => oa (ix2 r d)) (fun d => ob (ix2 r d)) (p (ix2 r (Cert.MergeIdeal.Value.gateA j))) (p (ix2 r (Cert.MergeIdeal.Value.gateB j)))
          (fun d => wa (ix2 d j)) (fun d => wb (ix2 d j)) := by
  unfold merged
  rw [← through_at oa wa, ← through_at ob wb]
  have eA : logistic (p (ix2 r (Cert.MergeIdeal.Value.gateA j)))
      = opened (extractStridedSlice S9216x2048 ![0, 0] p slices_S9216x7168_S9216x2048_0_0) (ix2 r j) := by
    rw [opened_at]
    refine congrArg logistic ?_
    pointwise
    rfl
  have eB : logistic (p (ix2 r (Cert.MergeIdeal.Value.gateB j)))
      = opened (extractStridedSlice S9216x2048 ![0, 2048] p slices_S9216x7168_S9216x2048_0_2048) (ix2 r j) := by
    rw [opened_at]
    refine congrArg logistic ?_
    pointwise
    rfl
  rw [eA, eB]
  rfl

/-- The reference's run: its result as a function of its arguments, which end unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v21)
        = result (F := Ideal) (m (c.tc.loc main_arg0)) (m (c.tc.loc main_arg1)) (m (c.tc.loc main_arg2)) (m (c.tc.loc main_arg3)) (m (c.tc.loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Cert.MergeReferenceIdeal.Value.run (F := Ideal) m ρ

end Cert.MergeReferenceIdeal.Whole

namespace Cert.MergeClose

/-- The reference's result of the kernel's arguments is the array the kernel leaves. -/
theorem result_eq (m : (ℓ : Loc Cert.MergeIdeal.nD Cert.MergeIdeal.τ Cert.MergeIdeal.sig) → Buf (Elt Ideal) ℓ) (c : Dev Cert.MergeIdeal.nD) :
    Cert.MergeReferenceIdeal.Whole.result (F := Ideal) (m (c.tc.loc Cert.MergeIdeal.main_arg0)) (m (c.tc.loc Cert.MergeIdeal.main_arg1))
        (m (c.tc.loc Cert.MergeIdeal.main_arg2)) (m (c.tc.loc Cert.MergeIdeal.main_arg3)) (m (c.tc.loc Cert.MergeIdeal.main_arg4))
      = fun i : Cert.MergeIdeal.S9216x2048.Idx => Cert.MergeIdeal.Value.goal m c (i 0) (i 1) := by
  refine funext fun (i : Cert.MergeIdeal.S9216x2048.Idx) => ?_
  have hi : i = ix2 (i 0) (i 1) := eq_ix2 (n0 := 9216) (n1 := 2048) i
  rw [hi]
  exact Cert.MergeReferenceIdeal.Whole.result_at _ _ _ _ _ _ _

attribute [local irreducible] Cert.MergeReferenceIdeal.Whole.result

/-- THE CLAIM: the idealized call and the reference leave the same result array. -/
theorem algebraic : Cert.algebraic_MergeIdeal_MergeReferenceIdeal (hMergeIdeal := Cert.MergeIdeal.Gen.facts)
    (hMergeReferenceIdeal := Cert.MergeReferenceIdeal.Gen.facts) := by
  intro m g m' g' _ hagree
  refine ⟨fun c => fun i : Cert.MergeIdeal.S9216x2048.Idx => Cert.MergeIdeal.Value.goal m c (i 0) (i 1), ?_, ?_⟩
  · exact (θ_run Cert.MergeIdeal.defs _ _).mono (fun r h c => ⟨(h c).1.trans (Cert.MergeIdeal.Value.arr_eq m c), (h c).2⟩)
      (Cert.MergeIdeal.Value.run_blocks (F := Ideal) m g)
  · refine (θ_run Cert.MergeReferenceIdeal.defs _ _).mono (fun r h c => ⟨(h c).1.trans ?_, (h c).2⟩) (Cert.MergeReferenceIdeal.Whole.run m' g')
    have e := hagree c
    rw [e.1, e.2.1, e.2.2.1, e.2.2.2.1, e.2.2.2.2]
    exact result_eq m c

end Cert.MergeClose
end
-- ==== Proof.OutprojClose.lean ====
/-
  The output projection: the residual sum, its norm, and the logits of the routing. The kernel splits the normalised row and
  the router's matrix into a rounded part and a remainder; over real numbers the remainders are zero. The kernel's arrays, the
  reference's, and the claim that they are the same.
-/
module

public import proofs.«01_k».proof.Defs
public import proofs.«01_k».proof.Proof.RowNorm
public import proofs.«01_k».proof.Proof.Finite
public import proofs.«01_k».proof.Proof.Gen.Pre_finite_out
public import proofs.«01_k».proof.Proof.Gen.OutprojIdeal.Value
public import proofs.«01_k».proof.Proof.Gen.OutprojReferenceIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem Cert.RowNorm

namespace Cert.OutprojMath

/-- One entry of the residual sum. -/
def residual (x : EReal) (mg w : Fin 2048 → EReal) : EReal := x + ∑ k, mg k * w k

/-- One logit. -/
def logit (h w : Fin 2048 → EReal) (b : EReal) : EReal := (∑ d, h d * w d) + b

/-- One logit as the kernel takes it: with the remainders of the row and of the matrix. -/
def splitLogit (h w : Fin 2048 → EReal) (b : EReal) : EReal :=
  (∑ d, h d * w d) + (∑ d, (h d - h d) * w d) + (∑ d, h d * (w d - w d)) + b

/-- A real number less itself is zero. -/
theorem sub_self_real {x : EReal} (h : ∃ r : ℝ, x = r) : x - x = 0 := by
  obtain ⟨r, rfl⟩ := h
  rw [← EReal.coe_sub, sub_self, EReal.coe_zero]

/-- Over real numbers the remainders add nothing. -/
theorem splitLogit_eq (h w : Fin 2048 → EReal) (b : EReal) (hh : ∀ d, ∃ r : ℝ, h d = r) (hw : ∀ d, ∃ r : ℝ, w d = r) :
    splitLogit h w b = logit h w b := by
  have e1 : (∑ d, (h d - h d) * w d) = 0 := Finset.sum_eq_zero (M := EReal) fun d _ => by rw [sub_self_real (hh d), zero_mul]
  have e2 : (∑ d, h d * (w d - w d)) = 0 := Finset.sum_eq_zero (M := EReal) fun d _ => by rw [sub_self_real (hw d), mul_zero]
  unfold splitLogit logit
  rw [e1, e2, add_zero, add_zero]

end Cert.OutprojMath

open Cert.OutprojMath

namespace Cert.OutprojIdeal.Value

open Cert.OutprojIdeal Cert.OutprojIdeal.Gen

variable (m : (ℓ : Loc nD τ sig) → Buf (Elt Ideal) ℓ) (c : Dev nD)

/-- The blocks each point reads and writes: row block `t`, and the matrices whole. -/
theorem idx : ∀ t : Fin cfg0.N, win0_0.index t = ![t.val, 0] ∧ win0_1.index t = ![t.val, 0]
    ∧ win0_2.index t = ![0, 0] ∧ win0_3.index t = ![0, 0] ∧ win0_4.index t = ![0, 0] ∧ win0_5.index t = ![0, 0]
    ∧ win0_6.index t = ![t.val, 0] ∧ win0_7.index t = ![t.val, 0] ∧ win0_8.index t = ![t.val, 0] :=
  (by decide +kernel : ∀ t : Fin grid0.N, _)

/-- Row `p` of point `t`'s blocks. -/
def rowAt (t : Fin cfg0.N) (p : Fin 256) : Fin 9216 :=
  ⟨t.val * 256 + p.val, by have ht : t.val < 36 := t.isLt; have := p.isLt; omega⟩

theorem blk0 (t : Fin cfg0.N) (p : Fin 256) (d : Fin 2048) :
    iblk m c 0 t (ix2 p d) = m (c.tc.loc main_arg0) (ix2 (rowAt t p) d) := by
  unfold rowAt
  blk_ext [iblk, V, idx t]

theorem blk1 (t : Fin cfg0.N) (p : Fin 256) (d : Fin 2048) :
    iblk m c 1 t (ix2 p d) = m (c.tc.loc main_arg1) (ix2 (rowAt t p) d) := by
  unfold rowAt
  blk_ext [iblk, V, idx t]

theorem blk2 (t : Fin cfg0.N) (k : Fin 2048) (d : Fin 2048) :
    iblk m c 2 t (ix2 k d) = m (c.tc.loc main_arg2) (ix2 k d) := by
  blk_simp [iblk, idx t]
  entry_read
  pointwise
  blk_ext [idx t]

theorem blk3 (t : Fin cfg0.N) (d : Fin 2048) : iblk m c 3 t (ix2 0 d) = m (c.tc.loc main_arg3) (ix1 d) := by
  blk_simp [iblk, idx t]
  entry_read
  pointwise
  blk_ext [idx t]

theorem blk4 (t : Fin cfg0.N) (d : Fin 2048) (j : Fin 128) :
    iblk m c 4 t (ix2 d j) = m (c.tc.loc main_arg4) (ix2 d j) := by
  blk_ext [iblk, V, idx t]

theorem blk5 (t : Fin cfg0.N) (j : Fin 128) : iblk m c 5 t (ix2 0 j) = m (c.tc.loc main_arg5) (ix1 j) := by
  blk_simp [iblk, idx t]
  entry_read
  pointwise
  blk_ext [idx t]

section
variable (x : Vec Ideal S256x2048 .f32) (mg : Vec Ideal S256x2048 .bf16) (wo : Vec Ideal S2048x2048 .bf16) (g : Vec Ideal S1x2048 .f32)
  (wr : Vec Ideal S2048x128 .f32)

/-- The residual sum, entry by entry. -/
theorem pay2_at (p : Fin 256) (d : Fin 2048) :
    k0_pay2 x mg wo (ix2 p d) = residual (x (ix2 p d)) (fun k => mg (ix2 p k)) (fun k => wo (ix2 k d)) := by
  pointwise [k0_pay2]
  rfl

/-- The normalised rows, entry by entry. -/
theorem pay3_at (p : Fin 256) (d : Fin 2048) :
    k0_pay3 x mg wo g (ix2 p d) = normed (fun d => k0_pay2 x mg wo (ix2 p d)) (fun d => g (ix2 0 d)) d := by
  pointwise [k0_pay3]
  rfl

/-- The logits, entry by entry. -/
theorem pay4_at (b : Vec Ideal S1x128 .f32) (p : Fin 256) (j : Fin 128) :
    k0_pay1 (k0_pay4 x mg wo g wr) b (ix2 p j)
      = splitLogit (fun d => k0_pay3 x mg wo g (ix2 p d)) (fun d => wr (ix2 d j)) (b (ix2 0 j)) := by
  pointwise [k0_pay1, k0_pay4]
  rfl

end

/-- The residual sum, the norm and the logits, entry by entry. -/
abbrev sum1 (r : Fin 9216) (d : Fin 2048) : EReal :=
  residual (m (c.tc.loc main_arg1) (ix2 r d)) (fun k => m (c.tc.loc main_arg0) (ix2 r k)) (fun k => m (c.tc.loc main_arg2) (ix2 k d))
abbrev norm1 (r : Fin 9216) (d : Fin 2048) : EReal := normed (sum1 m c r) (fun d => m (c.tc.loc main_arg3) (ix1 d)) d
abbrev split1 (r : Fin 9216) (j : Fin 128) : EReal :=
  splitLogit (norm1 m c r) (fun d => m (c.tc.loc main_arg4) (ix2 d j)) (m (c.tc.loc main_arg5) (ix1 j))
abbrev logit1 (r : Fin 9216) (j : Fin 128) : EReal :=
  logit (norm1 m c r) (fun d => m (c.tc.loc main_arg4) (ix2 d j)) (m (c.tc.loc main_arg5) (ix1 j))

theorem sum_at (t : Fin cfg0.N) (p : Fin 256) (d : Fin 2048) :
    k0_pay2 (iblk m c 1 t) (iblk m c 0 t) (iblk m c 2 t) (ix2 p d) = sum1 m c (rowAt t p) d := by
  rw [pay2_at]
  simp only [blk0, blk1, blk2]

theorem norm_at (t : Fin cfg0.N) (p : Fin 256) (d : Fin 2048) :
    k0_pay3 (iblk m c 1 t) (iblk m c 0 t) (iblk m c 2 t) (iblk m c 3 t) (ix2 p d) = norm1 m c (rowAt t p) d := by
  rw [pay3_at]
  simp only [sum_at, blk3]

/-- What the body leaves at point `t`, in each result's block. -/
theorem out6_at (t : Fin cfg0.N) (p : Fin 256) (d : Fin 2048) :
    out0_6 (iblk m c 0 t) (iblk m c 1 t) (iblk m c 2 t) (iblk m c 3 t) (iblk m c 4 t) (iblk m c 5 t) (ix2 p d) = sum1 m c (rowAt t p) d := by
  have e : out0_6 (iblk m c 0 t) (iblk m c 1 t) (iblk m c 2 t) (iblk m c 3 t) (iblk m c 4 t) (iblk m c 5 t)
      = k0_pay2 (iblk m c 1 t) (iblk m c 0 t) (iblk m c 2 t) := by
    unfold out0_6
    frame_out
  rw [e, sum_at]

theorem out7_at (t : Fin cfg0.N) (p : Fin 256) (d : Fin 2048) :
    out0_7 (iblk m c 0 t) (iblk m c 1 t) (iblk m c 2 t) (iblk m c 3 t) (iblk m c 4 t) (iblk m c 5 t) (ix2 p d) = norm1 m c (rowAt t p) d := by
  have e : out0_7 (iblk m c 0 t) (iblk m c 1 t) (iblk m c 2 t) (iblk m c 3 t) (iblk m c 4 t) (iblk m c 5 t)
      = k0_pay3 (iblk m c 1 t) (iblk m c 0 t) (iblk m c 2 t) (iblk m c 3 t) := by
    unfold out0_7
    frame_out
  rw [e, norm_at]

theorem out8_at (t : Fin cfg0.N) (p : Fin 256) (j : Fin 128) :
    out0_8 (iblk m c 0 t) (iblk m c 1 t) (iblk m c 2 t) (iblk m c 3 t) (iblk m c 4 t) (iblk m c 5 t) (ix2 p j) = split1 m c (rowAt t p) j := by
  have e : out0_8 (iblk m c 0 t) (iblk m c 1 t) (iblk m c 2 t) (iblk m c 3 t) (iblk m c 4 t) (iblk m c 5 t)
      = k0_pay1 (k0_pay4 (iblk m c 1 t) (iblk m c 0 t) (iblk m c 2 t) (iblk m c 3 t) (iblk m c 4 t)) (iblk m c 5 t) := by
    unfold out0_8
    frame_out
  rw [e, pay4_at]
  simp only [norm_at, blk4, blk5]

/-- THE ARRAYS the call leaves: the residual sum, -/
theorem arr6_eq : (dats m 0 c).arrAt 6 cfg0.N = fun i : S9216x2048.Idx => sum1 m c (i 0) (i 1) := by
  refine (dats m 0 c).arrAt_eq_of_covers 6 _ (by decide +kernel) fun t hf y => ?_
  blk_simp
  rw [after0_6]
  have key : ∀ (p : Fin 256) (d : Fin 2048),
      out0_6 (iblk m c 0 t) (iblk m c 1 t) (iblk m c 2 t) (iblk m c 3 t) (iblk m c 4 t) (iblk m c 5 t) (ix2 p d)
        = sum1 m c ((win0_6.blk t).view.emb (ix2 p d) 0) ((win0_6.blk t).view.emb (ix2 p d) 1) := by
    intro p d
    rw [out6_at]
    have e0 : (win0_6.blk t).view.emb (ix2 p d) 0 = rowAt t p := by
      apply Fin.ext
      blk_simp [idx t]
      rfl
    have e1 : (win0_6.blk t).view.emb (ix2 p d) 1 = d := by
      apply Fin.ext
      blk_simp [idx t]
    rw [e0, e1]
  have hy : y = ix2 (y 0) (y 1) := eq_ix2 (n0 := 256) (n1 := 2048) y
  rw [hy]
  exact key _ _

/-- its norm, -/
theorem arr7_eq : (dats m 0 c).arrAt 7 cfg0.N = fun i : S9216x2048.Idx => norm1 m c (i 0) (i 1) := by
  refine (dats m 0 c).arrAt_eq_of_covers 7 _ (by decide +kernel) fun t hf y => ?_
  blk_simp
  rw [after0_7]
  have key : ∀ (p : Fin 256) (d : Fin 2048),
      out0_7 (iblk m c 0 t) (iblk m c 1 t) (iblk m c 2 t) (iblk m c 3 t) (iblk m c 4 t) (iblk m c 5 t) (ix2 p d)
        = norm1 m c ((win0_7.blk t).view.emb (ix2 p d) 0) ((win0_7.blk t).view.emb (ix2 p d) 1) := by
    intro p d
    rw [out7_at]
    have e0 : (win0_7.blk t).view.emb (ix2 p d) 0 = rowAt t p := by
      apply Fin.ext
      blk_simp [idx t]
      rfl
    have e1 : (win0_7.blk t).view.emb (ix2 p d) 1 = d := by
      apply Fin.ext
      blk_simp [idx t]
    rw [e0, e1]
  have hy : y = ix2 (y 0) (y 1) := eq_ix2 (n0 := 256) (n1 := 2048) y
  rw [hy]
  exact key _ _

/-- and the logits. -/
theorem arr8_eq : (dats m 0 c).arrAt 8 cfg0.N = fun i : S9216x128.Idx => split1 m c (i 0) (i 1) := by
  refine (dats m 0 c).arrAt_eq_of_covers 8 _ (by decide +kernel) fun t hf y => ?_
  blk_simp
  rw [after0_8]
  have key : ∀ (p : Fin 256) (j : Fin 128),
      out0_8 (iblk m c 0 t) (iblk m c 1 t) (iblk m c 2 t) (iblk m c 3 t) (iblk m c 4 t) (iblk m c 5 t) (ix2 p j)
        = split1 m c ((win0_8.blk t).view.emb (ix2 p j) 0) ((win0_8.blk t).view.emb (ix2 p j) 1) := by
    intro p j
    rw [out8_at]
    have e0 : (win0_8.blk t).view.emb (ix2 p j) 0 = rowAt t p := by
      apply Fin.ext
      blk_simp [idx t]
      rfl
    have e1 : (win0_8.blk t).view.emb (ix2 p j) 1 = j := by
      apply Fin.ext
      blk_simp [idx t]
    rw [e0, e1]
  have hy : y = ix2 (y 0) (y 1) := eq_ix2 (n0 := 256) (n1 := 128) y
  rw [hy]
  exact key _ _

end Cert.OutprojIdeal.Value

namespace Cert.OutprojReferenceIdeal.Whole

open Cert.OutprojReferenceIdeal Cert.OutprojReferenceIdeal.Gen Idealize.ShloMosaic.StableHlo

section
variable {F : FTy → Type} [FloatOps F]

/-- The residual sum. -/
def summed (mg : FVec F S9216x2048 .bf16) (x : FVec F S9216x2048 .f32) (wo : FVec F S2048x2048 .f32) : FVec F S9216x2048 .f32 :=
  addf x (Host.dotGeneral dot_S9216x2048_S2048x2048_S9216x2048_1_0_0_1_n_n none (extf .f32 mg bitsLt_bf16_f32) wo)

/-- One over the root mean square of every row. -/
def scale (x : FVec F S9216x2048 .f32) : FVec F S9216x1 .f32 :=
  Host.rsqrt (addf (Host.divf (broadcastInDim S9216x1 ![0] bcast_S9216_S9216x1_0 (Host.reduceAdd (mulf x x) (constant S_ .f32 0x00000000#32) reducesTo_S9216x2048_S9216_d1 h_S_)) (broadcastInDim S9216x1 ![] bcast_S_S9216x1 (constant S_ .f32 0x45000000#32))) (broadcastInDim S9216x1 ![] bcast_S_S9216x1 (constant S_ .f32 0x358637BD#32)))

/-- The normalised rows. -/
def rows (x : FVec F S9216x2048 .f32) (g : FVec F S2048 .f32) : FVec F S9216x2048 .f32 :=
  mulf (mulf x (broadcastInDim S9216x2048 ![0, 1] bcast_S9216x1_S9216x2048_0_1 (scale x))) (broadcastInDim S9216x2048 ![0, 1] bcast_S1x2048_S9216x2048_0_1 (broadcastInDim S1x2048 ![1] bcast_S2048_S1x2048_1 g))

/-- The logits. -/
def logits (h : FVec F S9216x2048 .f32) (wr : FVec F S2048x128 .f32) (b : FVec F S128 .f32) : FVec F S9216x128 .f32 :=
  addf (Host.dotGeneral dot_S9216x2048_S2048x128_S9216x128_1_0_0_1_n_n none h wr) (broadcastInDim S9216x128 ![0, 1] bcast_S1x128_S9216x128_0_1 (broadcastInDim S1x128 ![1] bcast_S128_S1x128_1 b))

end

theorem summed_at (mg : FVec Ideal S9216x2048 .bf16) (x : FVec Ideal S9216x2048 .f32) (wo : FVec Ideal S2048x2048 .f32)
    (r : Fin 9216) (d : Fin 2048) : summed mg x wo (ix2 r d) = residual (x (ix2 r d)) (fun k => mg (ix2 r k)) (fun k => wo (ix2 k d)) := by
  pointwise [summed]
  rfl

theorem scale_at (x : FVec Ideal S9216x2048 .f32) (r : Fin 9216) : scale x (ix2 r 0)
    = Ideal.rsqrt (Ideal.div (∑ k : Fin 2048, x (ix2 r k) * x (ix2 r k)) (Ideal.ofBits FTy.f32 0x45000000#32) + Ideal.ofBits FTy.f32 0x358637BD#32) := by
  pointwise [scale]

theorem rows_at (x : FVec Ideal S9216x2048 .f32) (g : FVec Ideal S2048 .f32) (r : Fin 9216) (d : Fin 2048) :
    rows x g (ix2 r d) = normed (fun d => x (ix2 r d)) (fun d => g (ix1 d)) d := by
  unfold normed
  rw [← scale_at]
  pointwise [rows]

theorem logits_at (h : FVec Ideal S9216x2048 .f32) (wr : FVec Ideal S2048x128 .f32) (b : FVec Ideal S128 .f32) (r : Fin 9216) (j : Fin 128) :
    logits h wr b (ix2 r j) = logit (fun d => h (ix2 r d)) (fun d => wr (ix2 d j)) (b (ix1 j)) := by
  pointwise [logits]
  rfl

/-- The reference's run: its results as functions of its arguments, which end unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v2)
        = summed (F := Ideal) (m (c.tc.loc main_arg0)) (m (c.tc.loc main_arg1)) (m (c.tc.loc main_arg2))
      ∧ r.2.mem ((c.tc : Thread nD τ).loc main_v15)
        = rows (F := Ideal) (summed (F := Ideal) (m (c.tc.loc main_arg0)) (m (c.tc.loc main_arg1)) (m (c.tc.loc main_arg2))) (m (c.tc.loc main_arg3))
      ∧ r.2.mem ((c.tc : Thread nD τ).loc main_v19)
        = logits (F := Ideal) (rows (F := Ideal) (summed (F := Ideal) (m (c.tc.loc main_arg0)) (m (c.tc.loc main_arg1)) (m (c.tc.loc main_arg2))) (m (c.tc.loc main_arg3)))
            (m (c.tc.loc main_arg4)) (m (c.tc.loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Cert.OutprojReferenceIdeal.Value.run (F := Ideal) m ρ

end Cert.OutprojReferenceIdeal.Whole

namespace Cert.OutprojClose

open Cert.OutprojReferenceIdeal.Whole Cert.OutprojIdeal.Value

instance : Subsingleton Cert.Pre_finite_out.S_.Idx := ⟨fun i j => funext fun a => a.elim0⟩

section
variable (m : (ℓ : Loc Cert.OutprojIdeal.nD Cert.OutprojIdeal.τ Cert.OutprojIdeal.sig) → Buf (Elt Ideal) ℓ) (c : Dev Cert.OutprojIdeal.nD)

/-- The precondition says that the gains and the router's matrix are real numbers. -/
theorem reals (h : Cert.Pre_OutprojIdeal (hPre_finite_out := Cert.Pre_finite_out.Gen.facts) m) :
    (∀ d : Fin 2048, ∃ a : ℝ, m (c.tc.loc Cert.OutprojIdeal.main_arg3) (ix1 d) = (a : EReal))
    ∧ ∀ (d : Fin 2048) (j : Fin 128), ∃ a : ℝ, m (c.tc.loc Cert.OutprojIdeal.main_arg4) (ix2 d j) = (a : EReal) := by
  have e := congrFun (h c) ix0
  have e1 := IntOp.andi_eq_one.1 e
  exact ⟨fun d => Cert.Finite.real_of_all _ _ (fun _ => rfl) _ _ _ _ e1.1 (ix1 d),
    fun d j => Cert.Finite.real_of_all _ _ (fun _ => rfl) _ _ _ _ e1.2 (ix2 d j)⟩

/-- Under the precondition the kernel's logits are the plain ones. -/
theorem logit_eq (h : Cert.Pre_OutprojIdeal (hPre_finite_out := Cert.Pre_finite_out.Gen.facts) m) (r : Fin 9216) (j : Fin 128) :
    split1 m c r j = logit1 m c r j := by
  obtain ⟨h3, h4⟩ := reals m c h
  exact splitLogit_eq _ _ _ (fun d => normed_real _ _ h3 d) (fun d => h4 d j)

/-- The reference's residual sum of the kernel's arguments. -/
theorem sum_eq : summed (F := Ideal) (m (c.tc.loc Cert.OutprojIdeal.main_arg0)) (m (c.tc.loc Cert.OutprojIdeal.main_arg1)) (m (c.tc.loc Cert.OutprojIdeal.main_arg2))
      = fun i : Cert.OutprojIdeal.S9216x2048.Idx => sum1 m c (i 0) (i 1) := by
  refine funext fun (i : Cert.OutprojIdeal.S9216x2048.Idx) => ?_
  have hi : i = ix2 (i 0) (i 1) := eq_ix2 (n0 := 9216) (n1 := 2048) i
  rw [hi]
  exact summed_at _ _ _ _ _

/-- Its norm. -/
theorem norm_eq : rows (F := Ideal) (summed (F := Ideal) (m (c.tc.loc Cert.OutprojIdeal.main_arg0)) (m (c.tc.loc Cert.OutprojIdeal.main_arg1)) (m (c.tc.loc Cert.OutprojIdeal.main_arg2))) (m (c.tc.loc Cert.OutprojIdeal.main_arg3))
      = fun i : Cert.OutprojIdeal.S9216x2048.Idx => norm1 m c (i 0) (i 1) := by
  rw [sum_eq]
  refine funext fun (i : Cert.OutprojIdeal.S9216x2048.Idx) => ?_
  have hi : i = ix2 (i 0) (i 1) := eq_ix2 (n0 := 9216) (n1 := 2048) i
  rw [hi]
  exact rows_at _ _ _ _

/-- Its logits. -/
theorem logits_eq (h : Cert.Pre_OutprojIdeal (hPre_finite_out := Cert.Pre_finite_out.Gen.facts) m) :
    logits (F := Ideal) (rows (F := Ideal) (summed (F := Ideal) (m (c.tc.loc Cert.OutprojIdeal.main_arg0)) (m (c.tc.loc Cert.OutprojIdeal.main_arg1)) (m (c.tc.loc Cert.OutprojIdeal.main_arg2))) (m (c.tc.loc Cert.OutprojIdeal.main_arg3)))
        (m (c.tc.loc Cert.OutprojIdeal.main_arg4)) (m (c.tc.loc Cert.OutprojIdeal.main_arg5))
      = fun i : Cert.OutprojIdeal.S9216x128.Idx => split1 m c (i 0) (i 1) := by
  rw [norm_eq]
  refine funext fun (i : Cert.OutprojIdeal.S9216x128.Idx) => ?_
  have hi : i = ix2 (i 0) (i 1) := eq_ix2 (n0 := 9216) (n1 := 128) i
  rw [hi]
  exact (logits_at _ _ _ _ _).trans (logit_eq m c h _ _).symm

end

attribute [local irreducible] summed rows logits

/-- THE CLAIM: under the precondition the idealized call and the reference leave the same three arrays. -/
theorem algebraic : Cert.algebraic_OutprojIdeal_OutprojReferenceIdeal (hOutprojIdeal := Cert.OutprojIdeal.Gen.facts)
    (hOutprojReferenceIdeal := Cert.OutprojReferenceIdeal.Gen.facts) (hPre_finite_out := Cert.Pre_finite_out.Gen.facts) := by
  intro m g m' g' hpre hagree
  refine ⟨fun c => fun i : Cert.OutprojIdeal.S9216x2048.Idx => sum1 m c (i 0) (i 1), fun c => fun i : Cert.OutprojIdeal.S9216x2048.Idx => norm1 m c (i 0) (i 1),
    fun c => fun i : Cert.OutprojIdeal.S9216x128.Idx => split1 m c (i 0) (i 1), ?_, ?_⟩
  · exact (θ_run Cert.OutprojIdeal.defs _ _).mono (fun r h c => ⟨(h c).1.trans (arr6_eq m c), (h c).2.1.trans (arr7_eq m c),
      (h c).2.2.1.trans (arr8_eq m c), (h c).2.2.2⟩) (run_blocks (F := Ideal) m g)
  · refine (θ_run Cert.OutprojReferenceIdeal.defs _ _).mono (fun r h c => ⟨(h c).1.trans ?_, (h c).2.1.trans ?_, (h c).2.2.1.trans ?_, (h c).2.2.2⟩)
      (Cert.OutprojReferenceIdeal.Whole.run m' g')
    all_goals
      have e := hagree c
      have a0 := e.1
      have a1 := e.2.1
      have a2 := e.2.2.1
      have a3 := e.2.2.2.1
      have a4 := e.2.2.2.2.1
      have a5 := e.2.2.2.2.2
    · rw [a0, a1, a2]; exact sum_eq m c
    · rw [a0, a1, a2, a3]; exact norm_eq m c
    · rw [a0, a1, a2, a3, a4, a5]; exact logits_eq m c hpre

end Cert.OutprojClose
end
-- ==== Proof.UvClose.lean ====
/-
  The sample's latent attention through the heads' output matrices, a head at a time. The kernel's array, the reference's, and
  the claim that they are one.
-/
module

public import proofs.«01_k».proof.Defs
public import proofs.«01_k».proof.Proof.Gen.UvIdeal.Value
public import proofs.«01_k».proof.Proof.Gen.UvReferenceIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.UvMath

/-- A row times a column. -/
def dot (a b : Fin 512 → EReal) : EReal := ∑ x, a x * b x

/-- The head of an output column, and its place in the head. -/
def headOf (n : Fin 1024) : Fin 8 := ⟨n.val / 128, by have := n.isLt; omega⟩
def inHead (n : Fin 1024) : Fin 128 := ⟨n.val % 128, by omega⟩

/-- Column `v` of head `h` is of head `h`, at place `v`. -/
theorem head_eq (h : Fin 8) (n : Fin 1024) (v : Fin 128) (e : n.val = h.val * 128 + v.val) : headOf n = h := by
  apply Fin.ext
  have := v.isLt
  show n.val / 128 = h.val
  omega
theorem place_eq (h : Fin 8) (n : Fin 1024) (v : Fin 128) (e : n.val = h.val * 128 + v.val) : inHead n = v := by
  apply Fin.ext
  have := v.isLt
  show n.val % 128 = v.val
  omega

end Cert.UvMath

open Cert.UvMath

namespace Cert.UvIdeal.Value

open Cert.UvIdeal Cert.UvIdeal.Gen

variable (m : (ℓ : Loc nD τ sig) → Buf (Elt Ideal) ℓ) (c : Dev nD)

theorem idx : ∀ t : Fin cfg0.N, win0_0.index t = ![0, 0, 0] ∧ win0_1.index t = ![0, 0, 0] ∧ win0_2.index t = ![0, 0] :=
  (by decide +kernel : ∀ t : Fin grid0.N, _)

theorem blk0 (t : Fin cfg0.N) (h : Fin 8) (n : Fin 1024) (x : Fin 512) :
    iblk m c 0 t (ix3 h n x) = m (c.tc.loc main_arg0) (ix3 h n x) := by
  blk_ext [iblk, V, idx t]

theorem blk1 (t : Fin cfg0.N) (h : Fin 8) (x : Fin 512) (v : Fin 128) :
    iblk m c 1 t (ix3 h x v) = m (c.tc.loc main_arg1) (ix3 x h v) := by
  blk_simp [iblk, idx t]
  entry_read
  pointwise
  blk_ext [idx t]

/-- What the body leaves, entry by entry: a column of head `h` is the head's rows times the head's matrix. -/
theorem out_at (o : Vec Ideal S8x1024x512 .bf16) (w : Vec Ideal S8x512x128 .bf16) (p : Fin 1024) (n : Fin 1024) :
    out0_2 o w (ix2 p n) = dot (fun x => o (ix3 (headOf n) p x)) (fun x => w (ix3 (headOf n) x (inHead n))) := by
  have hp := p.isLt
  have hn := n.isLt
  unfold out0_2
  canon_tiles x h
  all_goals
    idx_vars x
    have e0 : p = x0 := Fin.ext h0
    subst e0
    pointwise [k0_pay1, k0_pay2, k0_pay3, k0_pay4, k0_pay5, k0_pay6, k0_pay7, k0_pay8, k0_pay9]
    unfold dot
    refine Finset.sum_congr rfl fun x _ => ?_
  case piece0 => rw [head_eq 7 n x1 (by omega), place_eq 7 n x1 (by omega)]
  case piece1 => rw [head_eq 6 n x1 (by omega), place_eq 6 n x1 (by omega)]
  case piece2 => rw [head_eq 5 n x1 (by omega), place_eq 5 n x1 (by omega)]
  case piece3 => rw [head_eq 4 n x1 (by omega), place_eq 4 n x1 (by omega)]
  case piece4 => rw [head_eq 3 n x1 (by omega), place_eq 3 n x1 (by omega)]
  case piece5 => rw [head_eq 2 n x1 (by omega), place_eq 2 n x1 (by omega)]
  case piece6 => rw [head_eq 1 n x1 (by omega), place_eq 1 n x1 (by omega)]
  case piece7 => rw [head_eq 0 n x1 (by omega), place_eq 0 n x1 (by omega)]

/-- The result, entry by entry. -/
abbrev goal (r : Fin 1024) (n : Fin 1024) : EReal :=
  dot (fun x => m (c.tc.loc main_arg0) (ix3 (headOf n) r x)) (fun x => m (c.tc.loc main_arg1) (ix3 x (headOf n) (inHead n)))

/-- THE ARRAY the call leaves. -/
theorem arr_eq : (dats m 0 c).arrAt 2 cfg0.N = fun i : S1024x1024.Idx => goal m c (i 0) (i 1) := by
  refine (dats m 0 c).arrAt_eq_of_covers 2 _ (by decide +kernel) fun t hf y => ?_
  blk_simp
  rw [after0_2]
  have key : ∀ (p : Fin 1024) (n : Fin 1024), out0_2 (iblk m c 0 t) (iblk m c 1 t) (ix2 p n)
        = goal m c ((win0_2.blk t).view.emb (ix2 p n) 0) ((win0_2.blk t).view.emb (ix2 p n) 1) := by
    intro p n
    rw [out_at]
    have e0 : (win0_2.blk t).view.emb (ix2 p n) 0 = p := by
      apply Fin.ext
      blk_simp [idx t]
    have e1 : (win0_2.blk t).view.emb (ix2 p n) 1 = n := by
      apply Fin.ext
      blk_simp [idx t]
    rw [e0, e1]
    simp only [blk0, blk1]
  have hy : y = ix2 (y 0) (y 1) := eq_ix2 (n0 := 1024) (n1 := 1024) y
  rw [hy]
  exact key _ _

end Cert.UvIdeal.Value

namespace Cert.UvReferenceIdeal.Whole

open Cert.UvReferenceIdeal Cert.UvReferenceIdeal.Gen Idealize.ShloMosaic.StableHlo

section
variable {F : FTy → Type} [FloatOps F]

/-- The reference's result as a function of its arguments. -/
def result (o : FVec F S8x1024x512 .bf16) (w : FVec F S512x8x128 .f32) : FVec F S1024x1024 .bf16 :=
  truncf .bf16 (shapeCast _ (transpose S1024x8x128 [2, 0, 1] (Host.dotGeneral dot_S512x8x128_S8x1024x512_S8x128x1024_0_2_2_1_1_0 none w (extf .f32 o bitsLt_bf16_f32)) transposes_S8x128x1024_S1024x8x128_2_0_1) shapeCasts_S1024x8x128_S1024x1024) bitsLt_bf16_f32

end

/-- THE REFERENCE'S RESULT, entry by entry. -/
theorem result_at (o : FVec Ideal S8x1024x512 .bf16) (w : FVec Ideal S512x8x128 .f32) (r : Fin 1024) (n : Fin 1024) :
    result o w (ix2 r n) = dot (fun x => o (ix3 (headOf n) r x)) (fun x => w (ix3 x (headOf n) (inHead n))) := by
  have hr := r.isLt
  have hn := n.isLt
  pointwise [result]
  exact Finset.sum_congr rfl fun x _ => EReal.mul_comm _ _

/-- The reference's run: its result as a function of its arguments, which end unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v4) = result (F := Ideal) (m (c.tc.loc main_arg0)) (m (c.tc.loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Cert.UvReferenceIdeal.Value.run (F := Ideal) m ρ

end Cert.UvReferenceIdeal.Whole

namespace Cert.UvClose

/-- The reference's result of the kernel's arguments is the array the kernel leaves. -/
theorem result_eq (m : (ℓ : Loc Cert.UvIdeal.nD Cert.UvIdeal.τ Cert.UvIdeal.sig) → Buf (Elt Ideal) ℓ) (c : Dev Cert.UvIdeal.nD) :
    Cert.UvReferenceIdeal.Whole.result (F := Ideal) (m (c.tc.loc Cert.UvIdeal.main_arg0)) (m (c.tc.loc Cert.UvIdeal.main_arg1))
      = fun i : Cert.UvIdeal.S1024x1024.Idx => Cert.UvIdeal.Value.goal m c (i 0) (i 1) := by
  refine funext fun (i : Cert.UvIdeal.S1024x1024.Idx) => ?_
  have hi : i = ix2 (i 0) (i 1) := eq_ix2 (n0 := 1024) (n1 := 1024) i
  rw [hi]
  exact Cert.UvReferenceIdeal.Whole.result_at _ _ _ _

attribute [local irreducible] Cert.UvReferenceIdeal.Whole.result

/-- THE CLAIM: the idealized call and the reference leave the same result array. -/
theorem algebraic : Cert.algebraic_UvIdeal_UvReferenceIdeal (hUvIdeal := Cert.UvIdeal.Gen.facts)
    (hUvReferenceIdeal := Cert.UvReferenceIdeal.Gen.facts) := by
  intro m g m' g' _ hagree
  refine ⟨fun c => fun i : Cert.UvIdeal.S1024x1024.Idx => Cert.UvIdeal.Value.goal m c (i 0) (i 1), ?_, ?_⟩
  · exact (θ_run Cert.UvIdeal.defs _ _).mono (fun r h c => ⟨(h c).1.trans (Cert.UvIdeal.Value.arr_eq m c), (h c).2⟩)
      (Cert.UvIdeal.Value.run_blocks (F := Ideal) m g)
  · refine (θ_run Cert.UvReferenceIdeal.defs _ _).mono (fun r h c => ⟨(h c).1.trans ?_, (h c).2⟩) (Cert.UvReferenceIdeal.Whole.run m' g')
    have e := hagree c
    rw [e.1, e.2]
    exact result_eq m c

end Cert.UvClose
end
-- ==== Proof.FinalClose.lean ====
/-
  The last norm: the residual row plus the two experts' rows, over its root mean square. The kernel's array, the reference's,
  and the claim that they are one.
-/
module

public import proofs.«01_k».proof.Defs
public import proofs.«01_k».proof.Proof.RowNorm
public import proofs.«01_k».proof.Proof.Gen.FinalIdeal.Value
public import proofs.«01_k».proof.Proof.Gen.FinalReferenceIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem Cert.RowNorm

namespace Cert.FinalMath

/-- The residual row plus the two experts' rows. -/
def added (x y z : Fin 2048 → EReal) (d : Fin 2048) : EReal := x d + (y d + z d)

end Cert.FinalMath

open Cert.FinalMath

namespace Cert.FinalIdeal.Value

open Cert.FinalIdeal Cert.FinalIdeal.Gen

variable (m : (ℓ : Loc nD τ sig) → Buf (Elt Ideal) ℓ) (c : Dev nD)

/-- The blocks each point reads and writes: row block `t`. -/
theorem idx : ∀ t : Fin cfg0.N, win0_0.index t = ![t.val, 0] ∧ win0_1.index t = ![t.val, 0]
    ∧ win0_2.index t = ![t.val, 0] ∧ win0_3.index t = ![0, 0] ∧ win0_4.index t = ![t.val, 0] :=
  (by decide +kernel : ∀ t : Fin grid0.N, _)

/-- Row `p` of point `t`'s blocks. -/
def rowAt (t : Fin cfg0.N) (p : Fin 512) : Fin 9216 :=
  ⟨t.val * 512 + p.val, by have ht : t.val < 18 := t.isLt; have := p.isLt; omega⟩

theorem blk0 (t : Fin cfg0.N) (p : Fin 512) (d : Fin 2048) :
    iblk m c 0 t (ix2 p d) = m (c.tc.loc main_arg0) (ix2 (rowAt t p) d) := by
  unfold rowAt
  blk_ext [iblk, V, idx t]

theorem blk1 (t : Fin cfg0.N) (p : Fin 512) (d : Fin 2048) :
    iblk m c 1 t (ix2 p d) = m (c.tc.loc main_arg1) (ix2 (rowAt t p) d) := by
  unfold rowAt
  blk_ext [iblk, V, idx t]

theorem blk2 (t : Fin cfg0.N) (p : Fin 512) (d : Fin 2048) :
    iblk m c 2 t (ix2 p d) = m (c.tc.loc main_arg2) (ix2 (rowAt t p) d) := by
  unfold rowAt
  blk_ext [iblk, V, idx t]

theorem blk3 (t : Fin cfg0.N) (d : Fin 2048) : iblk m c 3 t (ix2 0 d) = m (c.tc.loc main_arg3) (ix1 d) := by
  blk_simp [iblk, idx t]
  entry_read
  pointwise
  blk_ext [idx t]

/-- What the body computes of its blocks, entry by entry. -/
theorem pay_at (x y z : Vec Ideal S512x2048 .f32) (g : Vec Ideal S1x2048 .f32) (p : Fin 512) (d : Fin 2048) :
    k0_pay1 x y z g (ix2 p d) = normed (added (fun d => x (ix2 p d)) (fun d => y (ix2 p d)) (fun d => z (ix2 p d))) (fun d => g (ix2 0 d)) d := by
  pointwise [k0_pay1]
  rfl

/-- The result, entry by entry. -/
abbrev goal (r : Fin 9216) (d : Fin 2048) : EReal :=
  normed (added (fun d => m (c.tc.loc main_arg0) (ix2 r d)) (fun d => m (c.tc.loc main_arg1) (ix2 r d)) (fun d => m (c.tc.loc main_arg2) (ix2 r d)))
    (fun d => m (c.tc.loc main_arg3) (ix1 d)) d

/-- What the body leaves at point `t`. -/
theorem out_at (t : Fin cfg0.N) (p : Fin 512) (d : Fin 2048) :
    out0_4 (iblk m c 0 t) (iblk m c 1 t) (iblk m c 2 t) (iblk m c 3 t) (ix2 p d) = goal m c (rowAt t p) d := by
  have e : out0_4 (iblk m c 0 t) (iblk m c 1 t) (iblk m c 2 t) (iblk m c 3 t)
      = k0_pay1 (iblk m c 0 t) (iblk m c 1 t) (iblk m c 2 t) (iblk m c 3 t) := by
    unfold out0_4
    frame_out
  rw [e, pay_at]
  unfold goal
  simp only [blk0, blk1, blk2, blk3]

/-- THE ARRAY the call leaves. -/
theorem arr_eq : (dats m 0 c).arrAt 4 cfg0.N = fun i : S9216x2048.Idx => goal m c (i 0) (i 1) := by
  refine (dats m 0 c).arrAt_eq_of_covers 4 _ (by decide +kernel) fun t hf y => ?_
  blk_simp
  rw [after0_4]
  have key : ∀ (p : Fin 512) (d : Fin 2048), out0_4 (iblk m c 0 t) (iblk m c 1 t) (iblk m c 2 t) (iblk m c 3 t) (ix2 p d)
        = goal m c ((win0_4.blk t).view.emb (ix2 p d) 0) ((win0_4.blk t).view.emb (ix2 p d) 1) := by
    intro p d
    rw [out_at]
    have e0 : (win0_4.blk t).view.emb (ix2 p d) 0 = rowAt t p := by
      apply Fin.ext
      blk_simp [idx t]
      rfl
    have e1 : (win0_4.blk t).view.emb (ix2 p d) 1 = d := by
      apply Fin.ext
      blk_simp [idx t]
    rw [e0, e1]
  have hy : y = ix2 (y 0) (y 1) := eq_ix2 (n0 := 512) (n1 := 2048) y
  rw [hy]
  exact key _ _

end Cert.FinalIdeal.Value

namespace Cert.FinalReferenceIdeal.Whole

open Cert.FinalReferenceIdeal Cert.FinalReferenceIdeal.Gen Idealize.ShloMosaic.StableHlo

section
variable {F : FTy → Type} [FloatOps F]

/-- One over the root mean square of every row. -/
def scale (x : FVec F S9216x2048 .f32) : FVec F S9216x1 .f32 :=
  Host.rsqrt (addf (Host.divf (broadcastInDim S9216x1 ![0] bcast_S9216_S9216x1_0 (Host.reduceAdd (mulf x x) (constant S_ .f32 0x00000000#32) reducesTo_S9216x2048_S9216_d1 h_S_)) (broadcastInDim S9216x1 ![] bcast_S_S9216x1 (constant S_ .f32 0x45000000#32))) (broadcastInDim S9216x1 ![] bcast_S_S9216x1 (constant S_ .f32 0x358637BD#32)))

/-- The normalised rows. -/
def rows (x : FVec F S9216x2048 .f32) (g : FVec F S2048 .f32) : FVec F S9216x2048 .f32 :=
  mulf (mulf x (broadcastInDim S9216x2048 ![0, 1] bcast_S9216x1_S9216x2048_0_1 (scale x))) (broadcastInDim S9216x2048 ![0, 1] bcast_S1x2048_S9216x2048_0_1 (broadcastInDim S1x2048 ![1] bcast_S2048_S1x2048_1 g))

/-- The reference's result as a function of its arguments. -/
def result (x y z : FVec F S9216x2048 .f32) (g : FVec F S2048 .f32) : FVec F S9216x2048 .f32 := rows (addf x (addf y z)) g

end

theorem scale_at (x : FVec Ideal S9216x2048 .f32) (r : Fin 9216) : scale x (ix2 r 0)
    = Ideal.rsqrt (Ideal.div (∑ k : Fin 2048, x (ix2 r k) * x (ix2 r k)) (Ideal.ofBits FTy.f32 0x45000000#32) + Ideal.ofBits FTy.f32 0x358637BD#32) := by
  pointwise [scale]

theorem rows_at (x : FVec Ideal S9216x2048 .f32) (g : FVec Ideal S2048 .f32) (r : Fin 9216) (d : Fin 2048) :
    rows x g (ix2 r d) = normed (fun d => x (ix2 r d)) (fun d => g (ix1 d)) d := by
  unfold normed
  rw [← scale_at]
  pointwise [rows]

/-- THE REFERENCE'S RESULT, entry by entry. -/
theorem result_at (x y z : FVec Ideal S9216x2048 .f32) (g : FVec Ideal S2048 .f32) (r : Fin 9216) (d : Fin 2048) : result x y z g (ix2 r d)
    = normed (added (fun d => x (ix2 r d)) (fun d => y (ix2 r d)) (fun d => z (ix2 r d))) (fun d => g (ix1 d)) d :=
  rows_at _ _ _ _

/-- The reference's run: its result as a function of its arguments, which end unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v14)
        = result (F := Ideal) (m (c.tc.loc main_arg0)) (m (c.tc.loc main_arg1)) (m (c.tc.loc main_arg2)) (m (c.tc.loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Cert.FinalReferenceIdeal.Value.run (F := Ideal) m ρ

end Cert.FinalReferenceIdeal.Whole

namespace Cert.FinalClose

/-- The reference's result of the kernel's arguments is the array the kernel leaves. -/
theorem result_eq (m : (ℓ : Loc Cert.FinalIdeal.nD Cert.FinalIdeal.τ Cert.FinalIdeal.sig) → Buf (Elt Ideal) ℓ) (c : Dev Cert.FinalIdeal.nD) :
    Cert.FinalReferenceIdeal.Whole.result (F := Ideal) (m (c.tc.loc Cert.FinalIdeal.main_arg0)) (m (c.tc.loc Cert.FinalIdeal.main_arg1))
        (m (c.tc.loc Cert.FinalIdeal.main_arg2)) (m (c.tc.loc Cert.FinalIdeal.main_arg3))
      = fun i : Cert.FinalIdeal.S9216x2048.Idx => Cert.FinalIdeal.Value.goal m c (i 0) (i 1) := by
  refine funext fun (i : Cert.FinalIdeal.S9216x2048.Idx) => ?_
  have hi : i = ix2 (i 0) (i 1) := eq_ix2 (n0 := 9216) (n1 := 2048) i
  rw [hi]
  exact Cert.FinalReferenceIdeal.Whole.result_at _ _ _ _ _ _

attribute [local irreducible] Cert.FinalReferenceIdeal.Whole.result

/-- THE CLAIM: the idealized call and the reference leave the same result array. -/
theorem algebraic : Cert.algebraic_FinalIdeal_FinalReferenceIdeal (hFinalIdeal := Cert.FinalIdeal.Gen.facts)
    (hFinalReferenceIdeal := Cert.FinalReferenceIdeal.Gen.facts) := by
  intro m g m' g' _ hagree
  refine ⟨fun c => fun i : Cert.FinalIdeal.S9216x2048.Idx => Cert.FinalIdeal.Value.goal m c (i 0) (i 1), ?_, ?_⟩
  · exact (θ_run Cert.FinalIdeal.defs _ _).mono (fun r h c => ⟨(h c).1.trans (Cert.FinalIdeal.Value.arr_eq m c), (h c).2⟩)
      (Cert.FinalIdeal.Value.run_blocks (F := Ideal) m g)
  · refine (θ_run Cert.FinalReferenceIdeal.defs _ _).mono (fun r h c => ⟨(h c).1.trans ?_, (h c).2⟩) (Cert.FinalReferenceIdeal.Whole.run m' g')
    have e := hagree c
    rw [e.1, e.2.1, e.2.2.1, e.2.2.2]
    exact result_eq m c

end Cert.FinalClose
end
-- ==== Proof.lean ====
module

public import proofs.«01_k».proof.Defs
public import proofs.«01_k».proof.Proof.Gen.SbPrompt
public import proofs.«01_k».proof.Proof.Gen.SbPrompt.Skeleton
public import proofs.«01_k».proof.Proof.Gen.SbPrompt.Launch
public import proofs.«01_k».proof.Proof.Gen.SbPrompt.Points
public import proofs.«01_k».proof.Proof.Gen.SbPrompt.Frame
public import proofs.«01_k».proof.Proof.Gen.SbPromptIdeal
public import proofs.«01_k».proof.Proof.Gen.SbPromptIdeal.Skeleton
public import proofs.«01_k».proof.Proof.Gen.SbPromptIdeal.Launch
public import proofs.«01_k».proof.Proof.Gen.SbPromptIdeal.Points
public import proofs.«01_k».proof.Proof.Gen.SbPromptIdeal.Frame
public import proofs.«01_k».proof.Proof.Gen.SbReferenceIdeal
public import proofs.«01_k».proof.Proof.Gen.MlaPrompt
public import proofs.«01_k».proof.Proof.Gen.MlaPrompt.Skeleton
public import proofs.«01_k».proof.Proof.Gen.MlaPrompt.Launch
public import proofs.«01_k».proof.Proof.Gen.MlaPrompt.Points
public import proofs.«01_k».proof.Proof.Gen.MlaPrompt.Frame
public import proofs.«01_k».proof.Proof.Gen.MlaPromptIdeal
public import proofs.«01_k».proof.Proof.Gen.MlaPromptIdeal.Skeleton
public import proofs.«01_k».proof.Proof.Gen.MlaPromptIdeal.Launch
public import proofs.«01_k».proof.Proof.Gen.MlaPromptIdeal.Points
public import proofs.«01_k».proof.Proof.Gen.MlaPromptIdeal.Frame
public import proofs.«01_k».proof.Proof.Gen.MlaReferenceIdeal
public import proofs.«01_k».proof.Proof.Gen.Moe
public import proofs.«01_k».proof.Proof.Gen.Moe.Skeleton
public import proofs.«01_k».proof.Proof.Gen.Moe.Launch
public import proofs.«01_k».proof.Proof.Gen.MoeIdeal
public import proofs.«01_k».proof.Proof.Gen.MoeIdeal.Skeleton
public import proofs.«01_k».proof.Proof.Gen.MoeIdeal.Launch
public import proofs.«01_k».proof.Proof.Gen.MoeReferenceIdeal
public import proofs.«01_k».proof.Proof.Gen.MoeReferenceIdeal.Run
public import proofs.«01_k».proof.Proof.Gen.Pre_experts_in_range
public import proofs.«01_k».proof.Proof.Gen.Pre_finite_qk
public import proofs.«01_k».proof.Proof.Gen.Pre_finite_mla
public import proofs.«01_k».proof.Proof.Gen.MlaPromptIdeal.Value
public import proofs.«01_k».proof.Proof.Gen.SbPromptIdeal.Value
public import proofs.«01_k».proof.Proof.Gen.MlaReferenceIdeal.Run
public import proofs.«01_k».proof.Proof.Gen.SbReferenceIdeal.Run
public import proofs.«01_k».proof.Proof.MlaClose
public import proofs.«01_k».proof.Proof.SbClose
public import proofs.«01_k».proof.Proof.MoeClose
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojIdeal.Value
public import proofs.«01_k».proof.Proof.Gen.InprojReferenceIdeal
public import proofs.«01_k».proof.Proof.Gen.InprojReferenceIdeal.Run
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeReferenceIdeal
public import proofs.«01_k».proof.Proof.Gen.MergeReferenceIdeal.Run
public import proofs.«01_k».proof.Proof.InprojClose
public import proofs.«01_k».proof.Proof.MergeClose
public import proofs.«01_k».proof.Proof.Gen.Outproj
public import proofs.«01_k».proof.Proof.Gen.Outproj.Skeleton
public import proofs.«01_k».proof.Proof.Gen.Outproj.Launch
public import proofs.«01_k».proof.Proof.Gen.Outproj.Points
public import proofs.«01_k».proof.Proof.Gen.Outproj.Frame
public import proofs.«01_k».proof.Proof.Gen.OutprojIdeal
public import proofs.«01_k».proof.Proof.Gen.OutprojIdeal.Skeleton
public import proofs.«01_k».proof.Proof.Gen.OutprojIdeal.Launch
public import proofs.«01_k».proof.Proof.Gen.OutprojIdeal.Points
public import proofs.«01_k».proof.Proof.Gen.OutprojIdeal.Frame
public import proofs.«01_k».proof.Proof.Gen.OutprojIdeal.Value
public import proofs.«01_k».proof.Proof.Gen.OutprojReferenceIdeal
public import proofs.«01_k».proof.Proof.Gen.OutprojReferenceIdeal.Run
public import proofs.«01_k».proof.Proof.Gen.Uv
public import proofs.«01_k».proof.Proof.Gen.Uv.Skeleton
public import proofs.«01_k».proof.Proof.Gen.Uv.Launch
public import proofs.«01_k».proof.Proof.Gen.Uv.Points
public import proofs.«01_k».proof.Proof.Gen.Uv.Frame
public import proofs.«01_k».proof.Proof.Gen.UvIdeal
public import proofs.«01_k».proof.Proof.Gen.UvIdeal.Skeleton
public import proofs.«01_k».proof.Proof.Gen.UvIdeal.Launch
public import proofs.«01_k».proof.Proof.Gen.UvIdeal.Points
public import proofs.«01_k».proof.Proof.Gen.UvIdeal.Frame
public import proofs.«01_k».proof.Proof.Gen.UvIdeal.Value
public import proofs.«01_k».proof.Proof.Gen.UvReferenceIdeal
public import proofs.«01_k».proof.Proof.Gen.UvReferenceIdeal.Run
public import proofs.«01_k».proof.Proof.Gen.Final
public import proofs.«01_k».proof.Proof.Gen.Final.Skeleton
public import proofs.«01_k».proof.Proof.Gen.Final.Launch
public import proofs.«01_k».proof.Proof.Gen.Final.Points
public import proofs.«01_k».proof.Proof.Gen.Final.Frame
public import proofs.«01_k».proof.Proof.Gen.FinalIdeal
public import proofs.«01_k».proof.Proof.Gen.FinalIdeal.Skeleton
public import proofs.«01_k».proof.Proof.Gen.FinalIdeal.Launch
public import proofs.«01_k».proof.Proof.Gen.FinalIdeal.Points
public import proofs.«01_k».proof.Proof.Gen.FinalIdeal.Frame
public import proofs.«01_k».proof.Proof.Gen.FinalIdeal.Value
public import proofs.«01_k».proof.Proof.Gen.FinalReferenceIdeal
public import proofs.«01_k».proof.Proof.Gen.FinalReferenceIdeal.Run
public import proofs.«01_k».proof.Proof.Gen.Pre_finite_out
public import proofs.«01_k».proof.Proof.OutprojClose
public import proofs.«01_k».proof.Proof.UvClose
public import proofs.«01_k».proof.Proof.FinalClose
public import Idealize.ShloMosaic.Adequacy
public import Idealize.ShloMosaic.Init

@[expose] public section

noncomputable section

namespace Cert.Proof

open Idealize.ShloMosaic Idealize.SL.Sem Cert.SbPrompt

/-- The frame of the stick-breaking attention's reference: it leaves its arguments as they were and has no semaphore. -/
theorem frame_sbReference : Cert.quiescent_SbReferenceIdeal (hSbReferenceIdeal := Cert.SbReferenceIdeal.Gen.facts)
    (hPre_finite_qk := Cert.Pre_finite_qk.Gen.facts) := fun m ρ _ =>
  (θ_run Cert.SbReferenceIdeal.defs _ _).mono (fun r h => ⟨fun c => (h c).2, sem_eq_zero_of_no_sems (by decide) r.2⟩)
    (Cert.SbReferenceIdeal.Value.run (F := Ideal) m ρ)

/-- The frame of the latent attention's reference: it leaves its arguments as they were and has no semaphore. -/
theorem frame_mlaReference : Cert.quiescent_MlaReferenceIdeal (hMlaReferenceIdeal := Cert.MlaReferenceIdeal.Gen.facts)
    (hPre_finite_mla := Cert.Pre_finite_mla.Gen.facts) := fun m ρ _ =>
  (θ_run Cert.MlaReferenceIdeal.defs _ _).mono (fun r h => ⟨fun c => (h c).2, sem_eq_zero_of_no_sems (by decide) r.2⟩)
    (Cert.MlaReferenceIdeal.Value.run (F := Ideal) m ρ)

/-- The frame of the experts' reference: it leaves its arguments as they were and has no semaphore. -/
theorem frame_moeReference : Cert.quiescent_MoeReferenceIdeal (hMoeReferenceIdeal := Cert.MoeReferenceIdeal.Gen.facts)
    (hPre_experts_in_range := Cert.Pre_experts_in_range.Gen.facts) := fun m ρ _ =>
  (θ_run Cert.MoeReferenceIdeal.defs _ _).mono (fun r h => ⟨fun c => (h c).2, sem_eq_zero_of_no_sems (by decide) r.2⟩)
    (Cert.MoeReferenceIdeal.Value.run (F := Ideal) m ρ)

/-- The frame of the input projection's reference: it leaves its arguments as they were and has no semaphore. -/
theorem frame_inprojReference : Cert.quiescent_InprojReferenceIdeal (hInprojReferenceIdeal := Cert.InprojReferenceIdeal.Gen.facts) := fun m ρ _ =>
  (θ_run Cert.InprojReferenceIdeal.defs _ _).mono (fun r h => ⟨fun c => (h c).2, sem_eq_zero_of_no_sems (by decide) r.2⟩)
    (Cert.InprojReferenceIdeal.Value.run (F := Ideal) m ρ)

/-- The frame of the merge's reference: it leaves its arguments as they were and has no semaphore. -/
theorem frame_mergeReference : Cert.quiescent_MergeReferenceIdeal (hMergeReferenceIdeal := Cert.MergeReferenceIdeal.Gen.facts) := fun m ρ _ =>
  (θ_run Cert.MergeReferenceIdeal.defs _ _).mono (fun r h => ⟨fun c => (h c).2, sem_eq_zero_of_no_sems (by decide) r.2⟩)
    (Cert.MergeReferenceIdeal.Value.run (F := Ideal) m ρ)

/-- The frame of the output projection's reference: it leaves its arguments as they were and has no semaphore. -/
theorem frame_outprojReference : Cert.quiescent_OutprojReferenceIdeal (hOutprojReferenceIdeal := Cert.OutprojReferenceIdeal.Gen.facts)
    (hPre_finite_out := Cert.Pre_finite_out.Gen.facts) := fun m ρ _ =>
  (θ_run Cert.OutprojReferenceIdeal.defs _ _).mono (fun r h => ⟨fun c => (h c).2.2.2, sem_eq_zero_of_no_sems (by decide) r.2⟩)
    (Cert.OutprojReferenceIdeal.Value.run (F := Ideal) m ρ)

/-- The frame of the sample's output matrices' reference: it leaves its arguments as they were and has no semaphore. -/
theorem frame_uvReference : Cert.quiescent_UvReferenceIdeal (hUvReferenceIdeal := Cert.UvReferenceIdeal.Gen.facts) := fun m ρ _ =>
  (θ_run Cert.UvReferenceIdeal.defs _ _).mono (fun r h => ⟨fun c => (h c).2, sem_eq_zero_of_no_sems (by decide) r.2⟩)
    (Cert.UvReferenceIdeal.Value.run (F := Ideal) m ρ)

/-- The frame of the final norm's reference: it leaves its arguments as they were and has no semaphore. -/
theorem frame_finalReference : Cert.quiescent_FinalReferenceIdeal (hFinalReferenceIdeal := Cert.FinalReferenceIdeal.Gen.facts) := fun m ρ _ =>
  (θ_run Cert.FinalReferenceIdeal.defs _ _).mono (fun r h => ⟨fun c => (h c).2, sem_eq_zero_of_no_sems (by decide) r.2⟩)
    (Cert.FinalReferenceIdeal.Value.run (F := Ideal) m ρ)

/-- Every claim, in the order in which the certificate states them. -/
theorem claim : Cert.Claim := ⟨Cert.SbPrompt.Gen.facts, Cert.SbPromptIdeal.Gen.facts, Cert.SbReferenceIdeal.Gen.facts, Cert.MlaPrompt.Gen.facts, Cert.MlaPromptIdeal.Gen.facts, Cert.MlaReferenceIdeal.Gen.facts, Cert.Moe.Gen.facts, Cert.MoeIdeal.Gen.facts, Cert.MoeReferenceIdeal.Gen.facts,
  Cert.Inproj.Gen.facts, Cert.InprojIdeal.Gen.facts, Cert.InprojReferenceIdeal.Gen.facts, Cert.Merge.Gen.facts, Cert.MergeIdeal.Gen.facts, Cert.MergeReferenceIdeal.Gen.facts,
  Cert.Outproj.Gen.facts, Cert.OutprojIdeal.Gen.facts, Cert.OutprojReferenceIdeal.Gen.facts, Cert.Uv.Gen.facts, Cert.UvIdeal.Gen.facts, Cert.UvReferenceIdeal.Gen.facts, Cert.Final.Gen.facts, Cert.FinalIdeal.Gen.facts, Cert.FinalReferenceIdeal.Gen.facts,
  Cert.Pre_finite_qk.Gen.facts, Cert.Pre_finite_mla.Gen.facts, Cert.Pre_experts_in_range.Gen.facts, Cert.Pre_finite_out.Gen.facts,
  fun m ρ _ => Cert.SbPrompt.Gen.frame m ρ,
  fun m ρ _ => Cert.SbPromptIdeal.Gen.frame m ρ,
  fun m ρ _ => Cert.SbPromptIdeal.Gen.frame m ρ,
  frame_sbReference,
  fun m ρ _ => Cert.MlaPrompt.Gen.frame m ρ,
  fun m ρ _ => Cert.MlaPromptIdeal.Gen.frame m ρ,
  fun m ρ _ => Cert.MlaPromptIdeal.Gen.frame m ρ,
  frame_mlaReference,
  Cert.MoeClose.frame, Cert.MoeClose.frame_ideal, frame_moeReference,
  fun m ρ _ => Cert.Inproj.Gen.frame m ρ,
  fun m ρ _ => Cert.InprojIdeal.Gen.frame m ρ,
  frame_inprojReference,
  fun m ρ _ => Cert.Merge.Gen.frame m ρ,
  fun m ρ _ => Cert.MergeIdeal.Gen.frame m ρ,
  frame_mergeReference,
  fun m ρ _ => Cert.Outproj.Gen.frame m ρ,
  fun m ρ _ => Cert.OutprojIdeal.Gen.frame m ρ,
  fun m ρ _ => Cert.OutprojIdeal.Gen.frame m ρ,
  frame_outprojReference,
  fun m ρ _ => Cert.Uv.Gen.frame m ρ,
  fun m ρ _ => Cert.UvIdeal.Gen.frame m ρ,
  frame_uvReference,
  fun m ρ _ => Cert.Final.Gen.frame m ρ,
  fun m ρ _ => Cert.FinalIdeal.Gen.frame m ρ,
  frame_finalReference,
  trivial, Cert.SbClose.algebraic, trivial, Cert.MlaClose.algebraic, trivial, Cert.MoeClose.algebraic,
  trivial, Cert.InprojClose.algebraic, trivial, Cert.MergeClose.algebraic,
  trivial, Cert.OutprojClose.algebraic, trivial, Cert.UvClose.algebraic, trivial, Cert.FinalClose.algebraic⟩

end Cert.Proof

end
